-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  IdealRules.named_const.Statement Cert.KernelIdeal.κ "qs" .f32 0x3E8293EE#32 (((Real.sqrt 32)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v31) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)) (v5 : (c : Dev Cert.Kernel3Ideal.nD) → Buf (Elt Ideal) ((c.tc : Thread Cert.Kernel3Ideal.nD Cert.Kernel3Ideal.τ).loc Cert.Kernel3Ideal.main_v0_5)) (v6 : (c : Dev Cert.Kernel3Ideal.nD) → Buf (Elt Ideal) ((c.tc : Thread Cert.Kernel3Ideal.nD Cert.Kernel3Ideal.τ).loc Cert.Kernel3Ideal.main_v0_6)) (v7 : (c : Dev Cert.Kernel3Ideal.nD) → Buf (Elt Ideal) ((c.tc : Thread Cert.Kernel3Ideal.nD Cert.Kernel3Ideal.τ).loc Cert.Kernel3Ideal.main_v0_7)) (v8 : (c : Dev Cert.Kernel3Ideal.nD) → Buf (Elt Ideal) ((c.tc : Thread Cert.Kernel3Ideal.nD Cert.Kernel3Ideal.τ).loc Cert.Kernel3Ideal.main_v0_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_v0_5) = v5 c
          ∧ r.2.mem ((c.tc : Thread Cert.Kernel3Ideal.nD Cert.Kernel3Ideal.τ).loc Cert.Kernel3Ideal.main_v0_6) = v6 c
          ∧ r.2.mem ((c.tc : Thread Cert.Kernel3Ideal.nD Cert.Kernel3Ideal.τ).loc Cert.Kernel3Ideal.main_v0_7) = v7 c
          ∧ r.2.mem ((c.tc : Thread Cert.Kernel3Ideal.nD Cert.Kernel3Ideal.τ).loc Cert.Kernel3Ideal.main_v0_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v34) = v1 c
          ∧ r.2.mem ((c.tc : Thread Cert.Reference3Ideal.nD Cert.Reference3Ideal.τ).loc Cert.Reference3Ideal.main_v59) = v2 c
          ∧ r.2.mem ((c.tc : Thread Cert.Reference3Ideal.nD Cert.Reference3Ideal.τ).loc Cert.Reference3Ideal.main_v115) = v3 c
          ∧ r.2.mem ((c.tc : Thread Cert.Reference3Ideal.nD Cert.Reference3Ideal.τ).loc Cert.Reference3Ideal.main_v96) = v4 c
          ∧ r.2.mem ((c.tc : Thread Cert.Reference3Ideal.nD Cert.Reference3Ideal.τ).loc Cert.Reference3Ideal.main_v120) = v5 c
          ∧ r.2.mem ((c.tc : Thread Cert.Reference3Ideal.nD Cert.Reference3Ideal.τ).loc Cert.Reference3Ideal.main_v126) = v6 c
          ∧ r.2.mem ((c.tc : Thread Cert.Reference3Ideal.nD Cert.Reference3Ideal.τ).loc Cert.Reference3Ideal.main_v131) = v7 c
          ∧ r.2.mem ((c.tc : Thread Cert.Reference3Ideal.nD Cert.Reference3Ideal.τ).loc Cert.Reference3Ideal.main_v137) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v49) = v0 c
          ∧ r.2.mem ((c.tc : Thread Cert.Reference4Ideal.nD Cert.Reference4Ideal.τ).loc Cert.Reference4Ideal.main_v70) = v1 c
          ∧ r.2.mem ((c.tc : Thread Cert.Reference4Ideal.nD Cert.Reference4Ideal.τ).loc Cert.Reference4Ideal.main_v72) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v77) = v0 c
          ∧ r.2.mem ((c.tc : Thread Cert.Reference5Ideal.nD Cert.Reference5Ideal.τ).loc Cert.Reference5Ideal.main_v78) = v1 c
          ∧ r.2.mem ((c.tc : Thread Cert.Reference5Ideal.nD Cert.Reference5Ideal.τ).loc Cert.Reference5Ideal.main_v80) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v44) = v0 c
          ∧ r.2.mem ((c.tc : Thread Cert.Reference6Ideal.nD Cert.Reference6Ideal.τ).loc Cert.Reference6Ideal.main_v38) = v1 c
          ∧ r.2.mem ((c.tc : Thread Cert.Reference6Ideal.nD Cert.Reference6Ideal.τ).loc Cert.Reference6Ideal.main_v124) = v2 c
          ∧ r.2.mem ((c.tc : Thread Cert.Reference6Ideal.nD Cert.Reference6Ideal.τ).loc Cert.Reference6Ideal.main_v125) = v3 c
          ∧ r.2.mem ((c.tc : Thread Cert.Reference6Ideal.nD Cert.Reference6Ideal.τ).loc Cert.Reference6Ideal.main_v189) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  IdealRules.named_const.Statement Cert.Kernel7Ideal.κ "na_qs" .f32 0x3E38AA3B#32 (((Real.sqrt 64)⁻¹ * (Real.log 2)⁻¹ : ℝ) : EReal)
  ∧ IdealRules.named_const.Statement Cert.Kernel7Ideal.κ "df_qs" .f32 0x3E8293EE#32 (((Real.sqrt 32)⁻¹ * (Real.log 2)⁻¹ : ℝ) : EReal)

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v72) = v0 c
          ∧ r.2.mem ((c.tc : Thread Cert.Reference7Ideal.nD Cert.Reference7Ideal.τ).loc Cert.Reference7Ideal.main_v71) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
-- ==== Pre_finite.lean ====
abbrev S8192x768 : Shape := ⟨2, ![8192, 768]⟩
abbrev S4x256x256 : Shape := ⟨3, ![4, 256, 256]⟩
abbrev S4x32 : Shape := ⟨2, ![4, 32]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel
  bcast_S_S4x256x256 : S_.BroadcastsInDim S4x256x256 (![] : Fin 0 → Fin S4x256x256.rank)
  reducesTo_S4x256x256_S_d0_1_2 : S4x256x256.ReducesTo [0, 1, 2] S_
  bcast_S_S4x32 : S_.BroadcastsInDim S4x32 (![] : Fin 0 → Fin S4x32.rank)
  reducesTo_S4x32_S_d0_1 : S4x32.ReducesTo [0, 1] S_

variable [Facts]

def fn_part1 {F : FTy → Type} [FloatOps F] (main_v13 : IVec S_ 1) (main_v16 : IVec S4x32 1) : IVec S_ 1 :=
  let main_c_5 : IVec S_ 1 := constantI S_ 1 1#1
  let main_v17 : IVec S_ 1 := (fun x v => Host.reduce IntOp.andi x v reducesTo_S4x32_S_d0_1 h_S_) main_v16 main_c_5
  let main_v18 : IVec S_ 1 := andi main_v13 main_v17
  main_v18

def fn {F : FTy → Type} [FloatOps F] (main_arg0 : FVec F S8192x768 .f32) (main_arg1 : FVec F S4x256x256 .f32) (main_arg2 : FVec F S4x256x256 .f32) (main_arg3 : FVec F S4x32 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S4x256x256 .f32 := Host.absf main_arg1
  let main_cst_0 : FVec F S_ .f32 := constant S_ .f32 0x7F800000#32
  let main_v5 : FVec F S4x256x256 .f32 := broadcastInDim S4x256x256 ![] bcast_S_S4x256x256 main_cst_0
  let main_v6 : IVec S4x256x256 1 := cmpf .olt main_v4 main_v5
  let main_c_1 : IVec S_ 1 := constantI S_ 1 1#1
  let main_v7 : IVec S_ 1 := (fun x v => Host.reduce IntOp.andi x v reducesTo_S4x256x256_S_d0_1_2 h_S_) main_v6 main_c_1
  let main_v8 : IVec S_ 1 := andi main_v3 main_v7
  let main_v9 : FVec F S4x256x256 .f32 := Host.absf main_arg2
  let main_cst_2 : FVec F S_ .f32 := constant S_ .f32 0x7F800000#32
  let main_v10 : FVec F S4x256x256 .f32 := broadcastInDim S4x256x256 ![] bcast_S_S4x256x256 main_cst_2
  let main_v11 : IVec S4x256x256 1 := cmpf .olt main_v9 main_v10
  let main_c_3 : IVec S_ 1 := constantI S_ 1 1#1
  let main_v12 : IVec S_ 1 := (fun x v => Host.reduce IntOp.andi x v reducesTo_S4x256x256_S_d0_1_2 h_S_) main_v11 main_c_3
  let main_v13 : IVec S_ 1 := andi main_v8 main_v12
  let main_v14 : FVec F S4x32 .f32 := Host.absf main_arg3
  let main_cst_4 : FVec F S_ .f32 := constant S_ .f32 0x7F800000#32
  let main_v15 : FVec F S4x32 .f32 := broadcastInDim S4x32 ![] bcast_S_S4x32 main_cst_4
  let main_v16 : IVec S4x32 1 := cmpf .olt main_v14 main_v15
  fn_part1 (F := F) main_v13 main_v16
-- ==== Pre_finite7.lean ====
abbrev S8192x256 : Shape := ⟨2, ![8192, 256]⟩
abbrev S32x2x256x256 : Shape := ⟨4, ![32, 2, 256, 256]⟩
abbrev S4x32 : Shape := ⟨2, ![4, 32]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S32x2x256x256 : S_.BroadcastsInDim S32x2x256x256 (![] : Fin 0 → Fin S32x2x256x256.rank)
  reducesTo_S32x2x256x256_S_d0_1_2_3 : S32x2x256x256.ReducesTo [0, 1, 2, 3] S_
  bcast_S_S4x32 : S_.BroadcastsInDim S4x32 (![] : Fin 0 → Fin S4x32.rank)
  reducesTo_S4x32_S_d0_1 : S4x32.ReducesTo [0, 1] S_

variable [Facts]

def fn_part1 {F : FTy → Type} [FloatOps F] (main_arg4 : FVec F S32x2x256x256 .f32) (main_arg5 : FVec F S32x2x256x256 .f32) (main_arg6 : FVec F S4x32 .f32) (main_v13 : IVec S_ 1) (main_v16 : IVec S32x2x256x256 1) : IVec S_ 1 :=
  let main_c_5 : IVec S_ 1 := constantI S_ 1 1#1
  let main_v17 : IVec S_ 1 := (fun x v => Host.reduce IntOp.andi x v reducesTo_S32x2x256x256_S_d0_1_2_3 h_S_) main_v16 main_c_5
  let main_v18 : IVec S_ 1 := andi main_v13 main_v17
  let main_v19 : FVec F S32x2x256x256 .f32 := Host.absf main_arg4
  let main_cst_6 : FVec F S_ .f32 := constant S_ .f32 0x7F800000#32
  let main_v20 : FVec F S32x2x256x256 .f32 := broadcastInDim S32x2x256x256 ![] bcast_S_S32x2x256x256 main_cst_6
  let main_v21 : IVec S32x2x256x256 1 := cmpf .olt main_v19 main_v20
  let main_c_7 : IVec S_ 1 := constantI S_ 1 1#1
  let main_v22 : IVec S_ 1 := (fun x v => Host.reduce IntOp.andi x v reducesTo_S32x2x256x256_S_d0_1_2_3 h_S_) main_v21 main_c_7
  let main_v23 : IVec S_ 1 := andi main_v18 main_v22
  let main_v24 : FVec F S32x2x256x256 .f32 := Host.absf main_arg5
  let main_cst_8 : FVec F S_ .f32 := constant S_ .f32 0x7F800000#32
  let main_v25 : FVec F S32x2x256x256 .f32 := broadcastInDim S32x2x256x256 ![] bcast_S_S32x2x256x256 main_cst_8
  let main_v26 : IVec S32x2x256x256 1 := cmpf .olt main_v24 main_v25
  let main_c_9 : IVec S_ 1 := constantI S_ 1 1#1
  let main_v27 : IVec S_ 1 := (fun x v => Host.reduce IntOp.andi x v reducesTo_S32x2x256x256_S_d0_1_2_3 h_S_) main_v26 main_c_9
  let main_v28 : IVec S_ 1 := andi main_v23 main_v27
  let main_v29 : FVec F S4x32 .f32 := Host.absf main_arg6
  let main_cst_10 : FVec F S_ .f32 := constant S_ .f32 0x7F800000#32
  let main_v30 : FVec F S4x32 .f32 := broadcastInDim S4x32 ![] bcast_S_S4x32 main_cst_10
  let main_v31 : IVec S4x32 1 := cmpf .olt main_v29 main_v30
  let main_c_11 : IVec S_ 1 := constantI S_ 1 1#1
  let main_v32 : IVec S_ 1 := (fun x v => Host.reduce IntOp.andi x v reducesTo_S4x32_S_d0_1 h_S_) main_v31 main_c_11
  let main_v33 : IVec S_ 1 := andi main_v28 main_v32
  main_v33

def fn {F : FTy → Type} [FloatOps F] (main_arg0 : FVec F S8192x256 .f32) (main_arg1 : FVec F S8192x256 .f32) (main_arg2 : FVec F S32x2x256x256 .f32) (main_arg3 : FVec F S32x2x256x256 .f32) (main_arg4 : FVec F S32x2x256x256 .f32) (main_arg5 : FVec F S32x2x256x256 .f32) (main_arg6 : FVec F S4x32 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S32x2x256x256 .f32 := Host.absf main_arg2
  let main_cst_2 : FVec F S_ .f32 := constant S_ .f32 0x7F800000#32
  let main_v10 : FVec F S32x2x256x256 .f32 := broadcastInDim S32x2x256x256 ![] bcast_S_S32x2x256x256 main_cst_2
  let main_v11 : IVec S32x2x256x256 1 := cmpf .olt main_v9 main_v10
  let main_c_3 : IVec S_ 1 := constantI S_ 1 1#1
  let main_v12 : IVec S_ 1 := (fun x v => Host.reduce IntOp.andi x v reducesTo_S32x2x256x256_S_d0_1_2_3 h_S_) main_v11 main_c_3
  let main_v13 : IVec S_ 1 := andi main_v8 main_v12
  let main_v14 : FVec F S32x2x256x256 .f32 := Host.absf main_arg3
  let main_cst_4 : FVec F S_ .f32 := constant S_ .f32 0x7F800000#32
  let main_v15 : FVec F S32x2x256x256 .f32 := broadcastInDim S32x2x256x256 ![] bcast_S_S32x2x256x256 main_cst_4
  let main_v16 : IVec S32x2x256x256 1 := cmpf .olt main_v14 main_v15
  fn_part1 (F := F) main_arg4 main_arg5 main_arg6 main_v13 main_v16
-- ==== Kernel.lean ====
abbrev S8192x768 : Shape := ⟨2, ![8192, 768]⟩
abbrev S4x256x256 : Shape := ⟨3, ![4, 256, 256]⟩
abbrev S4x32 : Shape := ⟨2, ![4, 32]⟩
abbrev S8192x256 : Shape := ⟨2, ![8192, 256]⟩
abbrev S512x256 : Shape := ⟨2, ![512, 256]⟩
abbrev S2048x256 : Shape := ⟨2, ![2048, 256]⟩
abbrev S1x256x256 : Shape := ⟨3, ![1, 256, 256]⟩
abbrev S256x2048 : Shape := ⟨2, ![256, 2048]⟩
abbrev S256x256 : Shape := ⟨2, ![256, 256]⟩
abbrev S1x32 : Shape := ⟨2, ![1, 32]⟩
abbrev S1 : Shape := ⟨1, ![1]⟩
abbrev S1x1 : Shape := ⟨2, ![1, 1]⟩
abbrev S512x32 : Shape := ⟨2, ![512, 32]⟩
abbrev S32x256 : Shape := ⟨2, ![32, 256]⟩
abbrev S32x2048 : Shape := ⟨2, ![32, 2048]⟩
abbrev S512x2048 : Shape := ⟨2, ![512, 2048]⟩
abbrev S512 : Shape := ⟨1, ![512]⟩
abbrev S512x1 : Shape := ⟨2, ![512, 1]⟩
abbrev S256x64 : Shape := ⟨2, ![256, 64]⟩
abbrev S512x64 : Shape := ⟨2, ![512, 64]⟩
abbrev S2048x64 : Shape := ⟨2, ![2048, 64]⟩

abbrev nBuf : Space → Nat
  | .hbm => 5
  | .vmem => 17
  | .smem => 0
  | _ => 0

abbrev bufTy : (tb : Table) → Fin (tcTables nBuf tb) → BufTy
  | .hbm, ⟨0, _⟩ => ⟨S8192x768, .f32⟩
  | .hbm, ⟨1, _⟩ => ⟨S4x256x256, .f32⟩
  | .hbm, ⟨2, _⟩ => ⟨S4x256x256, .f32⟩
  | .hbm, ⟨3, _⟩ => ⟨S4x32, .f32⟩
  | .hbm, ⟨4, _⟩ => ⟨S8192x256, .f32⟩
  | .local _ .vmem, ⟨0, _⟩ => ⟨S512x256, .f32⟩
  | .local _ .vmem, ⟨1, _⟩ => ⟨S512x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S4x32, .f32⟩
  | .local _ .vmem, ⟨11, _⟩ => ⟨S512x256, .f32⟩
  | .local _ .vmem, ⟨12, _⟩ => ⟨S512x256, .f32⟩
  | .local _ .vmem, ⟨13, _⟩ => ⟨S256x2048, .bf16⟩
  | .local _ .vmem, ⟨14, _⟩ => ⟨S2048x256, .bf16⟩
  | .local _ .vmem, ⟨15, _⟩ => ⟨S256x256, .bf16⟩
  | .local _ .vmem, ⟨16, _⟩ => ⟨S256x256, .bf16⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S4x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "qs" => some (((Real.sqrt 32)⁻¹ * (Real.log 2)⁻¹ : ℝ) : EReal)
  | _ => none
-- ==== ReferenceIdeal.lean ====
abbrev S8192x768 : Shape := ⟨2, ![8192, 768]⟩
abbrev S4x256x256 : Shape := ⟨3, ![4, 256, 256]⟩
abbrev S4x32 : Shape := ⟨2, ![4, 32]⟩
abbrev S8192x256 : Shape := ⟨2, ![8192, 256]⟩
abbrev S4x2048x4x2x32 : Shape := ⟨5, ![4, 2048, 4, 2, 32]⟩
abbrev S4x256x4x2x32 : Shape := ⟨5, ![4, 256, 4, 2, 32]⟩
abbrev S4x2304x4x2x32 : Shape := ⟨5, ![4, 2304, 4, 2, 32]⟩
abbrev S4x256x4x64 : Shape := ⟨4, ![4, 256, 4, 64]⟩
abbrev S4x2048x4x64 : Shape := ⟨4, ![4, 2048, 4, 64]⟩
abbrev S4x2304x4x64 : Shape := ⟨4, ![4, 2304, 4, 64]⟩
abbrev S1x32 : Shape := ⟨2, ![1, 32]⟩
abbrev S32 : Shape := ⟨1, ![32]⟩
abbrev S_ : Shape := ⟨0, ![]⟩
abbrev S4x4x2x2048x2304 : Shape := ⟨5, ![4, 4, 2, 2048, 2304]⟩
abbrev S4x4x2x2048 : Shape := ⟨4, ![4, 4, 2, 2048]⟩
abbrev S4x4x2x2048x1 : Shape := ⟨5, ![4, 4, 2, 2048, 1]⟩
abbrev S4x4x1x2048x2304 : Shape := ⟨5, ![4, 4, 1, 2048, 2304]⟩
abbrev S4x4x2048x2304 : Shape := ⟨4, ![4, 4, 2048, 2304]⟩
abbrev S4x4x64x2048 : Shape := ⟨4, ![4, 4, 64, 2048]⟩

abbrev nBuf : Space → Nat
  | .hbm => 62
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S4x256x256, .f32⟩
  | .hbm, ⟨2, _⟩ => ⟨S4x256x256, .f32⟩
  | .hbm, ⟨3, _⟩ => ⟨S4x32, .f32⟩
  | .hbm, ⟨4, _⟩ => ⟨S8192x256, .f32⟩
  | .hbm, ⟨5, _⟩ => ⟨S4x2048x4x2x32, .f32⟩
  | .hbm, ⟨6, _⟩ => ⟨S4x256x4x2x32, .f32⟩
  | .hbm, ⟨7, _⟩ => ⟨S8192x256, .f32⟩
  | .hbm, ⟨8, _⟩ => ⟨S4x2048x4x2x32, .f32⟩
  | .hbm, ⟨9, _⟩ => ⟨S4x2304x4x2x32, .f32⟩
  | .hbm, ⟨10, _⟩ => ⟨S4x256x4x64, .f32⟩
  | .hbm, ⟨11, _⟩ => ⟨S8192x256, .f32⟩
  | .hbm, ⟨12, _⟩ => ⟨S4x2048x4x64, .f32⟩
  | .hbm, ⟨13, _⟩ => ⟨S4x2304x4x64, .f32⟩
  | .hbm, ⟨14, _⟩ => ⟨S1x32, .f32⟩
  | .hbm, ⟨15, _⟩ => ⟨S32, .f32⟩
  | .hbm, ⟨16, _⟩ => ⟨S1x32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x32, .f32⟩
  | .hbm, ⟨23, _⟩ => ⟨S32, .f32⟩
  | .hbm, ⟨24, _⟩ => ⟨S1x32, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S4x4x2x2048x2304, .f32⟩
  | .hbm, ⟨34, _⟩ => ⟨S_, .f32⟩
  | .hbm, ⟨35, _⟩ => ⟨S_, .f32⟩
  | .hbm, ⟨36, _⟩ => ⟨S4x4x2x2048x2304, .f32⟩
  | .hbm, ⟨37, _⟩ => ⟨S4x4x2x2048x2304, .f32⟩
  | .hbm, ⟨38, _⟩ => ⟨S_, .f32⟩
  | .hbm, ⟨39, _⟩ => ⟨S4x4x2x2048, .f32⟩
  | .hbm, ⟨40, _⟩ => ⟨S_, .f32⟩
  | .hbm, ⟨41, _⟩ => ⟨S4x4x2x2048, .f32⟩
  | .hbm, ⟨42, _⟩ => ⟨S4x4x2x2048, .f32⟩
  | .hbm, ⟨43, _⟩ => ⟨S4x4x2x2048x1, .f32⟩
  | .hbm, ⟨44, _⟩ => ⟨S4x4x2x2048x2304, .f32⟩
  | .hbm, ⟨45, _⟩ => ⟨S4x4x2x2048x2304, .f32⟩
  | .hbm, ⟨46, _⟩ => ⟨S4x4x2x2048x2304, .f32⟩
  | .hbm, ⟨47, _⟩ => ⟨S_, .f32⟩
  | .hbm, ⟨48, _⟩ => ⟨S4x4x2x2048, .f32⟩
  | .hbm, ⟨49, _⟩ => ⟨S4x4x2x2048x1, .f32⟩
  | .hbm, ⟨50, _⟩ => ⟨S4x4x2x2048x2304, .f32⟩
  | .hbm, ⟨51, _⟩ => ⟨S4x4x2x2048x2304, .f32⟩
  | .hbm, ⟨52, _⟩ => ⟨S4x4x1x2048x2304, .f32⟩
  | .hbm, ⟨53, _⟩ => ⟨S4x4x2048x2304, .f32⟩
  | .hbm, ⟨54, _⟩ => ⟨S4x4x1x2048x2304, .f32⟩
  | .hbm, ⟨55, _⟩ => ⟨S4x4x2048x2304, .f32⟩
  | .hbm, ⟨56, _⟩ => ⟨S4x4x2048x2304, .f32⟩
  | .hbm, ⟨57, _⟩ => ⟨S4x4x2048x2304, .f32⟩
  | .hbm, ⟨58, _⟩ => ⟨S4x4x2048x2304, .f32⟩
  | .hbm, ⟨59, _⟩ => ⟨S4x4x64x2048, .f32⟩
  | .hbm, ⟨60, _⟩ => ⟨S4x2048x4x64, .f32⟩
  | .hbm, ⟨61, _⟩ => ⟨S8192x256, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_1 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_cst_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩

abbrev nD : Nat := 1
abbrev τ : Topo := Topo.v7x

variable {F : FTy → Type} [FloatOps F]
-- ==== Kernel2.lean ====
abbrev S16x1024x1024 : Shape := ⟨3, ![16, 1024, 1024]⟩
abbrev S16x1024x128 : Shape := ⟨3, ![16, 1024, 128]⟩
abbrev S2x16x1024x1024 : Shape := ⟨4, ![2, 16, 1024, 1024]⟩
abbrev S1x1024x1024 : Shape := ⟨3, ![1, 1024, 1024]⟩
abbrev S1x1024x128 : Shape := ⟨3, ![1, 1024, 128]⟩
abbrev S1x1x1024x1024 : Shape := ⟨4, ![1, 1, 1024, 1024]⟩
abbrev S1024x1024 : Shape := ⟨2, ![1024, 1024]⟩
abbrev S1x512x1024 : Shape := ⟨3, ![1, 512, 1024]⟩
abbrev S512x1024 : Shape := ⟨2, ![512, 1024]⟩
abbrev S1x512x1 : Shape := ⟨3, ![1, 512, 1]⟩
abbrev S512x1 : Shape := ⟨2, ![512, 1]⟩

abbrev nBuf : Space → Nat
  | .hbm => 9
  | .vmem => 18
  | .smem => 0
  | _ => 0

abbrev bufTy : (tb : Table) → Fin (tcTables nBuf tb) → BufTy
  | .hbm, ⟨0, _⟩ => ⟨S16x1024x1024, .bf16⟩
  | .hbm, ⟨1, _⟩ => ⟨S16x1024x1024, .bf16⟩
  | .hbm, ⟨2, _⟩ => ⟨S16x1024x128, .f32⟩
  | .hbm, ⟨3, _⟩ => ⟨S16x1024x128, .f32⟩
  | .hbm, ⟨4, _⟩ => ⟨S2x16x1024x1024, .f32⟩
  | .hbm, ⟨5, _⟩ => ⟨S2x16x1024x1024, .f32⟩
  | .hbm, ⟨6, _⟩ => ⟨S2x16x1024x1024, .f32⟩
  | .hbm, ⟨7, _⟩ => ⟨S16x1024x1024, .bf16⟩
  | .hbm, ⟨8, _⟩ => ⟨S16x1024x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1x1024x1024, .f32⟩
  | .local _ .vmem, ⟨9, _⟩ => ⟨S1x1x1024x1024, .f32⟩
  | .local _ .vmem, ⟨10, _⟩ => ⟨S1x1x1024x1024, .f32⟩
  | .local _ .vmem, ⟨11, _⟩ => ⟨S1x1x1024x1024, .f32⟩
  | .local _ .vmem, ⟨12, _⟩ => ⟨S1x1x1024x1024, .f32⟩
  | .local _ .vmem, ⟨13, _⟩ => ⟨S1x1x1024x1024, .f32⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | _, _ => ⟨S16x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S16x1024x1024 : Shape := ⟨3, ![16, 1024, 1024]⟩
abbrev S16x1024x128 : Shape := ⟨3, ![16, 1024, 128]⟩
abbrev S2x16x1024x1024 : Shape := ⟨4, ![2, 16, 1024, 1024]⟩
abbrev S1x16x1024x1024 : Shape := ⟨4, ![1, 16, 1024, 1024]⟩
abbrev S_ : Shape := ⟨0, ![]⟩
abbrev S16x1024x1 : Shape := ⟨3, ![16, 1024, 1]⟩

abbrev nBuf : Space → Nat
  | .hbm => 55
  | .vmem => 0
  | .smem => 0
  | _ => 0

abbrev bufTy : (tb : Table) → Fin (tcTables nBuf tb) → BufTy
  | .hbm, ⟨0, _⟩ => ⟨S16x1024x1024, .bf16⟩
  | .hbm, ⟨1, _⟩ => ⟨S16x1024x1024, .bf16⟩
  | .hbm, ⟨2, _⟩ => ⟨S16x1024x128, .f32⟩
  | .hbm, ⟨3, _⟩ => ⟨S16x1024x128, .f32⟩
  | .hbm, ⟨4, _⟩ => ⟨S2x16x1024x1024, .f32⟩
  | .hbm, ⟨5, _⟩ => ⟨S2x16x1024x1024, .f32⟩
  | .hbm, ⟨6, _⟩ => ⟨S2x16x1024x1024, .f32⟩
  | .hbm, ⟨7, _⟩ => ⟨S16x1024x1024, .f32⟩
  | .hbm, ⟨8, _⟩ => ⟨S1x16x1024x1024, .f32⟩
  | .hbm, ⟨9, _⟩ => ⟨S16x1024x1024, .f32⟩
  | .hbm, ⟨10, _⟩ => ⟨S16x1024x1024, .f32⟩
  | .hbm, ⟨11, _⟩ => ⟨S1x16x1024x1024, .f32⟩
  | .hbm, ⟨12, _⟩ => ⟨S16x1024x1024, .f32⟩
  | .hbm, ⟨13, _⟩ => ⟨S16x1024x1024, .f32⟩
  | .hbm, ⟨14, _⟩ => ⟨S16x1024x1024, .f32⟩
  | .hbm, ⟨15, _⟩ => ⟨S16x1024x1024, .f32⟩
  | .hbm, ⟨16, _⟩ => ⟨S_, .f32⟩
  | .hbm, ⟨17, _⟩ => ⟨S16x1024x1024, .f32⟩
  | .hbm, ⟨18, _⟩ => ⟨S16x1024x1024, .f32⟩
  | .hbm, ⟨19, _⟩ => ⟨S_, .f32⟩
  | .hbm, ⟨20, _⟩ => ⟨S16x1024x1024, .f32⟩
  | .hbm, ⟨21, _⟩ => ⟨S16x1024x1024, .f32⟩
  | .hbm, ⟨22, _⟩ => ⟨S16x1024x1024, .f32⟩
  | .hbm, ⟨23, _⟩ => ⟨S16x1024x1024, .f32⟩
  | .hbm, ⟨24, _⟩ => ⟨S1x16x1024x1024, .f32⟩
  | .hbm, ⟨25, _⟩ => ⟨S16x1024x1024, .f32⟩
  | .hbm, ⟨26, _⟩ => ⟨S16x1024x1024, .f32⟩
  | .hbm, ⟨27, _⟩ => ⟨S16x1024x1, .f32⟩
  | .hbm, ⟨28, _⟩ => ⟨S16x1024x1024, .f32⟩
  | .hbm, ⟨29, _⟩ => ⟨S16x1024x1024, .f32⟩
  | .hbm, ⟨30, _⟩ => ⟨S16x1024x1024, .bf16⟩
  | .hbm, ⟨31, _⟩ => ⟨S16x1024x1024, .f32⟩
  | .hbm, ⟨32, _⟩ => ⟨S1x16x1024x1024, .f32⟩
  | .hbm, ⟨33, _⟩ => ⟨S16x1024x1024, .f32⟩
  | .hbm, ⟨34, _⟩ => ⟨S16x1024x1024, .f32⟩
  | .hbm, ⟨35, _⟩ => ⟨S1x16x1024x1024, .f32⟩
  | .hbm, ⟨36, _⟩ => ⟨S16x1024x1024, .f32⟩
  | .hbm, ⟨37, _⟩ => ⟨S16x1024x1024, .f32⟩
  | .hbm, ⟨38, _⟩ => ⟨S16x1024x1024, .f32⟩
  | .hbm, ⟨39, _⟩ => ⟨S16x1024x1024, .f32⟩
  | .hbm, ⟨40, _⟩ => ⟨S_, .f32⟩
  | .hbm, ⟨41, _⟩ => ⟨S16x1024x1024, .f32⟩
  | .hbm, ⟨42, _⟩ => ⟨S16x1024x1024, .f32⟩
  | .hbm, ⟨43, _⟩ => ⟨S_, .f32⟩
  | .hbm, ⟨44, _⟩ => ⟨S16x1024x1024, .f32⟩
  | .hbm, ⟨45, _⟩ => ⟨S16x1024x1024, .f32⟩
  | .hbm, ⟨46, _⟩ => ⟨S16x1024x1024, .f32⟩
  | .hbm, ⟨47, _⟩ => ⟨S16x1024x1024, .f32⟩
  | .hbm, ⟨48, _⟩ => ⟨S1x16x1024x1024, .f32⟩
  | .hbm, ⟨49, _⟩ => ⟨S16x1024x1024, .f32⟩
  | .hbm, ⟨50, _⟩ => ⟨S16x1024x1024, .f32⟩
  | .hbm, ⟨51, _⟩ => ⟨S16x1024x1, .f32⟩
  | .hbm, ⟨52, _⟩ => ⟨S16x1024x1024, .f32⟩
  | .hbm, ⟨53, _⟩ => ⟨S16x1024x1024, .f32⟩
  | .hbm, ⟨54, _⟩ => ⟨S16x1024x1024, .bf16⟩
  | _, _ => ⟨S16x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩

abbrev nD : Nat := 1
abbrev τ : Topo := Topo.v7x

variable {F : FTy → Type} [FloatOps F]
-- ==== Kernel3.lean ====
abbrev S8192x1024 : Shape := ⟨2, ![8192, 1024]⟩
abbrev S8x6144 : Shape := ⟨2, ![8, 6144]⟩
abbrev S1x1024 : Shape := ⟨2, ![1, 1024]⟩
abbrev S1024x3200 : Shape := ⟨2, ![1024, 3200]⟩
abbrev S1x128 : Shape := ⟨2, ![1, 128]⟩
abbrev S4x256 : Shape := ⟨2, ![4, 256]⟩
abbrev S8192x128 : Shape := ⟨2, ![8192, 128]⟩
abbrev S8192x256 : Shape := ⟨2, ![8192, 256]⟩
abbrev S8192x512 : Shape := ⟨2, ![8192, 512]⟩
abbrev S32x2x256x256 : Shape := ⟨4, ![32, 2, 256, 256]⟩
abbrev S512x1024 : Shape := ⟨2, ![512, 1024]⟩
abbrev S512x128 : Shape := ⟨2, ![512, 128]⟩
abbrev S512x256 : Shape := ⟨2, ![512, 256]⟩
abbrev S512x512 : Shape := ⟨2, ![512, 512]⟩
abbrev S2x2x256x256 : Shape := ⟨4, ![2, 2, 256, 256]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩
abbrev S256x256 : Shape := ⟨2, ![256, 256]⟩
abbrev S256x512 : Shape := ⟨2, ![256, 512]⟩
abbrev S1024x128 : Shape := ⟨2, ![1024, 128]⟩
abbrev S256x128 : Shape := ⟨2, ![256, 128]⟩
abbrev S1024x512 : Shape := ⟨2, ![1024, 512]⟩
abbrev S1024x768 : Shape := ⟨2, ![1024, 768]⟩
abbrev S256x768 : Shape := ⟨2, ![256, 768]⟩
abbrev S1x256 : Shape := ⟨2, ![1, 256]⟩
abbrev S1x1x256x256 : Shape := ⟨4, ![1, 1, 256, 256]⟩

abbrev nBuf : Space → Nat
  | .hbm => 15
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8x6144, .f32⟩
  | .hbm, ⟨2, _⟩ => ⟨S1x1024, .f32⟩
  | .hbm, ⟨3, _⟩ => ⟨S1024x3200, .bf16⟩
  | .hbm, ⟨4, _⟩ => ⟨S1x128, .f32⟩
  | .hbm, ⟨5, _⟩ => ⟨S4x256, .f32⟩
  | .hbm, ⟨6, _⟩ => ⟨S8192x1024, .f32⟩
  | .hbm, ⟨7, _⟩ => ⟨S8192x128, .f32⟩
  | .hbm, ⟨8, _⟩ => ⟨S8192x256, .f32⟩
  | .hbm, ⟨9, _⟩ => ⟨S8192x512, .f32⟩
  | .hbm, ⟨10, _⟩ => ⟨S8192x256, .f32⟩
  | .hbm, ⟨11, _⟩ => ⟨S32x2x256x256, .f32⟩
  | .hbm, ⟨12, _⟩ => ⟨S32x2x256x256, .f32⟩
  | .hbm, ⟨13, _⟩ => ⟨S32x2x256x256, .f32⟩
  | .hbm, ⟨14, _⟩ => ⟨S32x2x256x256, .f32⟩
  | .local _ .vmem, ⟨0, _⟩ => ⟨S512x1024, .f32⟩
  | .local _ .vmem, ⟨1, _⟩ => ⟨S512x1024, .f32⟩
  | .local _ .vmem, ⟨2, _⟩ => ⟨S8x6144, .f32⟩
  | .local _ .vmem, ⟨3, _⟩ => ⟨S1x1024, .f32⟩
  | .local _ .vmem, ⟨4, _⟩ => ⟨S1024x3200, .bf16⟩
  | .local _ .vmem, ⟨5, _⟩ => ⟨S1x128, .f32⟩
  | .local _ .vmem, ⟨6, _⟩ => ⟨S4x256, .f32⟩
  | .local _ .vmem, ⟨7, _⟩ => ⟨S512x1024, .f32⟩
  | .local _ .vmem, ⟨8, _⟩ => ⟨S512x1024, .f32⟩
  | .local _ .vmem, ⟨9, _⟩ => ⟨S512x128, .f32⟩
  | .local _ .vmem, ⟨10, _⟩ => ⟨S512x128, .f32⟩
  | .local _ .vmem, ⟨11, _⟩ => ⟨S512x256, .f32⟩
  | .local _ .vmem, ⟨12, _⟩ => ⟨S512x256, .f32⟩
  | .local _ .vmem, ⟨13, _⟩ => ⟨S512x512, .f32⟩
  | .local _ .vmem, ⟨14, _⟩ => ⟨S512x512, .f32⟩
  | .local _ .vmem, ⟨15, _⟩ => ⟨S512x256, .f32⟩
  | .local _ .vmem, ⟨16, _⟩ => ⟨S512x256, .f32⟩
  | .local _ .vmem, ⟨17, _⟩ => ⟨S2x2x256x256, .f32⟩
  | .local _ .vmem, ⟨18, _⟩ => ⟨S2x2x256x256, .f32⟩
  | .local _ .vmem, ⟨19, _⟩ => ⟨S2x2x256x256, .f32⟩
  | .local _ .vmem, ⟨20, _⟩ => ⟨S2x2x256x256, .f32⟩
  | .local _ .vmem, ⟨21, _⟩ => ⟨S2x2x256x256, .f32⟩
  | .local _ .vmem, ⟨22, _⟩ => ⟨S2x2x256x256, .f32⟩
  | .local _ .vmem, ⟨23, _⟩ => ⟨S2x2x256x256, .f32⟩
  | .local _ .vmem, ⟨24, _⟩ => ⟨S2x2x256x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev main_v0_6 : Ref sig .tc := ⟨.hbm, 12, rfl⟩
abbrev main_v0_7 : Ref sig .tc := ⟨.hbm, 13, rfl⟩
abbrev main_v0_8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c0_i32_4 : BitVec 32 := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let v17 : BitVec 32 := Scalar.addi c0_i32_4 v16
  let v18 : Index := Scalar.indexCast v17
  let c0 : Index := 0#32
  ![v18.toNat, 0]
def k0_off2 (i : grid0.Coords) : Fin 2 → Nat :=
  let c0_i32_4 : BitVec 32 := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let v17 : BitVec 32 := Scalar.addi c0_i32_4 v16
  let v20 : Index := Scalar.indexCast v17
  let c1024 : Index := 1024#32
  ![v20.toNat, 1024]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x2x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x2x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x2x256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x2x256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference3Ideal.lean ====
abbrev S8192x1024 : Shape := ⟨2, ![8192, 1024]⟩
abbrev S8x6144 : Shape := ⟨2, ![8, 6144]⟩
abbrev S1x1024 : Shape := ⟨2, ![1, 1024]⟩
abbrev S1024x3200 : Shape := ⟨2, ![1024, 3200]⟩
abbrev S1x128 : Shape := ⟨2, ![1, 128]⟩
abbrev S4x256 : Shape := ⟨2, ![4, 256]⟩
abbrev S_ : Shape := ⟨0, ![]⟩
abbrev S8192 : Shape := ⟨1, ![8192]⟩
abbrev S8192x1 : Shape := ⟨2, ![8192, 1]⟩
abbrev S8192x3200 : Shape := ⟨2, ![8192, 3200]⟩
abbrev S8192x128 : Shape := ⟨2, ![8192, 128]⟩
abbrev S8192x16x2x4 : Shape := ⟨4, ![8192, 16, 2, 4]⟩
abbrev S8192x16x1x4 : Shape := ⟨4, ![8192, 16, 1, 4]⟩
abbrev S8192x16x4 : Shape := ⟨3, ![8192, 16, 4]⟩
abbrev S8192x256 : Shape := ⟨2, ![8192, 256]⟩
abbrev S8192x512 : Shape := ⟨2, ![8192, 512]⟩
abbrev S8192x4x64 : Shape := ⟨3, ![8192, 4, 64]⟩
abbrev S1x256 : Shape := ⟨2, ![1, 256]⟩
abbrev S256 : Shape := ⟨1, ![256]⟩
abbrev S4x64 : Shape := ⟨2, ![4, 64]⟩
abbrev S8192x4 : Shape := ⟨2, ![8192, 4]⟩
abbrev S8192x4x1 : Shape := ⟨3, ![8192, 4, 1]⟩
abbrev S1x4x64 : Shape := ⟨3, ![1, 4, 64]⟩
abbrev S8192x8x32 : Shape := ⟨3, ![8192, 8, 32]⟩
abbrev S8x32 : Shape := ⟨2, ![8, 32]⟩
abbrev S8192x8 : Shape := ⟨2, ![8192, 8]⟩
abbrev S8192x8x1 : Shape := ⟨3, ![8192, 8, 1]⟩
abbrev S1x8x32 : Shape := ⟨3, ![1, 8, 32]⟩
abbrev S32x256x256 : Shape := ⟨3, ![32, 256, 256]⟩
abbrev S32x1x256x256 : Shape := ⟨4, ![32, 1, 256, 256]⟩
abbrev S32x2x256x256 : Shape := ⟨4, ![32, 2, 256, 256]⟩

abbrev nBuf : Space → Nat
  | .hbm => 180
  | .vmem => 0
  | .smem => 0
  | _ => 0

abbrev hbmTy0_0 (i : Nat) : BufTy := match i % 128 with
  | 0 => ⟨S8192x1024, .f32⟩
  | 1 => ⟨S8x6144, .f32⟩
  | 2 => ⟨S1x1024, .f32⟩
  | 3 => ⟨S1024x3200, .bf16⟩
  | 4 => ⟨S1x128, .f32⟩
  | 5 => ⟨S4x256, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1024, .f32⟩
  | 18 => ⟨S8192x1024, .f32⟩
  | 19 => ⟨S8192x1024, .f32⟩
  | 20 => ⟨S8192x1024, .f32⟩
  | 21 => ⟨S1x1024, .f32⟩
  | 22 => ⟨S_, .f32⟩
  | 23 => ⟨S1x1024, .f32⟩
  | 24 => ⟨S1x1024, .f32⟩
  | 25 => ⟨S8192x1024, .f32⟩
  | 26 => ⟨S8192x1024, .f32⟩
  | 27 => ⟨S1x1024, .f32⟩
  | 28 => ⟨S8192x1024, .f32⟩
  | 29 => ⟨S8192x1024, .f32⟩
  | 30 => ⟨S1024x3200, .f32⟩
  | 31 => ⟨S8192x3200, .f32⟩
  | 32 => ⟨S8192x128, .f32⟩
  | 33 => ⟨S8192x128, .f32⟩
  | 34 => ⟨S8192x128, .f32⟩
  | 35 => ⟨S8192x16x2x4, .f32⟩
  | 36 => ⟨S8192x16x1x4, .f32⟩
  | 37 => ⟨S8192x16x4, .f32⟩
  | 38 => ⟨S8192x16x1x4, .f32⟩
  | 39 => ⟨S8192x16x4, .f32⟩
  | 40 => ⟨S8192x16x4, .f32⟩
  | 41 => ⟨S_, .f32⟩
  | 42 => ⟨S8192x16x4, .f32⟩
  | 43 => ⟨S8192x16x4, .f32⟩
  | 44 => ⟨S8192x16x4, .f32⟩
  | 45 => ⟨S8192x16x4, .f32⟩
  | 46 => ⟨S8192x16x4, .i1⟩
  | 47 => ⟨S8192x16x4, .f32⟩
  | 48 => ⟨S8192x16x4, .f32⟩
  | 49 => ⟨S8192x16x4, .f32⟩
  | 50 => ⟨S8192x16x4, .f32⟩
  | 51 => ⟨S8192x16x4, .f32⟩
  | 52 => ⟨S8192x16x4, .f32⟩
  | 53 => ⟨S8192x16x4, .f32⟩
  | 54 => ⟨S8192x16x4, .f32⟩
  | 55 => ⟨S8192x16x4, .f32⟩
  | 56 => ⟨S8192x16x1x4, .f32⟩
  | 57 => ⟨S8192x16x1x4, .f32⟩
  | 58 => ⟨S8192x16x2x4, .f32⟩
  | 59 => ⟨S8192x128, .f32⟩
  | 60 => ⟨S8192x256, .f32⟩
  | 61 => ⟨S8192x256, .f32⟩
  | 62 => ⟨S_, .f32⟩
  | 63 => ⟨S8192x256, .f32⟩
  | 64 => ⟨S8192x256, .f32⟩
  | 65 => ⟨S8192x512, .f32⟩
  | 66 => ⟨S8192x1024, .f32⟩
  | 67 => ⟨S8192x256, .f32⟩
  | 68 => ⟨S8192x4x64, .f32⟩
  | 69 => ⟨S1x256, .f32⟩
  | 70 => ⟨S256, .f32⟩
  | 71 => ⟨S4x64, .f32⟩
  | 72 => ⟨S8192x4x64, .f32⟩
  | 73 => ⟨S_, .f32⟩
  | 74 => ⟨S8192x4, .f32⟩
  | 75 => ⟨S8192x4x1, .f32⟩
  | 76 => ⟨S_, .f32⟩
  | 77 => ⟨S8192x4x1, .f32⟩
  | 78 => ⟨S8192x4x1, .f32⟩
  | 79 => ⟨S_, .f32⟩
  | 80 => ⟨S8192x4x1, .f32⟩
  | 81 => ⟨S8192x4x1, .f32⟩
  | 82 => ⟨S8192x4x1, .f32⟩
  | 83 => ⟨S8192x4x64, .f32⟩
  | 84 => ⟨S8192x4x64, .f32⟩
  | 85 => ⟨S1x4x64, .f32⟩
  | 86 => ⟨S8192x4x64, .f32⟩
  | 87 => ⟨S8192x4x64, .f32⟩
  | 88 => ⟨S8192x256, .f32⟩
  | 89 => ⟨S8192x256, .f32⟩
  | 90 => ⟨S8192x4x64, .f32⟩
  | 91 => ⟨S1x256, .f32⟩
  | 92 => ⟨S256, .f32⟩
  | 93 => ⟨S4x64, .f32⟩
  | 94 => ⟨S8192x4x64, .f32⟩
  | 95 => ⟨S_, .f32⟩
  | 96 => ⟨S8192x4, .f32⟩
  | 97 => ⟨S8192x4x1, .f32⟩
  | 98 => ⟨S_, .f32⟩
  | 99 => ⟨S8192x4x1, .f32⟩
  | 100 => ⟨S8192x4x1, .f32⟩
  | 101 => ⟨S_, .f32⟩
  | 102 => ⟨S8192x4x1, .f32⟩
  | 103 => ⟨S8192x4x1, .f32⟩
  | 104 => ⟨S8192x4x1, .f32⟩
  | 105 => ⟨S8192x4x64, .f32⟩
  | 106 => ⟨S8192x4x64, .f32⟩
  | 107 => ⟨S1x4x64, .f32⟩
  | 108 => ⟨S8192x4x64, .f32⟩
  | 109 => ⟨S8192x4x64, .f32⟩
  | 110 => ⟨S8192x256, .f32⟩
  | 111 => ⟨S8192x8x32, .f32⟩
  | 112 => ⟨S1x256, .f32⟩
  | 113 => ⟨S256, .f32⟩
  | 114 => ⟨S8x32, .f32⟩
  | 115 => ⟨S8192x8x32, .f32⟩
  | 116 => ⟨S_, .f32⟩
  | 117 => ⟨S8192x8, .f32⟩
  | 118 => ⟨S8192x8x1, .f32⟩
  | 119 => ⟨S_, .f32⟩
  | 120 => ⟨S8192x8x1, .f32⟩
  | 121 => ⟨S8192x8x1, .f32⟩
  | 122 => ⟨S_, .f32⟩
  | 123 => ⟨S8192x8x1, .f32⟩
  | 124 => ⟨S8192x8x1, .f32⟩
  | 125 => ⟨S8192x8x1, .f32⟩
  | 126 => ⟨S8192x8x32, .f32⟩
  | 127 => ⟨S8192x8x32, .f32⟩
  | _ => ⟨S8192x1024, .f32⟩

abbrev hbmTy0_1 (i : Nat) : BufTy := match i % 128 with
  | 0 => ⟨S1x8x32, .f32⟩
  | 1 => ⟨S8192x8x32, .f32⟩
  | 2 => ⟨S8192x8x32, .f32⟩
  | 3 => ⟨S8192x256, .f32⟩
  | 4 => ⟨S8192x256, .f32⟩
  | 5 => ⟨S8192x8x32, .f32⟩
  | 6 => ⟨S1x256, .f32⟩
  | 7 => ⟨S256, .f32⟩
  | 8 => ⟨S8x32, .f32⟩
  | 9 => ⟨S8192x8x32, .f32⟩
  | 10 => ⟨S_, .f32⟩
  | 11 => ⟨S8192x8, .f32⟩
  | 12 => ⟨S8192x8x1, .f32⟩
  | 13 => ⟨S_, .f32⟩
  | 14 => ⟨S8192x8x1, .f32⟩
  | 15 => ⟨S8192x8x1, .f32⟩
  | 16 => ⟨S_, .f32⟩
  | 17 => ⟨S8192x8x1, .f32⟩
  | 18 => ⟨S8192x8x1, .f32⟩
  | 19 => ⟨S8192x8x1, .f32⟩
  | 20 => ⟨S8192x8x32, .f32⟩
  | 21 => ⟨S8192x8x32, .f32⟩
  | 22 => ⟨S1x8x32, .f32⟩
  | 23 => ⟨S8192x8x32, .f32⟩
  | 24 => ⟨S8192x8x32, .f32⟩
  | 25 => ⟨S8192x512, .f32⟩
  | 26 => ⟨S32x256x256, .f32⟩
  | 27 => ⟨S_, .f32⟩
  | 28 => ⟨S32x256x256, .f32⟩
  | 29 => ⟨S32x1x256x256, .f32⟩
  | 30 => ⟨S32x1x256x256, .f32⟩
  | 31 => ⟨S32x2x256x256, .f32⟩
  | 32 => ⟨S8192x256, .f32⟩
  | 33 => ⟨S32x256x256, .f32⟩
  | 34 => ⟨S_, .f32⟩
  | 35 => ⟨S32x256x256, .f32⟩
  | 36 => ⟨S32x1x256x256, .f32⟩
  | 37 => ⟨S32x1x256x256, .f32⟩
  | 38 => ⟨S32x2x256x256, .f32⟩
  | 39 => ⟨S32x256x256, .f32⟩
  | 40 => ⟨S_, .f32⟩
  | 41 => ⟨S32x256x256, .f32⟩
  | 42 => ⟨S32x1x256x256, .f32⟩
  | 43 => ⟨S32x1x256x256, .f32⟩
  | 44 => ⟨S32x2x256x256, .f32⟩
  | 45 => ⟨S8192x256, .f32⟩
  | 46 => ⟨S32x256x256, .f32⟩
  | 47 => ⟨S_, .f32⟩
  | 48 => ⟨S32x256x256, .f32⟩
  | 49 => ⟨S32x1x256x256, .f32⟩
  | 50 => ⟨S32x1x256x256, .f32⟩
  | 51 => ⟨S32x2x256x256, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_call0_v0 : Ref sig .tc := ⟨.hbm, 40, rfl⟩
abbrev main_call0_call0_cst : Ref sig .tc := ⟨.hbm, 41, rfl⟩
abbrev main_call0_call0_v0 : Ref sig .tc := ⟨.hbm, 42, rfl⟩
abbrev main_call0_call0_v1 : Ref sig .tc := ⟨.hbm, 43, rfl⟩
abbrev main_call0_call0_v2 : Ref sig .tc := ⟨.hbm, 44, rfl⟩
abbrev main_call0_call0_v3 : Ref sig .tc := ⟨.hbm, 45, rfl⟩
abbrev main_call0_call0_v4 : Ref sig .tc := ⟨.hbm, 46, rfl⟩
abbrev main_call0_call0_v5 : Ref sig .tc := ⟨.hbm, 47, rfl⟩
abbrev main_call0_call0_v6 : Ref sig .tc := ⟨.hbm, 48, rfl⟩
abbrev main_call0_call0_v7 : Ref sig .tc := ⟨.hbm, 49, rfl⟩
abbrev main_call0_call0_v8 : Ref sig .tc := ⟨.hbm, 50, rfl⟩
abbrev main_call0_call0_v9 : Ref sig .tc := ⟨.hbm, 51, rfl⟩
abbrev main_call0_call0_v10 : Ref sig .tc := ⟨.hbm, 52, rfl⟩
abbrev main_call0_call0_v11 : Ref sig .tc := ⟨.hbm, 53, rfl⟩
abbrev main_call0_v1 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_3 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_4 : Ref sig .tc := ⟨.hbm, 73, rfl⟩
abbrev main_v47 : Ref sig .tc := ⟨.hbm, 74, rfl⟩
abbrev main_v48 : Ref sig .tc := ⟨.hbm, 75, rfl⟩
abbrev main_cst_5 : Ref sig .tc := ⟨.hbm, 76, rfl⟩
abbrev main_v49 : Ref sig .tc := ⟨.hbm, 77, rfl⟩
abbrev main_v50 : Ref sig .tc := ⟨.hbm, 78, rfl⟩
abbrev main_cst_6 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_7 : Ref sig .tc := ⟨.hbm, 95, rfl⟩
abbrev main_v66 : Ref sig .tc := ⟨.hbm, 96, rfl⟩
abbrev main_v67 : Ref sig .tc := ⟨.hbm, 97, rfl⟩
abbrev main_cst_8 : Ref sig .tc := ⟨.hbm, 98, rfl⟩
abbrev main_v68 : Ref sig .tc := ⟨.hbm, 99, rfl⟩
abbrev main_v69 : Ref sig .tc := ⟨.hbm, 100, rfl⟩
abbrev main_cst_9 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_10 : Ref sig .tc := ⟨.hbm, 116, rfl⟩
abbrev main_v84 : Ref sig .tc := ⟨.hbm, 117, rfl⟩
abbrev main_v85 : Ref sig .tc := ⟨.hbm, 118, rfl⟩
abbrev main_cst_11 : Ref sig .tc := ⟨.hbm, 119, rfl⟩
abbrev main_v86 : Ref sig .tc := ⟨.hbm, 120, rfl⟩
abbrev main_v87 : Ref sig .tc := ⟨.hbm, 121, rfl⟩
abbrev main_cst_12 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_cst_13 : Ref sig .tc := ⟨.hbm, 138, rfl⟩
abbrev main_v103 : Ref sig .tc := ⟨.hbm, 139, rfl⟩
abbrev main_v104 : Ref sig .tc := ⟨.hbm, 140, rfl⟩
abbrev main_cst_14 : Ref sig .tc := ⟨.hbm, 141, rfl⟩
abbrev main_v105 : Ref sig .tc := ⟨.hbm, 142, rfl⟩
abbrev main_v106 : Ref sig .tc := ⟨.hbm, 143, rfl⟩
abbrev main_cst_15 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_16 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_cst_17 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_cst_18 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_cst_19 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩

abbrev nD : Nat := 1
abbrev τ : Topo := Topo.v7x

variable {F : FTy → Type} [FloatOps F]
-- ==== Kernel4.lean ====
abbrev S8192x256 : Shape := ⟨2, ![8192, 256]⟩
abbrev S8192x1024 : Shape := ⟨2, ![8192, 1024]⟩
abbrev S8x6144 : Shape := ⟨2, ![8, 6144]⟩
abbrev S1x256 : Shape := ⟨2, ![1, 256]⟩
abbrev S1024x1024 : Shape := ⟨2, ![1024, 1024]⟩
abbrev S1x1024 : Shape := ⟨2, ![1, 1024]⟩
abbrev S1024x128 : Shape := ⟨2, ![1024, 128]⟩
abbrev S8192x128 : Shape := ⟨2, ![8192, 128]⟩
abbrev S512x256 : Shape := ⟨2, ![512, 256]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 16
  | .vmem => 26
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x1024, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x1024, .f32⟩
  | .hbm, ⟨7, _⟩ => ⟨S8x6144, .f32⟩
  | .hbm, ⟨8, _⟩ => ⟨S1x256, .f32⟩
  | .hbm, ⟨9, _⟩ => ⟨S1x256, .f32⟩
  | .hbm, ⟨10, _⟩ => ⟨S1024x1024, .bf16⟩
  | .hbm, ⟨11, _⟩ => ⟨S1x1024, .f32⟩
  | .hbm, ⟨12, _⟩ => ⟨S1024x128, .bf16⟩
  | .hbm, ⟨13, _⟩ => ⟨S8192x1024, .f32⟩
  | .hbm, ⟨14, _⟩ => ⟨S8192x1024, .bf16⟩
  | .hbm, ⟨15, _⟩ => ⟨S8192x128, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x1024, .f32⟩
  | .local _ .vmem, ⟨13, _⟩ => ⟨S512x1024, .f32⟩
  | .local _ .vmem, ⟨14, _⟩ => ⟨S8x6144, .f32⟩
  | .local _ .vmem, ⟨15, _⟩ => ⟨S1x256, .f32⟩
  | .local _ .vmem, ⟨16, _⟩ => ⟨S1x256, .f32⟩
  | .local _ .vmem, ⟨17, _⟩ => ⟨S1024x1024, .bf16⟩
  | .local _ .vmem, ⟨18, _⟩ => ⟨S1x1024, .f32⟩
  | .local _ .vmem, ⟨19, _⟩ => ⟨S1024x128, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S512x128, .f32⟩
  | .local _ .vmem, ⟨25, _⟩ => ⟨S512x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c0_i32_4 : BitVec 32 := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let v17 : BitVec 32 := Scalar.addi c0_i32_4 v16
  let v157 : Index := Scalar.indexCast v17
  let c2048 : Index := 2048#32
  ![v157.toNat, 2048]
def k0_off2 (i : grid0.Coords) : Fin 2 → Nat :=
  let c0_i32_4 : BitVec 32 := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let v17 : BitVec 32 := Scalar.addi c0_i32_4 v16
  let v176 : Index := Scalar.indexCast v17
  let c4096 : Index := 4096#32
  ![v176.toNat, 4096]
def k0_off3 (i : grid0.Coords) : Fin 2 → Nat :=
  let c0_i32_4 : BitVec 32 := 0#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c16_i32 : BitVec 32 := 16#32
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let v0 : BitVec 32 := Scalar.divsi arg0 c16_i32
  let c1_i32 : BitVec 32 := 1#32
  let v15 : BitVec 32 := Scalar.subi v0 c1_i32
  let v16 : BitVec 32 := Scalar.select v14 v15 v0
  let v17 : BitVec 32 := Scalar.addi c0_i32_4 v16
  let v182 : Index := Scalar.indexCast v17
  let c3072 : Index := 3072#32
  ![v182.toNat, 3072]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference4Ideal.lean ====
abbrev S8192x256 : Shape := ⟨2, ![8192, 256]⟩
abbrev S8192x1024 : Shape := ⟨2, ![8192, 1024]⟩
abbrev S8x6144 : Shape := ⟨2, ![8, 6144]⟩
abbrev S1x256 : Shape := ⟨2, ![1, 256]⟩
abbrev S1024x1024 : Shape := ⟨2, ![1024, 1024]⟩
abbrev S1x1024 : Shape := ⟨2, ![1, 1024]⟩
abbrev S1024x128 : Shape := ⟨2, ![1024, 128]⟩
abbrev S8192x4x64 : Shape := ⟨3, ![8192, 4, 64]⟩
abbrev S4x64 : Shape := ⟨2, ![4, 64]⟩
abbrev S_ : Shape := ⟨0, ![]⟩
abbrev S8192x4 : Shape := ⟨2, ![8192, 4]⟩
abbrev S8192x4x1 : Shape := ⟨3, ![8192, 4, 1]⟩
abbrev S1x4x64 : Shape := ⟨3, ![1, 4, 64]⟩
abbrev S8192 : Shape := ⟨1, ![8192]⟩
abbrev S8192x1 : Shape := ⟨2, ![8192, 1]⟩
abbrev S8192x128 : Shape := ⟨2, ![8192, 128]⟩

abbrev nBuf : Space → Nat
  | .hbm => 99
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x1024, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x1024, .f32⟩
  | .hbm, ⟨7, _⟩ => ⟨S8x6144, .f32⟩
  | .hbm, ⟨8, _⟩ => ⟨S1x256, .f32⟩
  | .hbm, ⟨9, _⟩ => ⟨S1x256, .f32⟩
  | .hbm, ⟨10, _⟩ => ⟨S1024x1024, .bf16⟩
  | .hbm, ⟨11, _⟩ => ⟨S1x1024, .f32⟩
  | .hbm, ⟨12, _⟩ => ⟨S1024x128, .bf16⟩
  | .hbm, ⟨13, _⟩ => ⟨S8192x256, .f32⟩
  | .hbm, ⟨14, _⟩ => ⟨S8192x4x64, .f32⟩
  | .hbm, ⟨15, _⟩ => ⟨S4x64, .f32⟩
  | .hbm, ⟨16, _⟩ => ⟨S8192x4x64, .f32⟩
  | .hbm, ⟨17, _⟩ => ⟨S_, .f32⟩
  | .hbm, ⟨18, _⟩ => ⟨S8192x4, .f32⟩
  | .hbm, ⟨19, _⟩ => ⟨S8192x4x1, .f32⟩
  | .hbm, ⟨20, _⟩ => ⟨S_, .f32⟩
  | .hbm, ⟨21, _⟩ => ⟨S8192x4x1, .f32⟩
  | .hbm, ⟨22, _⟩ => ⟨S8192x4x1, .f32⟩
  | .hbm, ⟨23, _⟩ => ⟨S_, .f32⟩
  | .hbm, ⟨24, _⟩ => ⟨S8192x4x1, .f32⟩
  | .hbm, ⟨25, _⟩ => ⟨S8192x4x1, .f32⟩
  | .hbm, ⟨26, _⟩ => ⟨S8192x4x1, .f32⟩
  | .hbm, ⟨27, _⟩ => ⟨S8192x4x64, .f32⟩
  | .hbm, ⟨28, _⟩ => ⟨S8192x4x64, .f32⟩
  | .hbm, ⟨29, _⟩ => ⟨S1x4x64, .f32⟩
  | .hbm, ⟨30, _⟩ => ⟨S8192x4x64, .f32⟩
  | .hbm, ⟨31, _⟩ => ⟨S8192x4x64, .f32⟩
  | .hbm, ⟨32, _⟩ => ⟨S8192x256, .f32⟩
  | .hbm, ⟨33, _⟩ => ⟨S8192x256, .f32⟩
  | .hbm, ⟨34, _⟩ => ⟨S8192x256, .f32⟩
  | .hbm, ⟨35, _⟩ => ⟨S8192x256, .f32⟩
  | .hbm, ⟨36, _⟩ => ⟨S_, .f32⟩
  | .hbm, ⟨37, _⟩ => ⟨S8192x256, .f32⟩
  | .hbm, ⟨38, _⟩ => ⟨S8192x256, .f32⟩
  | .hbm, ⟨39, _⟩ => ⟨S_, .f32⟩
  | .hbm, ⟨40, _⟩ => ⟨S8192x256, .f32⟩
  | .hbm, ⟨41, _⟩ => ⟨S8192x256, .f32⟩
  | .hbm, ⟨42, _⟩ => ⟨S8192x256, .f32⟩
  | .hbm, ⟨43, _⟩ => ⟨S8192x4x64, .f32⟩
  | .hbm, ⟨44, _⟩ => ⟨S4x64, .f32⟩
  | .hbm, ⟨45, _⟩ => ⟨S8192x4x64, .f32⟩
  | .hbm, ⟨46, _⟩ => ⟨S_, .f32⟩
  | .hbm, ⟨47, _⟩ => ⟨S8192x4, .f32⟩
  | .hbm, ⟨48, _⟩ => ⟨S8192x4x1, .f32⟩
  | .hbm, ⟨49, _⟩ => ⟨S_, .f32⟩
  | .hbm, ⟨50, _⟩ => ⟨S8192x4x1, .f32⟩
  | .hbm, ⟨51, _⟩ => ⟨S8192x4x1, .f32⟩
  | .hbm, ⟨52, _⟩ => ⟨S_, .f32⟩
  | .hbm, ⟨53, _⟩ => ⟨S8192x4x1, .f32⟩
  | .hbm, ⟨54, _⟩ => ⟨S8192x4x1, .f32⟩
  | .hbm, ⟨55, _⟩ => ⟨S8192x4x1, .f32⟩
  | .hbm, ⟨56, _⟩ => ⟨S8192x4x64, .f32⟩
  | .hbm, ⟨57, _⟩ => ⟨S8192x4x64, .f32⟩
  | .hbm, ⟨58, _⟩ => ⟨S1x4x64, .f32⟩
  | .hbm, ⟨59, _⟩ => ⟨S8192x4x64, .f32⟩
  | .hbm, ⟨60, _⟩ => ⟨S8192x4x64, .f32⟩
  | .hbm, ⟨61, _⟩ => ⟨S_, .f32⟩
  | .hbm, ⟨62, _⟩ => ⟨S8192x4x64, .f32⟩
  | .hbm, ⟨63, _⟩ => ⟨S8192x4x64, .f32⟩
  | .hbm, ⟨64, _⟩ => ⟨S8192x256, .f32⟩
  | .hbm, ⟨65, _⟩ => ⟨S8192x1024, .f32⟩
  | .hbm, ⟨66, _⟩ => ⟨S1x1024, .f32⟩
  | .hbm, ⟨67, _⟩ => ⟨S1024x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S8192x1, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S1x1024, .f32⟩
  | .hbm, ⟨88, _⟩ => ⟨S_, .f32⟩
  | .hbm, ⟨89, _⟩ => ⟨S1x1024, .f32⟩
  | .hbm, ⟨90, _⟩ => ⟨S1x1024, .f32⟩
  | .hbm, ⟨91, _⟩ => ⟨S8192x1024, .f32⟩
  | .hbm, ⟨92, _⟩ => ⟨S8192x1024, .f32⟩
  | .hbm, ⟨93, _⟩ => ⟨S1x1024, .f32⟩
  | .hbm, ⟨94, _⟩ => ⟨S8192x1024, .f32⟩
  | .hbm, ⟨95, _⟩ => ⟨S8192x1024, .f32⟩
  | .hbm, ⟨96, _⟩ => ⟨S8192x1024, .bf16⟩
  | .hbm, ⟨97, _⟩ => ⟨S1024x128, .f32⟩
  | .hbm, ⟨98, _⟩ => ⟨S8192x128, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_8 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]
-- ==== Kernel5.lean ====
abbrev S8192x256 : Shape := ⟨2, ![8192, 256]⟩
abbrev S8192x1024 : Shape := ⟨2, ![8192, 1024]⟩
abbrev S8x6144 : Shape := ⟨2, ![8, 6144]⟩
abbrev S1x256 : Shape := ⟨2, ![1, 256]⟩
abbrev S1024x1024 : Shape := ⟨2, ![1024, 1024]⟩
abbrev S1x1024 : Shape := ⟨2, ![1, 1024]⟩
abbrev S1024x128 : Shape := ⟨2, ![1024, 128]⟩
abbrev S8192x128 : Shape := ⟨2, ![8192, 128]⟩
abbrev S512x256 : Shape := ⟨2, ![512, 256]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 16
  | .vmem => 26
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x1024, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x1024, .f32⟩
  | .hbm, ⟨7, _⟩ => ⟨S8x6144, .f32⟩
  | .hbm, ⟨8, _⟩ => ⟨S1x256, .f32⟩
  | .hbm, ⟨9, _⟩ => ⟨S1x256, .f32⟩
  | .hbm, ⟨10, _⟩ => ⟨S1024x1024, .bf16⟩
  | .hbm, ⟨11, _⟩ => ⟨S1x1024, .f32⟩
  | .hbm, ⟨12, _⟩ => ⟨S1024x128, .bf16⟩
  | .hbm, ⟨13, _⟩ => ⟨S8192x1024, .f32⟩
  | .hbm, ⟨14, _⟩ => ⟨S8192x1024, .bf16⟩
  | .hbm, ⟨15, _⟩ => ⟨S8192x128, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x1024, .f32⟩
  | .local _ .vmem, ⟨13, _⟩ => ⟨S512x1024, .f32⟩
  | .local _ .vmem, ⟨14, _⟩ => ⟨S8x6144, .f32⟩
  | .local _ .vmem, ⟨15, _⟩ => ⟨S1x256, .f32⟩
  | .local _ .vmem, ⟨16, _⟩ => ⟨S1x256, .f32⟩
  | .local _ .vmem, ⟨17, _⟩ => ⟨S1024x1024, .bf16⟩
  | .local _ .vmem, ⟨18, _⟩ => ⟨S1x1024, .f32⟩
  | .local _ .vmem, ⟨19, _⟩ => ⟨S1024x128, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S512x128, .f32⟩
  | .local _ .vmem, ⟨25, _⟩ => ⟨S512x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c1_i32_4 : BitVec 32 := 1#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v17 : BitVec 32 := Scalar.addi c1_i32_4 v16
  let v157 : Index := Scalar.indexCast v17
  let c2048 : Index := 2048#32
  ![v157.toNat, 2048]
def k0_off2 (i : grid0.Coords) : Fin 2 → Nat :=
  let c1_i32_4 : BitVec 32 := 1#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v17 : BitVec 32 := Scalar.addi c1_i32_4 v16
  let v176 : Index := Scalar.indexCast v17
  let c4096 : Index := 4096#32
  ![v176.toNat, 4096]
def k0_off3 (i : grid0.Coords) : Fin 2 → Nat :=
  let c1_i32_4 : BitVec 32 := 1#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v17 : BitVec 32 := Scalar.addi c1_i32_4 v16
  let v182 : Index := Scalar.indexCast v17
  let c3072 : Index := 3072#32
  ![v182.toNat, 3072]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference5Ideal.lean ====
abbrev S8192x256 : Shape := ⟨2, ![8192, 256]⟩
abbrev S8192x1024 : Shape := ⟨2, ![8192, 1024]⟩
abbrev S8x6144 : Shape := ⟨2, ![8, 6144]⟩
abbrev S1x256 : Shape := ⟨2, ![1, 256]⟩
abbrev S1024x1024 : Shape := ⟨2, ![1024, 1024]⟩
abbrev S1x1024 : Shape := ⟨2, ![1, 1024]⟩
abbrev S1024x128 : Shape := ⟨2, ![1024, 128]⟩
abbrev S8192x4x64 : Shape := ⟨3, ![8192, 4, 64]⟩
abbrev S4x64 : Shape := ⟨2, ![4, 64]⟩
abbrev S_ : Shape := ⟨0, ![]⟩
abbrev S8192x4 : Shape := ⟨2, ![8192, 4]⟩
abbrev S8192x4x1 : Shape := ⟨3, ![8192, 4, 1]⟩
abbrev S1x4x64 : Shape := ⟨3, ![1, 4, 64]⟩
abbrev S4x2048x1024 : Shape := ⟨3, ![4, 2048, 1024]⟩
abbrev S4x1024 : Shape := ⟨2, ![4, 1024]⟩
abbrev S4x1x1024 : Shape := ⟨3, ![4, 1, 1024]⟩
abbrev S4x2048 : Shape := ⟨2, ![4, 2048]⟩
abbrev S4x2048x1 : Shape := ⟨3, ![4, 2048, 1]⟩
abbrev S1x1x1024 : Shape := ⟨3, ![1, 1, 1024]⟩
abbrev S8192x128 : Shape := ⟨2, ![8192, 128]⟩

abbrev nBuf : Space → Nat
  | .hbm => 107
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x1024, .f32⟩
  | .hbm, ⟨3, _⟩ => ⟨S8192x256, .f32⟩
  | .hbm, ⟨4, _⟩ => ⟨S8192x256, .f32⟩
  | .hbm, ⟨5, _⟩ => ⟨S8192x256, .f32⟩
  | .hbm, ⟨6, _⟩ => ⟨S8192x1024, .f32⟩
  | .hbm, ⟨7, _⟩ => ⟨S8x6144, .f32⟩
  | .hbm, ⟨8, _⟩ => ⟨S1x256, .f32⟩
  | .hbm, ⟨9, _⟩ => ⟨S1x256, .f32⟩
  | .hbm, ⟨10, _⟩ => ⟨S1024x1024, .bf16⟩
  | .hbm, ⟨11, _⟩ => ⟨S1x1024, .f32⟩
  | .hbm, ⟨12, _⟩ => ⟨S1024x128, .bf16⟩
  | .hbm, ⟨13, _⟩ => ⟨S8192x256, .f32⟩
  | .hbm, ⟨14, _⟩ => ⟨S8192x4x64, .f32⟩
  | .hbm, ⟨15, _⟩ => ⟨S4x64, .f32⟩
  | .hbm, ⟨16, _⟩ => ⟨S8192x4x64, .f32⟩
  | .hbm, ⟨17, _⟩ => ⟨S_, .f32⟩
  | .hbm, ⟨18, _⟩ => ⟨S8192x4, .f32⟩
  | .hbm, ⟨19, _⟩ => ⟨S8192x4x1, .f32⟩
  | .hbm, ⟨20, _⟩ => ⟨S_, .f32⟩
  | .hbm, ⟨21, _⟩ => ⟨S8192x4x1, .f32⟩
  | .hbm, ⟨22, _⟩ => ⟨S8192x4x1, .f32⟩
  | .hbm, ⟨23, _⟩ => ⟨S_, .f32⟩
  | .hbm, ⟨24, _⟩ => ⟨S8192x4x1, .f32⟩
  | .hbm, ⟨25, _⟩ => ⟨S8192x4x1, .f32⟩
  | .hbm, ⟨26, _⟩ => ⟨S8192x4x1, .f32⟩
  | .hbm, ⟨27, _⟩ => ⟨S8192x4x64, .f32⟩
  | .hbm, ⟨28, _⟩ => ⟨S8192x4x64, .f32⟩
  | .hbm, ⟨29, _⟩ => ⟨S1x4x64, .f32⟩
  | .hbm, ⟨30, _⟩ => ⟨S8192x4x64, .f32⟩
  | .hbm, ⟨31, _⟩ => ⟨S8192x4x64, .f32⟩
  | .hbm, ⟨32, _⟩ => ⟨S8192x256, .f32⟩
  | .hbm, ⟨33, _⟩ => ⟨S8192x256, .f32⟩
  | .hbm, ⟨34, _⟩ => ⟨S8192x256, .f32⟩
  | .hbm, ⟨35, _⟩ => ⟨S8192x256, .f32⟩
  | .hbm, ⟨36, _⟩ => ⟨S_, .f32⟩
  | .hbm, ⟨37, _⟩ => ⟨S8192x256, .f32⟩
  | .hbm, ⟨38, _⟩ => ⟨S8192x256, .f32⟩
  | .hbm, ⟨39, _⟩ => ⟨S_, .f32⟩
  | .hbm, ⟨40, _⟩ => ⟨S8192x256, .f32⟩
  | .hbm, ⟨41, _⟩ => ⟨S8192x256, .f32⟩
  | .hbm, ⟨42, _⟩ => ⟨S8192x256, .f32⟩
  | .hbm, ⟨43, _⟩ => ⟨S8192x4x64, .f32⟩
  | .hbm, ⟨44, _⟩ => ⟨S4x64, .f32⟩
  | .hbm, ⟨45, _⟩ => ⟨S8192x4x64, .f32⟩
  | .hbm, ⟨46, _⟩ => ⟨S_, .f32⟩
  | .hbm, ⟨47, _⟩ => ⟨S8192x4, .f32⟩
  | .hbm, ⟨48, _⟩ => ⟨S8192x4x1, .f32⟩
  | .hbm, ⟨49, _⟩ => ⟨S_, .f32⟩
  | .hbm, ⟨50, _⟩ => ⟨S8192x4x1, .f32⟩
  | .hbm, ⟨51, _⟩ => ⟨S8192x4x1, .f32⟩
  | .hbm, ⟨52, _⟩ => ⟨S_, .f32⟩
  | .hbm, ⟨53, _⟩ => ⟨S8192x4x1, .f32⟩
  | .hbm, ⟨54, _⟩ => ⟨S8192x4x1, .f32⟩
  | .hbm, ⟨55, _⟩ => ⟨S8192x4x1, .f32⟩
  | .hbm, ⟨56, _⟩ => ⟨S8192x4x64, .f32⟩
  | .hbm, ⟨57, _⟩ => ⟨S8192x4x64, .f32⟩
  | .hbm, ⟨58, _⟩ => ⟨S1x4x64, .f32⟩
  | .hbm, ⟨59, _⟩ => ⟨S8192x4x64, .f32⟩
  | .hbm, ⟨60, _⟩ => ⟨S8192x4x64, .f32⟩
  | .hbm, ⟨61, _⟩ => ⟨S_, .f32⟩
  | .hbm, ⟨62, _⟩ => ⟨S8192x4x64, .f32⟩
  | .hbm, ⟨63, _⟩ => ⟨S8192x4x64, .f32⟩
  | .hbm, ⟨64, _⟩ => ⟨S8192x256, .f32⟩
  | .hbm, ⟨65, _⟩ => ⟨S8192x1024, .f32⟩
  | .hbm, ⟨66, _⟩ => ⟨S1024x1024, .f32⟩
  | .hbm, ⟨67, _⟩ => ⟨S8192x1024, .f32⟩
  | .hbm, ⟨68, _⟩ => ⟨S4x2048x1024, .f32⟩
  | .hbm, ⟨69, _⟩ => ⟨S4x2048x1024, .f32⟩
  | .hbm, ⟨70, _⟩ => ⟨S4x1024, .f32⟩
  | .hbm, ⟨71, _⟩ => ⟨S4x1x1024, .f32⟩
  | .hbm, ⟨72, _⟩ => ⟨S4x2048x1024, .f32⟩
  | .hbm, ⟨73, _⟩ => ⟨S4x2048x1024, .f32⟩
  | .hbm, ⟨74, _⟩ => ⟨S4x2048x1024, .f32⟩
  | .hbm, ⟨75, _⟩ => ⟨S4x2048x1024, .f32⟩
  | .hbm, ⟨76, _⟩ => ⟨S_, .f32⟩
  | .hbm, ⟨77, _⟩ => ⟨S4x2048, .f32⟩
  | .hbm, ⟨78, _⟩ => ⟨S4x2048x1, .f32⟩
  | .hbm, ⟨79, _⟩ => ⟨S_, .f32⟩
  | .hbm, ⟨80, _⟩ => ⟨S4x2048x1, .f32⟩
  | .hbm, ⟨81, _⟩ => ⟨S4x2048x1, .f32⟩
  | .hbm, ⟨82, _⟩ => ⟨S_, .f32⟩
  | .hbm, ⟨83, _⟩ => ⟨S4x2048x1, .f32⟩
  | .hbm, ⟨84, _⟩ => ⟨S4x2048x1, .f32⟩
  | .hbm, ⟨85, _⟩ => ⟨S4x2048x1, .f32⟩
  | .hbm, ⟨86, _⟩ => ⟨S4x2048x1024, .f32⟩
  | .hbm, ⟨87, _⟩ => ⟨S4x2048x1024, .f32⟩
  | .hbm, ⟨88, _⟩ => ⟨S1x1x1024, .f32⟩
  | .hbm, ⟨89, _⟩ => ⟨S4x2048x1024, .f32⟩
  | .hbm, ⟨90, _⟩ => ⟨S4x2048x1024, .f32⟩
  | .hbm, ⟨91, _⟩ => ⟨S4x1024, .f32⟩
  | .hbm, ⟨92, _⟩ => ⟨S4x1x1024, .f32⟩
  | .hbm, ⟨93, _⟩ => ⟨S_, .f32⟩
  | .hbm, ⟨94, _⟩ => ⟨S4x1x1024, .f32⟩
  | .hbm, ⟨95, _⟩ => ⟨S4x1x1024, .f32⟩
  | .hbm, ⟨96, _⟩ => ⟨S4x2048x1024, .f32⟩
  | .hbm, ⟨97, _⟩ => ⟨S4x2048x1024, .f32⟩
  | .hbm, ⟨98, _⟩ => ⟨S4x1024, .f32⟩
  | .hbm, ⟨99, _⟩ => ⟨S4x1x1024, .f32⟩
  | .hbm, ⟨100, _⟩ => ⟨S4x2048x1024, .f32⟩
  | .hbm, ⟨101, _⟩ => ⟨S4x2048x1024, .f32⟩
  | .hbm, ⟨102, _⟩ => ⟨S8192x1024, .f32⟩
  | .hbm, ⟨103, _⟩ => ⟨S8192x1024, .f32⟩
  | .hbm, ⟨104, _⟩ => ⟨S8192x1024, .bf16⟩
  | .hbm, ⟨105, _⟩ => ⟨S1024x128, .f32⟩
  | .hbm, ⟨106, _⟩ => ⟨S8192x128, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_8 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_11 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩

abbrev nD : Nat := 1
abbrev τ : Topo := Topo.v7x

variable {F : FTy → Type} [FloatOps F]
-- ==== Kernel6.lean ====
abbrev S8192x1024 : Shape := ⟨2, ![8192, 1024]⟩
abbrev S8x6144 : Shape := ⟨2, ![8, 6144]⟩
abbrev S1x1024 : Shape := ⟨2, ![1, 1024]⟩
abbrev S1024x3200 : Shape := ⟨2, ![1024, 3200]⟩
abbrev S1x128 : Shape := ⟨2, ![1, 128]⟩
abbrev S4x256 : Shape := ⟨2, ![4, 256]⟩
abbrev S2048x256 : Shape := ⟨2, ![2048, 256]⟩
abbrev S8192x128 : Shape := ⟨2, ![8192, 128]⟩
abbrev S8192x768 : Shape := ⟨2, ![8192, 768]⟩
abbrev S8192x512 : Shape := ⟨2, ![8192, 512]⟩
abbrev S512x1024 : Shape := ⟨2, ![512, 1024]⟩
abbrev S512x256 : Shape := ⟨2, ![512, 256]⟩
abbrev S512x128 : Shape := ⟨2, ![512, 128]⟩
abbrev S512x768 : Shape := ⟨2, ![512, 768]⟩
abbrev S512x512 : Shape := ⟨2, ![512, 512]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩
abbrev S256x256 : Shape := ⟨2, ![256, 256]⟩
abbrev S256x512 : Shape := ⟨2, ![256, 512]⟩
abbrev S1024x128 : Shape := ⟨2, ![1024, 128]⟩
abbrev S256x128 : Shape := ⟨2, ![256, 128]⟩
abbrev S1024x512 : Shape := ⟨2, ![1024, 512]⟩
abbrev S1024x768 : Shape := ⟨2, ![1024, 768]⟩
abbrev S256x768 : Shape := ⟨2, ![256, 768]⟩
abbrev S1x256 : Shape := ⟨2, ![1, 256]⟩

abbrev nBuf : Space → Nat
  | .hbm => 13
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8x6144, .f32⟩
  | .hbm, ⟨2, _⟩ => ⟨S1x1024, .f32⟩
  | .hbm, ⟨3, _⟩ => ⟨S1024x3200, .bf16⟩
  | .hbm, ⟨4, _⟩ => ⟨S1x128, .f32⟩
  | .hbm, ⟨5, _⟩ => ⟨S4x256, .f32⟩
  | .hbm, ⟨6, _⟩ => ⟨S2048x256, .f32⟩
  | .hbm, ⟨7, _⟩ => ⟨S2048x256, .f32⟩
  | .hbm, ⟨8, _⟩ => ⟨S8192x1024, .f32⟩
  | .hbm, ⟨9, _⟩ => ⟨S8192x128, .f32⟩
  | .hbm, ⟨10, _⟩ => ⟨S8192x768, .f32⟩
  | .hbm, ⟨11, _⟩ => ⟨S8192x512, .f32⟩
  | .hbm, ⟨12, _⟩ => ⟨S8192x768, .f32⟩
  | .local _ .vmem, ⟨0, _⟩ => ⟨S512x1024, .f32⟩
  | .local _ .vmem, ⟨1, _⟩ => ⟨S512x1024, .f32⟩
  | .local _ .vmem, ⟨2, _⟩ => ⟨S8x6144, .f32⟩
  | .local _ .vmem, ⟨3, _⟩ => ⟨S1x1024, .f32⟩
  | .local _ .vmem, ⟨4, _⟩ => ⟨S1024x3200, .bf16⟩
  | .local _ .vmem, ⟨5, _⟩ => ⟨S1x128, .f32⟩
  | .local _ .vmem, ⟨6, _⟩ => ⟨S4x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x1024, .f32⟩
  | .local _ .vmem, ⟨12, _⟩ => ⟨S512x1024, .f32⟩
  | .local _ .vmem, ⟨13, _⟩ => ⟨S512x128, .f32⟩
  | .local _ .vmem, ⟨14, _⟩ => ⟨S512x128, .f32⟩
  | .local _ .vmem, ⟨15, _⟩ => ⟨S512x768, .f32⟩
  | .local _ .vmem, ⟨16, _⟩ => ⟨S512x768, .f32⟩
  | .local _ .vmem, ⟨17, _⟩ => ⟨S512x512, .f32⟩
  | .local _ .vmem, ⟨18, _⟩ => ⟨S512x512, .f32⟩
  | .local _ .vmem, ⟨19, _⟩ => ⟨S512x768, .f32⟩
  | .local _ .vmem, ⟨20, _⟩ => ⟨S512x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c1_i32_4 : BitVec 32 := 1#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v17 : BitVec 32 := Scalar.addi c1_i32_4 v16
  let v18 : Index := Scalar.indexCast v17
  let c0 : Index := 0#32
  ![v18.toNat, 0]
def k0_off2 (i : grid0.Coords) : Fin 2 → Nat :=
  let c1_i32_4 : BitVec 32 := 1#32
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let v17 : BitVec 32 := Scalar.addi c1_i32_4 v16
  let v20 : Index := Scalar.indexCast v17
  let c1024 : Index := 1024#32
  ![v20.toNat, 1024]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference6Ideal.lean ====
abbrev S8192x1024 : Shape := ⟨2, ![8192, 1024]⟩
abbrev S8x6144 : Shape := ⟨2, ![8, 6144]⟩
abbrev S1x1024 : Shape := ⟨2, ![1, 1024]⟩
abbrev S1024x3200 : Shape := ⟨2, ![1024, 3200]⟩
abbrev S1x128 : Shape := ⟨2, ![1, 128]⟩
abbrev S4x256 : Shape := ⟨2, ![4, 256]⟩
abbrev S2048x256 : Shape := ⟨2, ![2048, 256]⟩
abbrev S_ : Shape := ⟨0, ![]⟩
abbrev S8192 : Shape := ⟨1, ![8192]⟩
abbrev S8192x1 : Shape := ⟨2, ![8192, 1]⟩
abbrev S4x2048x1024 : Shape := ⟨3, ![4, 2048, 1024]⟩
abbrev S4x1024 : Shape := ⟨2, ![4, 1024]⟩
abbrev S4x1x1024 : Shape := ⟨3, ![4, 1, 1024]⟩
abbrev S8192x3200 : Shape := ⟨2, ![8192, 3200]⟩
abbrev S8192x128 : Shape := ⟨2, ![8192, 128]⟩
abbrev S8192x16x2x4 : Shape := ⟨4, ![8192, 16, 2, 4]⟩
abbrev S8192x16x1x4 : Shape := ⟨4, ![8192, 16, 1, 4]⟩
abbrev S8192x16x4 : Shape := ⟨3, ![8192, 16, 4]⟩
abbrev S8192x256 : Shape := ⟨2, ![8192, 256]⟩
abbrev S8192x512 : Shape := ⟨2, ![8192, 512]⟩
abbrev S8192x4x64 : Shape := ⟨3, ![8192, 4, 64]⟩
abbrev S1x256 : Shape := ⟨2, ![1, 256]⟩
abbrev S256 : Shape := ⟨1, ![256]⟩
abbrev S4x64 : Shape := ⟨2, ![4, 64]⟩
abbrev S8192x4 : Shape := ⟨2, ![8192, 4]⟩
abbrev S8192x4x1 : Shape := ⟨3, ![8192, 4, 1]⟩
abbrev S1x4x64 : Shape := ⟨3, ![1, 4, 64]⟩
abbrev S8192x8x32 : Shape := ⟨3, ![8192, 8, 32]⟩
abbrev S8x32 : Shape := ⟨2, ![8, 32]⟩
abbrev S8192x8 : Shape := ⟨2, ![8192, 8]⟩
abbrev S8192x8x1 : Shape := ⟨3, ![8192, 8, 1]⟩
abbrev S1x8x32 : Shape := ⟨3, ![1, 8, 32]⟩
abbrev S2048x16x2x8 : Shape := ⟨4, ![2048, 16, 2, 8]⟩
abbrev S8192x768 : Shape := ⟨2, ![8192, 768]⟩
abbrev S4x2048x16x2x8 : Shape := ⟨5, ![4, 2048, 16, 2, 8]⟩
abbrev S4x2048x16x1x8 : Shape := ⟨5, ![4, 2048, 16, 1, 8]⟩
abbrev S4x2048x16x8 : Shape := ⟨4, ![4, 2048, 16, 8]⟩
abbrev S2048x16x1x8 : Shape := ⟨4, ![2048, 16, 1, 8]⟩
abbrev S2048x16x8 : Shape := ⟨3, ![2048, 16, 8]⟩
abbrev S1x2048x16x8 : Shape := ⟨4, ![1, 2048, 16, 8]⟩

abbrev nBuf : Space → Nat
  | .hbm => 230
  | .vmem => 0
  | .smem => 0
  | _ => 0

abbrev hbmTy0_0 (i : Nat) : BufTy := match i % 128 with
  | 0 => ⟨S8192x1024, .f32⟩
  | 1 => ⟨S8x6144, .f32⟩
  | 2 => ⟨S1x1024, .f32⟩
  | 3 => ⟨S1024x3200, .bf16⟩
  | 4 => ⟨S1x128, .f32⟩
  | 5 => ⟨S4x256, .f32⟩
  | 6 => ⟨S2048x256, .f32⟩
  | 7 => ⟨S2048x256, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1024, .f32⟩
  | 20 => ⟨S8192x1024, .f32⟩
  | 21 => ⟨S8192x1024, .f32⟩
  | 22 => ⟨S8192x1024, .f32⟩
  | 23 => ⟨S4x2048x1024, .f32⟩
  | 24 => ⟨S4x1024, .f32⟩
  | 25 => ⟨S4x1x1024, .f32⟩
  | 26 => ⟨S_, .f32⟩
  | 27 => ⟨S4x1x1024, .f32⟩
  | 28 => ⟨S4x1x1024, .f32⟩
  | 29 => ⟨S4x2048x1024, .f32⟩
  | 30 => ⟨S4x2048x1024, .f32⟩
  | 31 => ⟨S4x1024, .f32⟩
  | 32 => ⟨S4x1x1024, .f32⟩
  | 33 => ⟨S4x2048x1024, .f32⟩
  | 34 => ⟨S4x2048x1024, .f32⟩
  | 35 => ⟨S8192x1024, .f32⟩
  | 36 => ⟨S1024x3200, .f32⟩
  | 37 => ⟨S8192x3200, .f32⟩
  | 38 => ⟨S8192x128, .f32⟩
  | 39 => ⟨S8192x128, .f32⟩
  | 40 => ⟨S8192x128, .f32⟩
  | 41 => ⟨S8192x16x2x4, .f32⟩
  | 42 => ⟨S8192x16x1x4, .f32⟩
  | 43 => ⟨S8192x16x4, .f32⟩
  | 44 => ⟨S8192x16x1x4, .f32⟩
  | 45 => ⟨S8192x16x4, .f32⟩
  | 46 => ⟨S8192x16x4, .f32⟩
  | 47 => ⟨S_, .f32⟩
  | 48 => ⟨S8192x16x4, .f32⟩
  | 49 => ⟨S8192x16x4, .f32⟩
  | 50 => ⟨S8192x16x4, .f32⟩
  | 51 => ⟨S8192x16x4, .f32⟩
  | 52 => ⟨S8192x16x4, .i1⟩
  | 53 => ⟨S8192x16x4, .f32⟩
  | 54 => ⟨S8192x16x4, .f32⟩
  | 55 => ⟨S8192x16x4, .f32⟩
  | 56 => ⟨S8192x16x4, .f32⟩
  | 57 => ⟨S8192x16x4, .f32⟩
  | 58 => ⟨S8192x16x4, .f32⟩
  | 59 => ⟨S8192x16x4, .f32⟩
  | 60 => ⟨S8192x16x4, .f32⟩
  | 61 => ⟨S8192x16x4, .f32⟩
  | 62 => ⟨S8192x16x1x4, .f32⟩
  | 63 => ⟨S8192x16x1x4, .f32⟩
  | 64 => ⟨S8192x16x2x4, .f32⟩
  | 65 => ⟨S8192x128, .f32⟩
  | 66 => ⟨S8192x256, .f32⟩
  | 67 => ⟨S8192x256, .f32⟩
  | 68 => ⟨S_, .f32⟩
  | 69 => ⟨S8192x256, .f32⟩
  | 70 => ⟨S8192x256, .f32⟩
  | 71 => ⟨S8192x512, .f32⟩
  | 72 => ⟨S8192x1024, .f32⟩
  | 73 => ⟨S8192x256, .f32⟩
  | 74 => ⟨S8192x4x64, .f32⟩
  | 75 => ⟨S1x256, .f32⟩
  | 76 => ⟨S256, .f32⟩
  | 77 => ⟨S4x64, .f32⟩
  | 78 => ⟨S8192x4x64, .f32⟩
  | 79 => ⟨S_, .f32⟩
  | 80 => ⟨S8192x4, .f32⟩
  | 81 => ⟨S8192x4x1, .f32⟩
  | 82 => ⟨S_, .f32⟩
  | 83 => ⟨S8192x4x1, .f32⟩
  | 84 => ⟨S8192x4x1, .f32⟩
  | 85 => ⟨S_, .f32⟩
  | 86 => ⟨S8192x4x1, .f32⟩
  | 87 => ⟨S8192x4x1, .f32⟩
  | 88 => ⟨S8192x4x1, .f32⟩
  | 89 => ⟨S8192x4x64, .f32⟩
  | 90 => ⟨S8192x4x64, .f32⟩
  | 91 => ⟨S1x4x64, .f32⟩
  | 92 => ⟨S8192x4x64, .f32⟩
  | 93 => ⟨S8192x4x64, .f32⟩
  | 94 => ⟨S8192x256, .f32⟩
  | 95 => ⟨S8192x256, .f32⟩
  | 96 => ⟨S8192x4x64, .f32⟩
  | 97 => ⟨S1x256, .f32⟩
  | 98 => ⟨S256, .f32⟩
  | 99 => ⟨S4x64, .f32⟩
  | 100 => ⟨S8192x4x64, .f32⟩
  | 101 => ⟨S_, .f32⟩
  | 102 => ⟨S8192x4, .f32⟩
  | 103 => ⟨S8192x4x1, .f32⟩
  | 104 => ⟨S_, .f32⟩
  | 105 => ⟨S8192x4x1, .f32⟩
  | 106 => ⟨S8192x4x1, .f32⟩
  | 107 => ⟨S_, .f32⟩
  | 108 => ⟨S8192x4x1, .f32⟩
  | 109 => ⟨S8192x4x1, .f32⟩
  | 110 => ⟨S8192x4x1, .f32⟩
  | 111 => ⟨S8192x4x64, .f32⟩
  | 112 => ⟨S8192x4x64, .f32⟩
  | 113 => ⟨S1x4x64, .f32⟩
  | 114 => ⟨S8192x4x64, .f32⟩
  | 115 => ⟨S8192x4x64, .f32⟩
  | 116 => ⟨S8192x256, .f32⟩
  | 117 => ⟨S8192x256, .f32⟩
  | 118 => ⟨S8192x8x32, .f32⟩
  | 119 => ⟨S1x256, .f32⟩
  | 120 => ⟨S256, .f32⟩
  | 121 => ⟨S8x32, .f32⟩
  | 122 => ⟨S8192x8x32, .f32⟩
  | 123 => ⟨S_, .f32⟩
  | 124 => ⟨S8192x8, .f32⟩
  | 125 => ⟨S8192x8x1, .f32⟩
  | 126 => ⟨S_, .f32⟩
  | 127 => ⟨S8192x8x1, .f32⟩
  | _ => ⟨S8192x1024, .f32⟩

abbrev hbmTy0_1 (i : Nat) : BufTy := match i % 128 with
  | 0 => ⟨S8192x8x1, .f32⟩
  | 1 => ⟨S_, .f32⟩
  | 2 => ⟨S8192x8x1, .f32⟩
  | 3 => ⟨S8192x8x1, .f32⟩
  | 4 => ⟨S8192x8x1, .f32⟩
  | 5 => ⟨S8192x8x32, .f32⟩
  | 6 => ⟨S8192x8x32, .f32⟩
  | 7 => ⟨S1x8x32, .f32⟩
  | 8 => ⟨S8192x8x32, .f32⟩
  | 9 => ⟨S8192x8x32, .f32⟩
  | 10 => ⟨S8192x256, .f32⟩
  | 11 => ⟨S8192x256, .f32⟩
  | 12 => ⟨S8192x8x32, .f32⟩
  | 13 => ⟨S1x256, .f32⟩
  | 14 => ⟨S256, .f32⟩
  | 15 => ⟨S8x32, .f32⟩
  | 16 => ⟨S8192x8x32, .f32⟩
  | 17 => ⟨S_, .f32⟩
  | 18 => ⟨S8192x8, .f32⟩
  | 19 => ⟨S8192x8x1, .f32⟩
  | 20 => ⟨S_, .f32⟩
  | 21 => ⟨S8192x8x1, .f32⟩
  | 22 => ⟨S8192x8x1, .f32⟩
  | 23 => ⟨S_, .f32⟩
  | 24 => ⟨S8192x8x1, .f32⟩
  | 25 => ⟨S8192x8x1, .f32⟩
  | 26 => ⟨S8192x8x1, .f32⟩
  | 27 => ⟨S8192x8x32, .f32⟩
  | 28 => ⟨S8192x8x32, .f32⟩
  | 29 => ⟨S1x8x32, .f32⟩
  | 30 => ⟨S8192x8x32, .f32⟩
  | 31 => ⟨S8192x8x32, .f32⟩
  | 32 => ⟨S8192x256, .f32⟩
  | 33 => ⟨S2048x16x2x8, .f32⟩
  | 34 => ⟨S2048x16x2x8, .f32⟩
  | 35 => ⟨S8192x256, .f32⟩
  | 36 => ⟨S8192x768, .f32⟩
  | 37 => ⟨S8192x512, .f32⟩
  | 38 => ⟨S4x2048x16x2x8, .f32⟩
  | 39 => ⟨S4x2048x16x1x8, .f32⟩
  | 40 => ⟨S4x2048x16x8, .f32⟩
  | 41 => ⟨S4x2048x16x1x8, .f32⟩
  | 42 => ⟨S4x2048x16x8, .f32⟩
  | 43 => ⟨S2048x16x1x8, .f32⟩
  | 44 => ⟨S2048x16x8, .f32⟩
  | 45 => ⟨S1x2048x16x8, .f32⟩
  | 46 => ⟨S4x2048x16x8, .f32⟩
  | 47 => ⟨S4x2048x16x8, .f32⟩
  | 48 => ⟨S2048x16x1x8, .f32⟩
  | 49 => ⟨S2048x16x8, .f32⟩
  | 50 => ⟨S1x2048x16x8, .f32⟩
  | 51 => ⟨S4x2048x16x8, .f32⟩
  | 52 => ⟨S4x2048x16x8, .f32⟩
  | 53 => ⟨S4x2048x16x8, .f32⟩
  | 54 => ⟨S2048x16x1x8, .f32⟩
  | 55 => ⟨S2048x16x8, .f32⟩
  | 56 => ⟨S1x2048x16x8, .f32⟩
  | 57 => ⟨S4x2048x16x8, .f32⟩
  | 58 => ⟨S4x2048x16x8, .f32⟩
  | 59 => ⟨S2048x16x1x8, .f32⟩
  | 60 => ⟨S2048x16x8, .f32⟩
  | 61 => ⟨S1x2048x16x8, .f32⟩
  | 62 => ⟨S4x2048x16x8, .f32⟩
  | 63 => ⟨S4x2048x16x8, .f32⟩
  | 64 => ⟨S4x2048x16x8, .f32⟩
  | 65 => ⟨S4x2048x16x1x8, .f32⟩
  | 66 => ⟨S4x2048x16x1x8, .f32⟩
  | 67 => ⟨S4x2048x16x2x8, .f32⟩
  | 68 => ⟨S8192x256, .f32⟩
  | 69 => ⟨S4x2048x16x2x8, .f32⟩
  | 70 => ⟨S4x2048x16x1x8, .f32⟩
  | 71 => ⟨S4x2048x16x8, .f32⟩
  | 72 => ⟨S4x2048x16x1x8, .f32⟩
  | 73 => ⟨S4x2048x16x8, .f32⟩
  | 74 => ⟨S2048x16x1x8, .f32⟩
  | 75 => ⟨S2048x16x8, .f32⟩
  | 76 => ⟨S1x2048x16x8, .f32⟩
  | 77 => ⟨S4x2048x16x8, .f32⟩
  | 78 => ⟨S4x2048x16x8, .f32⟩
  | 79 => ⟨S2048x16x1x8, .f32⟩
  | 80 => ⟨S2048x16x8, .f32⟩
  | 81 => ⟨S1x2048x16x8, .f32⟩
  | 82 => ⟨S4x2048x16x8, .f32⟩
  | 83 => ⟨S4x2048x16x8, .f32⟩
  | 84 => ⟨S4x2048x16x8, .f32⟩
  | 85 => ⟨S2048x16x1x8, .f32⟩
  | 86 => ⟨S2048x16x8, .f32⟩
  | 87 => ⟨S1x2048x16x8, .f32⟩
  | 88 => ⟨S4x2048x16x8, .f32⟩
  | 89 => ⟨S4x2048x16x8, .f32⟩
  | 90 => ⟨S2048x16x1x8, .f32⟩
  | 91 => ⟨S2048x16x8, .f32⟩
  | 92 => ⟨S1x2048x16x8, .f32⟩
  | 93 => ⟨S4x2048x16x8, .f32⟩
  | 94 => ⟨S4x2048x16x8, .f32⟩
  | 95 => ⟨S4x2048x16x8, .f32⟩
  | 96 => ⟨S4x2048x16x1x8, .f32⟩
  | 97 => ⟨S4x2048x16x1x8, .f32⟩
  | 98 => ⟨S4x2048x16x2x8, .f32⟩
  | 99 => ⟨S8192x256, .f32⟩
  | 100 => ⟨S8192x256, .f32⟩
  | 101 => ⟨S8192x768, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_call0_v0 : Ref sig .tc := ⟨.hbm, 46, rfl⟩
abbrev main_call0_call0_cst : Ref sig .tc := ⟨.hbm, 47, rfl⟩
abbrev main_call0_call0_v0 : Ref sig .tc := ⟨.hbm, 48, rfl⟩
abbrev main_call0_call0_v1 : Ref sig .tc := ⟨.hbm, 49, rfl⟩
abbrev main_call0_call0_v2 : Ref sig .tc := ⟨.hbm, 50, rfl⟩
abbrev main_call0_call0_v3 : Ref sig .tc := ⟨.hbm, 51, rfl⟩
abbrev main_call0_call0_v4 : Ref sig .tc := ⟨.hbm, 52, rfl⟩
abbrev main_call0_call0_v5 : Ref sig .tc := ⟨.hbm, 53, rfl⟩
abbrev main_call0_call0_v6 : Ref sig .tc := ⟨.hbm, 54, rfl⟩
abbrev main_call0_call0_v7 : Ref sig .tc := ⟨.hbm, 55, rfl⟩
abbrev main_call0_call0_v8 : Ref sig .tc := ⟨.hbm, 56, rfl⟩
abbrev main_call0_call0_v9 : Ref sig .tc := ⟨.hbm, 57, rfl⟩
abbrev main_call0_call0_v10 : Ref sig .tc := ⟨.hbm, 58, rfl⟩
abbrev main_call0_call0_v11 : Ref sig .tc := ⟨.hbm, 59, rfl⟩
abbrev main_call0_v1 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_3 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_4 : Ref sig .tc := ⟨.hbm, 79, rfl⟩
abbrev main_v51 : Ref sig .tc := ⟨.hbm, 80, rfl⟩
abbrev main_v52 : Ref sig .tc := ⟨.hbm, 81, rfl⟩
abbrev main_cst_5 : Ref sig .tc := ⟨.hbm, 82, rfl⟩
abbrev main_v53 : Ref sig .tc := ⟨.hbm, 83, rfl⟩
abbrev main_v54 : Ref sig .tc := ⟨.hbm, 84, rfl⟩
abbrev main_cst_6 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_7 : Ref sig .tc := ⟨.hbm, 101, rfl⟩
abbrev main_v70 : Ref sig .tc := ⟨.hbm, 102, rfl⟩
abbrev main_v71 : Ref sig .tc := ⟨.hbm, 103, rfl⟩
abbrev main_cst_8 : Ref sig .tc := ⟨.hbm, 104, rfl⟩
abbrev main_v72 : Ref sig .tc := ⟨.hbm, 105, rfl⟩
abbrev main_v73 : Ref sig .tc := ⟨.hbm, 106, rfl⟩
abbrev main_cst_9 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_10 : Ref sig .tc := ⟨.hbm, 123, rfl⟩
abbrev main_v89 : Ref sig .tc := ⟨.hbm, 124, rfl⟩
abbrev main_v90 : Ref sig .tc := ⟨.hbm, 125, rfl⟩
abbrev main_cst_11 : Ref sig .tc := ⟨.hbm, 126, rfl⟩
abbrev main_v91 : Ref sig .tc := ⟨.hbm, 127, rfl⟩
abbrev main_v92 : Ref sig .tc := ⟨.hbm, 128, rfl⟩
abbrev main_cst_12 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_13 : Ref sig .tc := ⟨.hbm, 145, rfl⟩
abbrev main_v108 : Ref sig .tc := ⟨.hbm, 146, rfl⟩
abbrev main_v109 : Ref sig .tc := ⟨.hbm, 147, rfl⟩
abbrev main_cst_14 : Ref sig .tc := ⟨.hbm, 148, rfl⟩
abbrev main_v110 : Ref sig .tc := ⟨.hbm, 149, rfl⟩
abbrev main_v111 : Ref sig .tc := ⟨.hbm, 150, rfl⟩
abbrev main_cst_15 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩

abbrev nD : Nat := 1
abbrev τ : Topo := Topo.v7x

variable {F : FTy → Type} [FloatOps F]
-- ==== Kernel7.lean ====
abbrev S8192x256 : Shape := ⟨2, ![8192, 256]⟩
abbrev S32x2x256x256 : Shape := ⟨4, ![32, 2, 256, 256]⟩
abbrev S4x32 : Shape := ⟨2, ![4, 32]⟩
abbrev S256x256 : Shape := ⟨2, ![256, 256]⟩
abbrev S1x1x256x256 : Shape := ⟨4, ![1, 1, 256, 256]⟩
abbrev S1x32 : Shape := ⟨2, ![1, 32]⟩
abbrev S1 : Shape := ⟨1, ![1]⟩
abbrev S1x1 : Shape := ⟨2, ![1, 1]⟩
abbrev S256x64 : Shape := ⟨2, ![256, 64]⟩
abbrev S64x256 : Shape := ⟨2, ![64, 256]⟩
abbrev S1x1x256x64 : Shape := ⟨4, ![1, 1, 256, 64]⟩
abbrev S256x32 : Shape := ⟨2, ![256, 32]⟩
abbrev S32x256 : Shape := ⟨2, ![32, 256]⟩
abbrev S256 : Shape := ⟨1, ![256]⟩
abbrev S256x1 : Shape := ⟨2, ![256, 1]⟩

abbrev nBuf : Space → Nat
  | .hbm => 9
  | .vmem => 17
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S32x2x256x256, .f32⟩
  | .hbm, ⟨3, _⟩ => ⟨S32x2x256x256, .f32⟩
  | .hbm, ⟨4, _⟩ => ⟨S32x2x256x256, .f32⟩
  | .hbm, ⟨5, _⟩ => ⟨S32x2x256x256, .f32⟩
  | .hbm, ⟨6, _⟩ => ⟨S4x32, .f32⟩
  | .hbm, ⟨7, _⟩ => ⟨S8192x256, .bf16⟩
  | .hbm, ⟨8, _⟩ => ⟨S8192x256, .f32⟩
  | .local _ .vmem, ⟨0, _⟩ => ⟨S256x256, .f32⟩
  | .local _ .vmem, ⟨1, _⟩ => ⟨S256x256, .f32⟩
  | .local _ .vmem, ⟨2, _⟩ => ⟨S1x1x256x256, .f32⟩
  | .local _ .vmem, ⟨3, _⟩ => ⟨S1x1x256x256, .f32⟩
  | .local _ .vmem, ⟨4, _⟩ => ⟨S1x1x256x256, .f32⟩
  | .local _ .vmem, ⟨5, _⟩ => ⟨S1x1x256x256, .f32⟩
  | .local _ .vmem, ⟨6, _⟩ => ⟨S256x256, .f32⟩
  | .local _ .vmem, ⟨7, _⟩ => ⟨S256x256, .f32⟩
  | .local _ .vmem, ⟨8, _⟩ => ⟨S1x1x256x256, .f32⟩
  | .local _ .vmem, ⟨9, _⟩ => ⟨S1x1x256x256, .f32⟩
  | .local _ .vmem, ⟨10, _⟩ => ⟨S1x1x256x256, .f32⟩
  | .local _ .vmem, ⟨11, _⟩ => ⟨S1x1x256x256, .f32⟩
  | .local _ .vmem, ⟨12, _⟩ => ⟨S4x32, .f32⟩
  | .local _ .vmem, ⟨13, _⟩ => ⟨S256x256, .bf16⟩
  | .local _ .vmem, ⟨14, _⟩ => ⟨S256x256, .bf16⟩
  | .local _ .vmem, ⟨15, _⟩ => ⟨S256x256, .f32⟩
  | .local _ .vmem, ⟨16, _⟩ => ⟨S256x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel7Ideal.lean ====
variable {F : FTy → Type} [FloatOps F] [Named F]
def κ : String → Option EReal := fun
  | "df_qs" => some (((Real.sqrt 32)⁻¹ * (Real.log 2)⁻¹ : ℝ) : EReal)
  | "na_qs" => some (((Real.sqrt 64)⁻¹ * (Real.log 2)⁻¹ : ℝ) : EReal)
  | _ => none
-- ==== Reference7Ideal.lean ====
abbrev S8192x256 : Shape := ⟨2, ![8192, 256]⟩
abbrev S32x2x256x256 : Shape := ⟨4, ![32, 2, 256, 256]⟩
abbrev S4x32 : Shape := ⟨2, ![4, 32]⟩
abbrev S32x256x4x64 : Shape := ⟨4, ![32, 256, 4, 64]⟩
abbrev S32x1x256x256 : Shape := ⟨4, ![32, 1, 256, 256]⟩
abbrev S32x256x256 : Shape := ⟨3, ![32, 256, 256]⟩
abbrev S32x4x256x256 : Shape := ⟨4, ![32, 4, 256, 256]⟩
abbrev S_ : Shape := ⟨0, ![]⟩
abbrev S32x4x256 : Shape := ⟨3, ![32, 4, 256]⟩
abbrev S32x4x256x1 : Shape := ⟨4, ![32, 4, 256, 1]⟩
abbrev S32x4x64x256 : Shape := ⟨4, ![32, 4, 64, 256]⟩
abbrev S32x256x4x2x32 : Shape := ⟨5, ![32, 256, 4, 2, 32]⟩
abbrev S1x32 : Shape := ⟨2, ![1, 32]⟩
abbrev S32 : Shape := ⟨1, ![32]⟩
abbrev S32x4x2x256x256 : Shape := ⟨5, ![32, 4, 2, 256, 256]⟩
abbrev S32x4x2x256 : Shape := ⟨4, ![32, 4, 2, 256]⟩
abbrev S32x4x2x256x1 : Shape := ⟨5, ![32, 4, 2, 256, 1]⟩
abbrev S32x4x1x256x256 : Shape := ⟨5, ![32, 4, 1, 256, 256]⟩

abbrev nBuf : Space → Nat
  | .hbm => 91
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S32x2x256x256, .f32⟩
  | .hbm, ⟨3, _⟩ => ⟨S32x2x256x256, .f32⟩
  | .hbm, ⟨4, _⟩ => ⟨S32x2x256x256, .f32⟩
  | .hbm, ⟨5, _⟩ => ⟨S32x2x256x256, .f32⟩
  | .hbm, ⟨6, _⟩ => ⟨S4x32, .f32⟩
  | .hbm, ⟨7, _⟩ => ⟨S32x256x4x64, .f32⟩
  | .hbm, ⟨8, _⟩ => ⟨S32x1x256x256, .f32⟩
  | .hbm, ⟨9, _⟩ => ⟨S32x256x256, .f32⟩
  | .hbm, ⟨10, _⟩ => ⟨S32x256x4x64, .f32⟩
  | .hbm, ⟨11, _⟩ => ⟨S32x1x256x256, .f32⟩
  | .hbm, ⟨12, _⟩ => ⟨S32x256x256, .f32⟩
  | .hbm, ⟨13, _⟩ => ⟨S32x256x4x64, .f32⟩
  | .hbm, ⟨14, _⟩ => ⟨S32x4x256x256, .f32⟩
  | .hbm, ⟨15, _⟩ => ⟨S_, .f32⟩
  | .hbm, ⟨16, _⟩ => ⟨S32x4x256x256, .f32⟩
  | .hbm, ⟨17, _⟩ => ⟨S32x4x256x256, .f32⟩
  | .hbm, ⟨18, _⟩ => ⟨S_, .f32⟩
  | .hbm, ⟨19, _⟩ => ⟨S32x4x256, .f32⟩
  | .hbm, ⟨20, _⟩ => ⟨S_, .f32⟩
  | .hbm, ⟨21, _⟩ => ⟨S32x4x256, .f32⟩
  | .hbm, ⟨22, _⟩ => ⟨S32x4x256, .f32⟩
  | .hbm, ⟨23, _⟩ => ⟨S32x4x256x1, .f32⟩
  | .hbm, ⟨24, _⟩ => ⟨S32x4x256x256, .f32⟩
  | .hbm, ⟨25, _⟩ => ⟨S32x4x256x256, .f32⟩
  | .hbm, ⟨26, _⟩ => ⟨S32x4x256x256, .f32⟩
  | .hbm, ⟨27, _⟩ => ⟨S_, .f32⟩
  | .hbm, ⟨28, _⟩ => ⟨S32x4x256, .f32⟩
  | .hbm, ⟨29, _⟩ => ⟨S32x4x256x1, .f32⟩
  | .hbm, ⟨30, _⟩ => ⟨S32x4x256x256, .f32⟩
  | .hbm, ⟨31, _⟩ => ⟨S32x4x256x256, .f32⟩
  | .hbm, ⟨32, _⟩ => ⟨S32x4x64x256, .f32⟩
  | .hbm, ⟨33, _⟩ => ⟨S32x256x4x64, .f32⟩
  | .hbm, ⟨34, _⟩ => ⟨S8192x256, .f32⟩
  | .hbm, ⟨35, _⟩ => ⟨S32x256x4x2x32, .f32⟩
  | .hbm, ⟨36, _⟩ => ⟨S32x1x256x256, .f32⟩
  | .hbm, ⟨37, _⟩ => ⟨S32x256x256, .f32⟩
  | .hbm, ⟨38, _⟩ => ⟨S32x256x4x2x32, .f32⟩
  | .hbm, ⟨39, _⟩ => ⟨S32x1x256x256, .f32⟩
  | .hbm, ⟨40, _⟩ => ⟨S32x256x256, .f32⟩
  | .hbm, ⟨41, _⟩ => ⟨S32x256x4x64, .f32⟩
  | .hbm, ⟨42, _⟩ => ⟨S1x32, .f32⟩
  | .hbm, ⟨43, _⟩ => ⟨S32, .f32⟩
  | .hbm, ⟨44, _⟩ => ⟨S1x32, .f32⟩
  | .hbm, ⟨45, _⟩ => ⟨S32, .f32⟩
  | .hbm, ⟨46, _⟩ => ⟨S32, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S1x32, .f32⟩
  | .hbm, ⟨51, _⟩ => ⟨S32, .f32⟩
  | .hbm, ⟨52, _⟩ => ⟨S1x32, .f32⟩
  | .hbm, ⟨53, _⟩ => ⟨S32, .f32⟩
  | .hbm, ⟨54, _⟩ => ⟨S32, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S32x4x2x256x256, .f32⟩
  | .hbm, ⟨62, _⟩ => ⟨S_, .f32⟩
  | .hbm, ⟨63, _⟩ => ⟨S_, .f32⟩
  | .hbm, ⟨64, _⟩ => ⟨S32x4x2x256x256, .f32⟩
  | .hbm, ⟨65, _⟩ => ⟨S32x4x2x256x256, .f32⟩
  | .hbm, ⟨66, _⟩ => ⟨S_, .f32⟩
  | .hbm, ⟨67, _⟩ => ⟨S32x4x2x256, .f32⟩
  | .hbm, ⟨68, _⟩ => ⟨S_, .f32⟩
  | .hbm, ⟨69, _⟩ => ⟨S32x4x2x256, .f32⟩
  | .hbm, ⟨70, _⟩ => ⟨S32x4x2x256, .f32⟩
  | .hbm, ⟨71, _⟩ => ⟨S32x4x2x256x1, .f32⟩
  | .hbm, ⟨72, _⟩ => ⟨S32x4x2x256x256, .f32⟩
  | .hbm, ⟨73, _⟩ => ⟨S32x4x2x256x256, .f32⟩
  | .hbm, ⟨74, _⟩ => ⟨S32x4x2x256x256, .f32⟩
  | .hbm, ⟨75, _⟩ => ⟨S_, .f32⟩
  | .hbm, ⟨76, _⟩ => ⟨S32x4x2x256, .f32⟩
  | .hbm, ⟨77, _⟩ => ⟨S32x4x2x256x1, .f32⟩
  | .hbm, ⟨78, _⟩ => ⟨S32x4x2x256x256, .f32⟩
  | .hbm, ⟨79, _⟩ => ⟨S32x4x2x256x256, .f32⟩
  | .hbm, ⟨80, _⟩ => ⟨S32x4x1x256x256, .f32⟩
  | .hbm, ⟨81, _⟩ => ⟨S32x4x256x256, .f32⟩
  | .hbm, ⟨82, _⟩ => ⟨S32x4x1x256x256, .f32⟩
  | .hbm, ⟨83, _⟩ => ⟨S32x4x256x256, .f32⟩
  | .hbm, ⟨84, _⟩ => ⟨S32x4x256x256, .f32⟩
  | .hbm, ⟨85, _⟩ => ⟨S32x4x256x256, .f32⟩
  | .hbm, ⟨86, _⟩ => ⟨S32x4x256x256, .f32⟩
  | .hbm, ⟨87, _⟩ => ⟨S32x4x64x256, .f32⟩
  | .hbm, ⟨88, _⟩ => ⟨S32x256x4x64, .f32⟩
  | .hbm, ⟨89, _⟩ => ⟨S8192x256, .f32⟩
  | .hbm, ⟨90, _⟩ => ⟨S8192x256, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_9 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== Kernel8.lean ====
abbrev S8x1024 : Shape := ⟨2, ![8, 1024]⟩
abbrev S2x1024x6144 : Shape := ⟨3, ![2, 1024, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8x1024 : Shape := ⟨2, ![8, 1024]⟩
abbrev S2x1024x6144 : Shape := ⟨3, ![2, 1024, 6144]⟩
abbrev S2x6144 : Shape := ⟨2, ![2, 6144]⟩
abbrev S_ : Shape := ⟨0, ![]⟩
abbrev S2x6144x8 : Shape := ⟨3, ![2, 6144, 8]⟩
abbrev S2x8x6144 : Shape := ⟨3, ![2, 8, 6144]⟩
abbrev S2x1x6144 : Shape := ⟨3, ![2, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x6144, .f32⟩
  | .hbm, ⟨2, _⟩ => ⟨S2x6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S2x6144x8, .f32⟩
  | .hbm, ⟨13, _⟩ => ⟨S2x8x6144, .f32⟩
  | .hbm, ⟨14, _⟩ => ⟨S2x1x6144, .f32⟩
  | .hbm, ⟨15, _⟩ => ⟨S2x8x6144, .f32⟩
  | .hbm, ⟨16, _⟩ => ⟨S2x8x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Proof.ExpertsValue.lean ====
/- The experts: what the idealized kernel leaves in its two result arrays is what the reference computes. -/
module

public import proofs.«01_k».proof.Proof.Gen.Kernel2Ideal.Frame
public import proofs.«01_k».proof.Proof.Gen.Reference2Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Experts
open Cert.Kernel2Ideal Cert.Kernel2Ideal.Gen

variable (m : (ℓ : Loc nD τ sig) → Buf (Elt Ideal) ℓ)

/-- Grid point `t` works on expert `t`: every window's block at `t` is the expert's slab of its array, and the
    weights are layer 0's. -/
theorem idx : ∀ t : Fin cfg0.N, win0_0.index t = ![t.val, 0, 0] ∧ win0_1.index t = ![t.val, 0, 0]
    ∧ win0_2.index t = ![t.val, 0, 0] ∧ win0_3.index t = ![t.val, 0, 0]
    ∧ win0_4.index t = ![0, t.val, 0, 0] ∧ win0_5.index t = ![0, t.val, 0, 0] ∧ win0_6.index t = ![0, t.val, 0, 0]
    ∧ win0_7.index t = ![t.val, 0, 0] ∧ win0_8.index t = ![t.val, 0, 0] :=
  (by decide +kernel : ∀ t : Fin grid0.N, _)

open Cert.Reference2Ideal.Read in
/-- What one grid point computes for the context tokens: each of the body's two stores (the upper and the lower 512
    rows of the expert's slab) holds the reference's entries at those rows. -/
theorem point7 (c : Dev nD) (t : Fin cfg0.N) (y : S1x1024x1024.Idx) :
    out0_7 (iblk m c 0 t) (iblk m c 1 t) (iblk m c 2 t) (iblk m c 3 t) (iblk m c 4 t) (iblk m c 5 t) (iblk m c 6 t) y
    = val_main_v15 (F := Ideal) (m ((c : Thread nD τ).loc main_arg0)) (m ((c : Thread nD τ).loc main_arg2))
        (m ((c : Thread nD τ).loc main_arg4)) (m ((c : Thread nD τ).loc main_arg5)) (m ((c : Thread nD τ).loc main_arg6))
        (((cfg0.win 7).blk t).view.emb y) := by
  unfold_out out0_7
  canon_tiles x h
  all_goals
    open_payloads
    pointwise [val_main_v15, val_main_v14, val_main_v11, val_main_v13, val_main_v12, val_main_v8, val_main_v7, val_main_v10,
      val_main_v9, val_main_v6, val_main_v5, val_main_v4, val_main_v3, val_main_v2, val_main_v1, val_main_v0,
      val_main_call0_v5, val_main_call0_v4, val_main_call0_v3, val_main_call0_v2, val_main_call0_v1, val_main_call0_v0,
      val_main_call0_cst, val_main_call0_cst_0]
    simp only [Ideal.logistic]
    blk_point [iblk, V, idx t]

/-- The context result array after the run is what the reference computes from the same arguments. -/
theorem final7 (c : Dev nD) : (dats m 0 c).arrAt 7 (cfgs 0).N
    = Cert.Reference2Ideal.Read.val_main_v15 (F := Ideal) (m ((c : Thread nD τ).loc main_arg0)) (m ((c : Thread nD τ).loc main_arg2))
        (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  exact point7 m c t y

open Cert.Reference2Ideal.Read in
/-- What one grid point computes for the latent tokens: each of the body's two stores (the upper and the lower 512
    rows of the expert's slab) holds the reference's entries at those rows. -/
theorem point8 (c : Dev nD) (t : Fin cfg0.N) (y : S1x1024x1024.Idx) :
    out0_8 (iblk m c 0 t) (iblk m c 1 t) (iblk m c 2 t) (iblk m c 3 t) (iblk m c 4 t) (iblk m c 5 t) (iblk m c 6 t) y
    = val_main_v31 (F := Ideal) (m ((c : Thread nD τ).loc main_arg1)) (m ((c : Thread nD τ).loc main_arg3))
        (m ((c : Thread nD τ).loc main_arg4)) (m ((c : Thread nD τ).loc main_arg5)) (m ((c : Thread nD τ).loc main_arg6))
        (((cfg0.win 8).blk t).view.emb y) := by
  unfold_out out0_8
  canon_tiles x h
  all_goals
    open_payloads
    pointwise [val_main_v31, val_main_v30, val_main_v27, val_main_v29, val_main_v28, val_main_v24, val_main_v23, val_main_v26,
      val_main_v25, val_main_v22, val_main_v21, val_main_v20, val_main_v19, val_main_v18, val_main_v17, val_main_v16,
      val_main_call1_v5, val_main_call1_v4, val_main_call1_v3, val_main_call1_v2, val_main_call1_v1, val_main_call1_v0,
      val_main_call1_cst, val_main_call1_cst_0]
    simp only [Ideal.logistic]
    blk_point [iblk, V, idx t]

/-- The latent result array after the run is what the reference computes from the same arguments. -/
theorem final8 (c : Dev nD) : (dats m 0 c).arrAt 8 (cfgs 0).N
    = Cert.Reference2Ideal.Read.val_main_v31 (F := Ideal) (m ((c : Thread nD τ).loc main_arg1)) (m ((c : Thread nD τ).loc main_arg3))
        (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]
  exact point8 m c t y

end Cert.Kernel2Ideal.Experts
-- ==== Proof.ExpertsClaim.lean ====
/- The experts: the algebraic claim, kernel against reference, and the claim that idealizing kept the text. -/
module

public import proofs.«01_k».proof.Defs
public import proofs.«01_k».proof.Proof.ExpertsValue
public import proofs.«01_k».proof.Proof.Gen.Reference2Ideal.Run
public import Idealize.ShloMosaic.Lib.Claim

@[expose] public section

set_option maxRecDepth 16384

noncomputable section

open Idealize.ShloMosaic Idealize.ShloMosaic.TcCoe Idealize.SL.Sem

namespace Cert.Proof

/-- From equal arguments the idealized kernel and the idealized reference end with equal results in both streams
    (context and latent), whatever the arguments hold. -/
theorem experts_algebraic : Cert.algebraic_Kernel2Ideal_Reference2Ideal (hKernel2Ideal := Cert.Kernel2Ideal.Gen.facts)
    (hReference2Ideal := Cert.Reference2Ideal.Gen.facts) := by
  pair_intro
  · run_from Cert.Kernel2Ideal.Gen.run_main m g
  · hlo_run
    · exact (Cert.Kernel2Ideal.Experts.final7 m c).symm
    · exact (Cert.Kernel2Ideal.Experts.final8 m c).symm

end Cert.Proof
-- ==== Proof.AttnReal.lean ====
/- Softmax-weighted sums over the extended reals, at finite scores and values: whatever finite number is subtracted from
   the scores, and in whichever base the exponential is taken, the quotient is one and the same real number. -/
module

public import Idealize.ShloMosaic.PureOps.Ideal

@[expose] public section

noncomputable section

open Idealize.ShloMosaic

namespace Cert.Softmax

/-- The base-two exponential of a real. -/
theorem exp2_coe (x : ℝ) : Ideal.exp2 (x : EReal) = ((Real.exp (x * Real.log 2) : ℝ) : EReal) := by
  change ((Real.rpow 2 x : ℝ) : EReal) = _
  rw [mul_comm, ← Real.rpow_def_of_pos (by norm_num : (0 : ℝ) < 2)]; rfl

/-- The exponential of a real. -/
theorem exp_coe (x : ℝ) : Ideal.exp (x : EReal) = ((Real.exp x : ℝ) : EReal) := rfl

/-- A quotient of reals with a divisor that is not zero. -/
theorem div_coe (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- A finite sum of reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- An extended real that is neither infinity is a real. -/
theorem lift_real {ι : Type} (f : ι → EReal) (h : ∀ i, f i ≠ ⊤ ∧ f i ≠ ⊥) : ∃ g : ι → ℝ, ∀ i, f i = ((g i : ℝ) : EReal) :=
  ⟨fun i => (f i).toReal, fun i => (EReal.coe_toReal (h i).1 (h i).2).symm⟩

/-- The weights of a softmax over two lists of scores (`a` cached, `b` current), applied to two lists of values. -/
def attn {ι κ : Type} [Fintype ι] [Fintype κ] (a va : ι → ℝ) (b vb : κ → ℝ) : ℝ :=
  (∑ i, Real.exp (a i) * va i + ∑ j, Real.exp (b j) * vb j) / (∑ i, Real.exp (a i) + ∑ j, Real.exp (b j))

/-- The quotient does not change when one number is subtracted from every score. -/
theorem attn_shift {ι κ : Type} [Fintype ι] [Fintype κ] (a va : ι → ℝ) (b vb : κ → ℝ) (M : ℝ) :
    attn (fun i => a i - M) va (fun j => b j - M) vb = attn a va b vb := by
  unfold attn
  simp only [Real.exp_sub, div_mul_eq_mul_div]
  rw [← Finset.sum_div, ← Finset.sum_div, ← Finset.sum_div, ← Finset.sum_div, ← add_div, ← add_div]
  exact div_div_div_cancel_right₀ (Real.exp_pos M).ne' _ _

/-- The greatest of finitely many reals (at least one), as a fold from minus infinity, is a real. -/
theorem max_real {ι : Type} [Fintype ι] [Nonempty ι] (a : ι → ℝ) :
    ∃ M : ℝ, Finset.univ.fold max (⊥ : EReal) (fun i => ((a i : ℝ) : EReal)) = (M : EReal) := by
  classical
  have hb : ∀ s : Finset ι, s.fold max (⊥ : EReal) (fun i => ((a i : ℝ) : EReal)) = s.sup fun i => ((a i : ℝ) : EReal) :=
    fun s => rfl
  rw [hb]
  obtain ⟨i, -, hi⟩ := Finset.exists_mem_eq_sup Finset.univ Finset.univ_nonempty fun i => ((a i : ℝ) : EReal)
  exact ⟨a i, hi⟩

/-- What the kernel computes for one query, one component and one value lane: the exponentials in base two of the scores
    less their maximum, in two groups, against the values and against ones. It is the softmax-weighted sum of the scores
    read in base `e`. -/
theorem two_groups {ι κ : Type} [Fintype ι] [Fintype κ] [Nonempty ι] [Nonempty κ] (a va : ι → ℝ) (b vb : κ → ℝ) (M : ℝ) :
    Ideal.div (∑ i, Ideal.exp2 ((a i : EReal) - (M : EReal)) * (va i : EReal) + ∑ j, Ideal.exp2 ((b j : EReal) - (M : EReal)) * (vb j : EReal))
        (∑ i, Ideal.exp2 ((a i : EReal) - (M : EReal)) + ∑ j, Ideal.exp2 ((b j : EReal) - (M : EReal)))
      = ((attn (fun i => a i * Real.log 2) va (fun j => b j * Real.log 2) vb : ℝ) : EReal) := by
  rw [← attn_shift _ _ _ _ (M * Real.log 2)]
  simp only [← EReal.coe_sub, exp2_coe, ← EReal.coe_mul, sum_coe, ← EReal.coe_add, sub_mul]
  have hp : 0 < ∑ i, Real.exp (a i * Real.log 2 - M * Real.log 2) :=
    Finset.sum_pos (fun i _ => Real.exp_pos _) Finset.univ_nonempty
  have hq : 0 < ∑ j, Real.exp (b j * Real.log 2 - M * Real.log 2) :=
    Finset.sum_pos (fun i _ => Real.exp_pos _) Finset.univ_nonempty
  rw [div_coe _ _ (by positivity)]
  rfl

/-- The softmax-weighted sum over one list of scores. -/
def attn1 {ι : Type} [Fintype ι] (s v : ι → ℝ) : ℝ := (∑ i, Real.exp (s i) * v i) / ∑ i, Real.exp (s i)

/-- One list of `n + p` scores is two lists, the first `n` and the last `p`. -/
theorem attn1_split {n p : ℕ} (s v : Fin (n + p) → ℝ) :
    attn1 s v = attn (fun i => s (Fin.castAdd p i)) (fun i => v (Fin.castAdd p i)) (fun j => s (Fin.natAdd n j))
      (fun j => v (Fin.natAdd n j)) := by
  unfold attn1 attn
  rw [Fin.sum_univ_add, Fin.sum_univ_add]

/-- One softmax weight, with any finite number subtracted from the scores. -/
theorem weight {ι : Type} [Fintype ι] [Nonempty ι] (s : ι → ℝ) (M : ℝ) (i : ι) :
    Ideal.div (Ideal.exp ((s i : EReal) - (M : EReal))) (∑ k, Ideal.exp ((s k : EReal) - (M : EReal)))
      = ((Real.exp (s i) / ∑ k, Real.exp (s k) : ℝ) : EReal) := by
  simp only [← EReal.coe_sub, exp_coe, sum_coe]
  have hp : 0 < ∑ k, Real.exp (s k - M) := Finset.sum_pos (fun i _ => Real.exp_pos _) Finset.univ_nonempty
  rw [div_coe _ _ hp.ne']
  simp only [Real.exp_sub]
  rw [← Finset.sum_div, div_div_div_cancel_right₀ (Real.exp_pos M).ne']

/-- What the reference computes for one query and one value lane: the difference of two softmaxes, the second scaled by
    `l`, against the values. -/
theorem difference {ι : Type} [Fintype ι] [Nonempty ι] (s t v : ι → ℝ) (M N l : ℝ) :
    ∑ i, (Ideal.div (Ideal.exp ((s i : EReal) - (M : EReal))) (∑ k, Ideal.exp ((s k : EReal) - (M : EReal)))
        - (l : EReal) * Ideal.div (Ideal.exp ((t i : EReal) - (N : EReal))) (∑ k, Ideal.exp ((t k : EReal) - (N : EReal)))) * (v i : EReal)
      = ((attn1 s v - l * attn1 t v : ℝ) : EReal) := by
  simp only [weight]
  simp only [← EReal.coe_mul, ← EReal.coe_sub, sum_coe]
  congr 1
  unfold attn1
  rw [Finset.sum_div, Finset.sum_div, Finset.mul_sum, ← Finset.sum_sub_distrib]
  exact Finset.sum_congr rfl fun i _ => by ring

/-- The exponential in base two of the ideal model, by its function. -/
theorem exp2_def (φ : FTy) (x : Ideal φ) : FloatOps.exp2 x = Ideal.exp2 x := rfl

/-- The word of minus infinity. -/
theorem negInf : Ideal.ofBits .f32 4286578688#32 = ⊥ := by simp [Ideal.ofBits, Ideal.ieee]

/-- A rational constant of the layer (the word of 0.2) is a real. -/
theorem point2_real : ∃ r : ℝ, Ideal.ofBits .f32 1045220557#32 = (r : EReal) := by
  simp [Ideal.ofBits, Ideal.ieee, -EReal.coe_mul]

/-- One head component of the kernel: scores of a scaled query against two groups of keys, their common maximum, and the
    quotient of the two sums, is the softmax-weighted sum of the scores scaled by `c · log 2`. -/
theorem component (n p : ℕ) [NeZero n] [NeZero p] (c : ℝ) (q : Fin 32 → ℝ) (k : Fin n → Fin 32 → ℝ) (v : Fin n → ℝ)
    (l : Fin p → Fin 32 → ℝ) (w : Fin p → ℝ) :
    Ideal.div
      (∑ x, Ideal.exp2 (∑ i, (q i : EReal) * (c : EReal) * (k x i : EReal)
          - max (Finset.fold max ⊥ (fun x => ∑ i, (q i : EReal) * (c : EReal) * (k x i : EReal)) Finset.univ)
            (Finset.fold max ⊥ (fun x => ∑ i, (q i : EReal) * (c : EReal) * (l x i : EReal)) Finset.univ)) * (v x : EReal)
        + ∑ x, Ideal.exp2 (∑ i, (q i : EReal) * (c : EReal) * (l x i : EReal)
          - max (Finset.fold max ⊥ (fun x => ∑ i, (q i : EReal) * (c : EReal) * (k x i : EReal)) Finset.univ)
            (Finset.fold max ⊥ (fun x => ∑ i, (q i : EReal) * (c : EReal) * (l x i : EReal)) Finset.univ)) * (w x : EReal))
      (∑ x, Ideal.exp2 (∑ i, (q i : EReal) * (c : EReal) * (k x i : EReal)
          - max (Finset.fold max ⊥ (fun x => ∑ i, (q i : EReal) * (c : EReal) * (k x i : EReal)) Finset.univ)
            (Finset.fold max ⊥ (fun x => ∑ i, (q i : EReal) * (c : EReal) * (l x i : EReal)) Finset.univ))
        + ∑ x, Ideal.exp2 (∑ i, (q i : EReal) * (c : EReal) * (l x i : EReal)
          - max (Finset.fold max ⊥ (fun x => ∑ i, (q i : EReal) * (c : EReal) * (k x i : EReal)) Finset.univ)
            (Finset.fold max ⊥ (fun x => ∑ i, (q i : EReal) * (c : EReal) * (l x i : EReal)) Finset.univ)))
      = ((attn (fun x => (∑ i, q i * k x i) * (c * Real.log 2)) v (fun x => (∑ i, q i * l x i) * (c * Real.log 2)) w : ℝ) : EReal) := by
  simp only [← EReal.coe_mul, sum_coe]
  obtain ⟨M, hM⟩ := max_real fun x => ∑ i, q i * c * k x i
  obtain ⟨N, hN⟩ := max_real fun x => ∑ i, q i * c * l x i
  rw [hM, hN, ← EReal.coe_strictMono.monotone.map_max, two_groups]
  have e : ∀ (z : Fin 32 → ℝ), (∑ i, q i * c * z i) * Real.log 2 = (∑ i, q i * z i) * (c * Real.log 2) := fun z => by
    rw [← mul_assoc, Finset.sum_mul (f := fun i => q i * z i)]
    exact congrArg (· * Real.log 2) (Finset.sum_congr rfl fun i _ => by ring)
  simp only [e]

end Cert.Softmax
-- ==== Proof.DfPre.lean ====
/- The precondition of the differential attention, decoded: every entry of the four arguments is a real number. -/
module

public import proofs.«01_k».proof.Proof.Gen.Pre_finite
public import proofs.«01_k».proof.Proof.AttnReal
public import Idealize.ShloMosaic.Lib.ReduceAll
public import Idealize.ShloMosaic.Lib.WordArith
public import Idealize.ShloMosaic.Lib.Pointwise

@[expose] public section

set_option maxRecDepth 16384

noncomputable section

open Idealize.ShloMosaic

namespace Cert.Pre_finite.Df
open Cert.Pre_finite Cert.Pre_finite.Gen

/-- Both bits of a conjunction that is one are one. -/
theorem both (a b : BitVec 1) (h : IntOp.andi a b = 1#1) : a = 1#1 ∧ b = 1#1 := by
  revert a b; decide

/-- The word of positive infinity is the top of the extended reals. -/
theorem inf_word : Ideal.ofBits .f32 0x7F800000#32 = (⊤ : EReal) := by
  simp [Ideal.ofBits, Ideal.ieee]

/-- A magnitude below the top belongs to a real number. -/
theorem real_of_abs (x : EReal) (h : Ideal.cmp .olt (max x (-x)) ⊤ = 1#1) : x ≠ ⊤ ∧ x ≠ ⊥ := by
  constructor
  all_goals
    rintro rfl
    simp [Ideal.cmp] at h

instance : Subsingleton S_.Idx := ⟨fun a b => funext fun i => i.elim0⟩

/-- Where the precondition holds, no entry of any argument is infinite. -/
theorem entries [Facts] (x0 : S8192x768.Idx → EReal) (x1 x2 : S4x256x256.Idx → EReal) (x3 : S4x32.Idx → EReal)
    (h : Cert.Pre_finite.fn (F := Ideal) x0 x1 x2 x3 = fun _ => 1#1) :
    (∀ y, x0 y ≠ ⊤ ∧ x0 y ≠ ⊥) ∧ (∀ y, x1 y ≠ ⊤ ∧ x1 y ≠ ⊥) ∧ (∀ y, x2 y ≠ ⊤ ∧ x2 y ≠ ⊥) ∧ (∀ y, x3 y ≠ ⊤ ∧ x3 y ≠ ⊥) := by
  have e := congrFun h (Shape.Idx.first Facts.h_S_)
  unfold Cert.Pre_finite.fn Cert.Pre_finite.fn_part1 at e
  obtain ⟨e, e3⟩ := both _ _ e
  obtain ⟨e, e2⟩ := both _ _ e
  obtain ⟨e0, e1⟩ := both _ _ e
  have k0 := Host.reduce_andi_all _ _ _ _ _ e0
  have k1 := Host.reduce_andi_all _ _ _ _ _ e1
  have k2 := Host.reduce_andi_all _ _ _ _ _ e2
  have k3 := Host.reduce_andi_all _ _ _ _ _ e3
  refine ⟨fun y => real_of_abs _ ?_, fun y => real_of_abs _ ?_, fun y => real_of_abs _ ?_, fun y => real_of_abs _ ?_⟩
  · rw [← inf_word]; exact k0 y
  · rw [← inf_word]; exact k1 y
  · rw [← inf_word]; exact k2 y
  · rw [← inf_word]; exact k3 y

/-- A matrix of real numbers, read by natural numbers. -/
theorem table2 {a b : ℕ} (ha : 0 < a) (hb : 0 < b) (x : (⟨2, ![a, b]⟩ : Shape).Idx → EReal) (h : ∀ y, x y ≠ ⊤ ∧ x y ≠ ⊥) :
    ∃ X : ℕ → ℕ → ℝ, ∀ y, x y = ((X (y 0) (y 1) : ℝ) : EReal) := by
  obtain ⟨g, hg⟩ := Cert.Softmax.lift_real x h
  refine ⟨fun i j => g (ix2 ⟨i % a, Nat.mod_lt _ ha⟩ ⟨j % b, Nat.mod_lt _ hb⟩), fun y => ?_⟩
  rw [hg]
  refine congrArg _ (congrArg g ?_)
  refine (eq_ix2 y).trans (congrArg₂ ix2 (Fin.ext ?_) (Fin.ext ?_))
  · exact (Nat.mod_eq_of_lt (y 0).isLt).symm
  · exact (Nat.mod_eq_of_lt (y 1).isLt).symm

/-- A stack of matrices of real numbers, read by natural numbers. -/
theorem table3 {a b d : ℕ} (ha : 0 < a) (hb : 0 < b) (hd : 0 < d) (x : (⟨3, ![a, b, d]⟩ : Shape).Idx → EReal)
    (h : ∀ y, x y ≠ ⊤ ∧ x y ≠ ⊥) : ∃ X : ℕ → ℕ → ℕ → ℝ, ∀ y, x y = ((X (y 0) (y 1) (y 2) : ℝ) : EReal) := by
  obtain ⟨g, hg⟩ := Cert.Softmax.lift_real x h
  refine ⟨fun i j k => g (ix3 ⟨i % a, Nat.mod_lt _ ha⟩ ⟨j % b, Nat.mod_lt _ hb⟩ ⟨k % d, Nat.mod_lt _ hd⟩), fun y => ?_⟩
  rw [hg]
  refine congrArg _ (congrArg g ?_)
  rw [eq_ix3 y]
  congr 1
  · exact Fin.ext (Nat.mod_eq_of_lt (y 0).isLt).symm
  · exact Fin.ext (Nat.mod_eq_of_lt (y 1).isLt).symm
  · exact Fin.ext (Nat.mod_eq_of_lt (y 2).isLt).symm

end Cert.Pre_finite.Df
-- ==== Proof.DfReals.lean ====
/- The differential attention as real mathematics: one output lane, and the real numbers behind finite arguments. -/
module

public import proofs.«01_k».proof.Proof.AttnReal

@[expose] public section

noncomputable section

open Idealize.ShloMosaic

namespace Cert.Softmax

/-- One component of one head: the query row `row` of the projections `X` (its 32 lanes from `o` on) against the 256
    cached keys `KC` and the 2048 keys of the same batch element (lanes 256 on of `X`), both scaled by one over the root
    of 32, and the values' lane `col` (cached in `VC`, current in lanes 512 on of `X`). -/
def half (X : ℕ → ℕ → ℝ) (KC VC : ℕ → ℕ → ℕ → ℝ) (row o col : ℕ) : ℝ :=
  attn (fun j : Fin 256 => (∑ i : Fin 32, X row (o + i) * KC (row / 2048) j (o + i)) * (Real.sqrt 32)⁻¹)
    (fun j => VC (row / 2048) j col)
    (fun j : Fin 2048 => (∑ i : Fin 32, X row (o + i) * X (row / 2048 * 2048 + j) (256 + (o + i))) * (Real.sqrt 32)⁻¹)
    (fun j => X (row / 2048 * 2048 + j) (512 + col))

/-- The differential attention at row `row` and lane `col`: the head's first component less `l` times its second. -/
def diffAttn (X : ℕ → ℕ → ℝ) (KC VC : ℕ → ℕ → ℕ → ℝ) (l : ℝ) (row col : ℕ) : ℝ :=
  half X KC VC row (col / 64 * 64) col - l * half X KC VC row (col / 64 * 64 + 32) col

end Cert.Softmax
-- ==== Proof.DfValue.lean ====
/- The differential attention in the latent stream, kernel side: what the four key and value buffers hold at every grid
   point, what one grid point stores, and what the result array holds after the run. -/
module

public import proofs.«01_k».proof.Proof.Gen.KernelIdeal.Frame
public import proofs.«01_k».proof.Proof.DfReals
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Softmax

namespace Cert.KernelIdeal.Df
open Cert.KernelIdeal Cert.KernelIdeal.Gen

variable (m : (ℓ : Loc nD τ sig) → Buf (Elt Ideal) ℓ)

/-- Grid point `t` reads the `t`-th 512 queries, the keys and values of batch element `t / 4`, that element's cached
    keys and values, and writes the `t`-th 512 rows. -/
theorem idx : ∀ t : Fin cfg0.N, win0_0.index t = ![t.val, 0] ∧ win0_1.index t = ![t.val / 4, 1]
    ∧ win0_2.index t = ![t.val / 4, 2] ∧ win0_3.index t = ![t.val / 4, 0, 0]
    ∧ win0_4.index t = ![t.val / 4, 0, 0] ∧ win0_5.index t = ![0, 0] ∧ win0_6.index t = ![t.val, 0] :=
  (by decide +kernel : ∀ t : Fin grid0.N, _)

/-- Both offsets of a whole rectangle are zero. -/
theorem off0 : ∀ a : Fin 2, (![0, 0] : Fin 2 → ℕ) a = 0 := by decide

/-- The arguments are the real arrays `X` (projections), `KC` and `VC` (cached keys and values). -/
structure Args (c : Dev nD) (X : ℕ → ℕ → ℝ) (KC VC : ℕ → ℕ → ℕ → ℝ) : Prop where
  x : ∀ y, m ((c : Thread nD τ).loc main_arg0) y = ((X (y 0) (y 1) : ℝ) : EReal)
  kc : ∀ y, m ((c : Thread nD τ).loc main_arg1) y = ((KC (y 0) (y 1) (y 2) : ℝ) : EReal)
  vc : ∀ y, m ((c : Thread nD τ).loc main_arg2) y = ((VC (y 0) (y 1) (y 2) : ℝ) : EReal)

variable {m} {c : Dev nD} {X : ℕ → ℕ → ℝ} {KC VC : ℕ → ℕ → ℕ → ℝ}

/-- The query block of grid point `t`. -/
theorem block0 (H : Args m c X KC VC) (t : Fin cfg0.N) (y : S512x256.Idx) :
    iblk m c 0 t y = ((X (t.val * 512 + y 0) (y 1) : ℝ) : EReal) := by
  rw [iblk]; simp only [V]
  blk_simp
  rw [H.x]
  blk_simp [idx t]

/-- The key block of grid point `t`, transposed as the body keeps it. -/
theorem block1 (H : Args m c X KC VC) (t : Fin cfg0.N) (y : S256x2048.Idx) :
    k0_pay2 (iblk m c 1 t) y = ((X (t.val / 4 * 2048 + y 1) (256 + y 0) : ℝ) : EReal) := by
  open_payloads
  pointwise []
  rw [iblk]; simp only [V]
  blk_simp
  rw [H.x]
  blk_simp [idx t]

/-- The value block of grid point `t`. -/
theorem block2 (H : Args m c X KC VC) (t : Fin cfg0.N) (y : S2048x256.Idx) :
    k0_pay3 (iblk m c 2 t) y = ((X (t.val / 4 * 2048 + y 0) (512 + y 1) : ℝ) : EReal) := by
  open_payloads
  pointwise []
  rw [iblk]; simp only [V]
  blk_simp
  rw [H.x]
  blk_simp [idx t]

/-- The cached keys of grid point `t`, transposed as the body keeps them. -/
theorem block3 (H : Args m c X KC VC) (t : Fin cfg0.N) (y : S256x256.Idx) :
    k0_pay4 (iblk m c 3 t) y = ((KC (t.val / 4) (y 1) (y 0) : ℝ) : EReal) := by
  open_payloads
  pointwise []
  rw [iblk]; simp only [V]
  blk_simp
  rw [H.kc]
  blk_simp [idx t]
  rfl

/-- The cached values of grid point `t`. -/
theorem block4 (H : Args m c X KC VC) (t : Fin cfg0.N) (y : S256x256.Idx) :
    k0_pay5 (iblk m c 4 t) y = ((VC (t.val / 4) (y 0) (y 1) : ℝ) : EReal) := by
  open_payloads
  pointwise []
  rw [iblk]; simp only [V]
  blk_simp
  rw [H.vc]
  blk_simp [idx t]
  rfl

/-- What the four kept buffers hold after grid point `n`: keys (transposed) and values of the batch element `n / 4`. -/
structure Kept (m : (ℓ : Loc nD τ sig) → Buf (Elt Ideal) ℓ) (c : Dev nD) (X : ℕ → ℕ → ℝ) (KC VC : ℕ → ℕ → ℕ → ℝ) (n : ℕ)
    (hn : n < cfg0.N) : Prop where
  kl : ∀ y, (outsAt0 m c n hn).2.1 y = ((X (n / 4 * 2048 + y 1) (256 + y 0) : ℝ) : EReal)
  vl : ∀ y, (outsAt0 m c n hn).2.2.1 y = ((X (n / 4 * 2048 + y 0) (512 + y 1) : ℝ) : EReal)
  kc : ∀ y, (outsAt0 m c n hn).2.2.2.1 y = ((KC (n / 4) (y 1) (y 0) : ℝ) : EReal)
  vc : ∀ y, (outsAt0 m c n hn).2.2.2.2 y = ((VC (n / 4) (y 0) (y 1) : ℝ) : EReal)

/-- A grid point that opens a batch element fills the four buffers. -/
theorem kept_first (H : Args m c X KC VC) (t : Fin cfg0.N) (h : t.val % 4 = 0) : Kept m c X KC VC t.val t.isLt where
  kl y := by
    rw [show (outsAt0 m c t.val t.isLt).2.1 = k0_pay2 (iblk m c 1 t) by rw [outsAt0_A m c t h]; frame_out]
    exact block1 H t y
  vl y := by
    rw [show (outsAt0 m c t.val t.isLt).2.2.1 = k0_pay3 (iblk m c 2 t) by rw [outsAt0_A m c t h]; frame_out]
    exact block2 H t y
  kc y := by
    rw [show (outsAt0 m c t.val t.isLt).2.2.2.1 = k0_pay4 (iblk m c 3 t) by rw [outsAt0_A m c t h]; frame_out]
    exact block3 H t y
  vc y := by
    rw [show (outsAt0 m c t.val t.isLt).2.2.2.2 = k0_pay5 (iblk m c 4 t) by rw [outsAt0_A m c t h]; frame_out]
    exact block4 H t y

/-- Any other grid point leaves the four buffers as they were. -/
theorem same_bufs (t : Fin cfg0.N) (h : ¬ t.val % 4 = 0) :
    (outsAt0 m c t.val t.isLt).2 = (outsAt0 m c (t.val - 1) (by have := t.isLt; omega)).2 := by
  rw [outsAt0_B m c t h]
  rfl

/-- The four buffers hold the keys and values of the current batch element at every grid point. -/
theorem kept (H : Args m c X KC VC) : ∀ (n : ℕ) (hn : n < cfg0.N), Kept m c X KC VC n hn
  | n, hn => by
    by_cases h : n % 4 = 0
    · exact kept_first H ⟨n, hn⟩ h
    · have e := same_bufs (m := m) (c := c) ⟨n, hn⟩ h
      have p := kept H (n - 1) (by omega)
      have q : (n - 1) / 4 = n / 4 := by omega
      exact ⟨fun y => by rw [e, p.kl, q], fun y => by rw [e, p.vl, q], fun y => by rw [e, p.kc, q], fun y => by rw [e, p.vc, q]⟩
  termination_by n => n
  decreasing_by omega

end Cert.KernelIdeal.Df
-- ==== Proof.DfPoint.lean ====
/- The differential attention in the latent stream: what one grid point stores, head by head. -/
module

public import proofs.«01_k».proof.Proof.DfValue

@[expose] public section

set_option maxRecDepth 16384

noncomputable section

open Idealize.ShloMosaic Idealize.ShloMosaic.TcCoe Idealize.SL.Sem
open Idealize.ShloMosaic.Pipeline (Dat)
open Cert.Softmax

namespace Cert.KernelIdeal.Df
open Cert.KernelIdeal Cert.KernelIdeal.Gen

variable {m : (ℓ : Loc nD τ sig) → Buf (Elt Ideal) ℓ} {c : Dev nD} {X : ℕ → ℕ → ℝ} {KC VC : ℕ → ℕ → ℕ → ℝ} {l : ℝ}

/-- The kernel's named constant is one over the root of 32 times one over the logarithm of 2. -/
theorem scale : (Named.named (F := Ideal) (φ := .f32) κ "qs" 0x3E8293EE#32 : EReal) = (((Real.sqrt 32)⁻¹ * (Real.log 2)⁻¹ : ℝ) : EReal) :=
  IdealRules.named_const.ideal_named_scalar _ _ _ _ rfl

/-- The constant's logarithm of 2 cancels against the base of the exponential. -/
theorem scale_log : (Real.sqrt 32)⁻¹ * (Real.log 2)⁻¹ * Real.log 2 = (Real.sqrt 32)⁻¹ := by
  rw [mul_assoc, inv_mul_cancel₀ (Real.log_pos one_lt_two).ne', mul_one]

/-- A lane of 256 lies in one of four heads of 64; with the head's first lane. -/
theorem lane_cases (q : Fin 256) : (q.val / 64 * 64 = 0 ∧ ∃ d : Fin 64, q = ⟨d.val, by omega⟩)
    ∨ (q.val / 64 * 64 = 64 ∧ ∃ d : Fin 64, q = ⟨64 + d.val, by omega⟩)
    ∨ (q.val / 64 * 64 = 128 ∧ ∃ d : Fin 64, q = ⟨128 + d.val, by omega⟩)
    ∨ (q.val / 64 * 64 = 192 ∧ ∃ d : Fin 64, q = ⟨192 + d.val, by omega⟩) := by
  have hq := q.isLt
  rcases (by omega : q.val < 64 ∨ (64 ≤ q.val ∧ q.val < 128) ∨ (128 ≤ q.val ∧ q.val < 192) ∨ 192 ≤ q.val) with h | h | h | h
  · exact .inl ⟨by omega, ⟨q.val, h⟩, rfl⟩
  · exact .inr (.inl ⟨by omega, ⟨q.val - 64, by omega⟩, Fin.ext (by simp only; omega)⟩)
  · exact .inr (.inr (.inl ⟨by omega, ⟨q.val - 128, by omega⟩, Fin.ext (by simp only; omega)⟩))
  · exact .inr (.inr (.inr ⟨by omega, ⟨q.val - 192, by omega⟩, Fin.ext (by simp only; omega)⟩))

/-- A lane past the first head, the second and the third, less a head. -/
theorem past (d : Fin 64) : 192 + d.val - 64 = 128 + d.val ∧ 128 + d.val - 64 = 64 + d.val ∧ 64 + d.val - 64 = d.val
    ∧ ¬ 192 + d.val < 64 ∧ ¬ 128 + d.val < 64 ∧ ¬ 64 + d.val < 64 ∧ d.val < 64 :=
  ⟨by omega, by omega, by omega, by omega, by omega, by omega, d.isLt⟩

/-- What one grid point stores, from the buffers it reads: its queries `Q`, the kept keys `KL` and values `VL` of the
    latent tokens, the kept cached keys `KB` and values `VB`, and the second softmax's weight `L`. -/
def stored (Q : Vec Ideal S512x256 .f32) (KL : Vec Ideal S256x2048 .bf16) (VL : Vec Ideal S2048x256 .bf16)
    (KB VB : Vec Ideal S256x256 .bf16) (L : FVec Ideal S1x1 .f32) : FVec Ideal S512x256 .f32 :=
  k0_pay1 L
      (k0_pay19 L
        (k0_pay15 (k0_pay8 (View.ld Q (Rect.unit ![0, 32] ![512, 32] inb_S512x256_S512x32_0_32)))
          (k0_pay10 (View.ld Q (Rect.unit ![0, 32] ![512, 32] inb_S512x256_S512x32_0_32))
            (View.ld KB (Rect.unit ![32, 0] ![32, 256] inb_S256x256_S32x256_32_0)))
          (View.ld KL (Rect.unit ![32, 0] ![32, 2048] inb_S256x2048_S32x2048_32_0)))
        (k0_pay16
          (k0_pay9 (View.ld Q (Rect.unit ![0, 0] ![512, 32] inb_S512x256_S512x32_0_0))
            (View.ld KB (Rect.unit ![0, 0] ![32, 256] inb_S256x256_S32x256_0_0)))
          (k0_pay11 (View.ld Q (Rect.unit ![0, 0] ![512, 32] inb_S512x256_S512x32_0_0))
            (View.ld KL (Rect.unit ![0, 0] ![32, 2048] inb_S256x2048_S32x2048_0_0)))
          (View.ld VB (Rect.unit ![0, 0] ![256, 64] inb_S256x256_S256x64_0_0))
          (View.ld VL (Rect.unit ![0, 0] ![2048, 64] inb_S2048x256_S2048x64_0_0)))
        (k0_pay17 (k0_pay8 (View.ld Q (Rect.unit ![0, 32] ![512, 32] inb_S512x256_S512x32_0_32)))
          (k0_pay10 (View.ld Q (Rect.unit ![0, 32] ![512, 32] inb_S512x256_S512x32_0_32))
            (View.ld KB (Rect.unit ![32, 0] ![32, 256] inb_S256x256_S32x256_32_0)))
          (View.ld KL (Rect.unit ![32, 0] ![32, 2048] inb_S256x2048_S32x2048_32_0)))
        (k0_pay18 (k0_pay8 (View.ld Q (Rect.unit ![0, 32] ![512, 32] inb_S512x256_S512x32_0_32)))
          (k0_pay10 (View.ld Q (Rect.unit ![0, 32] ![512, 32] inb_S512x256_S512x32_0_32))
            (View.ld KB (Rect.unit ![32, 0] ![32, 256] inb_S256x256_S32x256_32_0)))
          (View.ld KL (Rect.unit ![32, 0] ![32, 2048] inb_S256x2048_S32x2048_32_0)))
        (View.ld VB (Rect.unit ![0, 0] ![256, 64] inb_S256x256_S256x64_0_0))
        (View.ld VL (Rect.unit ![0, 0] ![2048, 64] inb_S2048x256_S2048x64_0_0)))
      (k0_pay30 L
        (k0_pay28
          (k0_pay22 (View.ld Q (Rect.unit ![0, 64] ![512, 32] inb_S512x256_S512x32_0_64))
            (View.ld KB (Rect.unit ![64, 0] ![32, 256] inb_S256x256_S32x256_64_0)))
          (k0_pay24 (View.ld Q (Rect.unit ![0, 64] ![512, 32] inb_S512x256_S512x32_0_64))
            (View.ld KL (Rect.unit ![64, 0] ![32, 2048] inb_S256x2048_S32x2048_64_0)))
          (k0_pay26 (View.ld Q (Rect.unit ![0, 64] ![512, 32] inb_S512x256_S512x32_0_64))
            (View.ld KB (Rect.unit ![64, 0] ![32, 256] inb_S256x256_S32x256_64_0))
            (View.ld KL (Rect.unit ![64, 0] ![32, 2048] inb_S256x2048_S32x2048_64_0)))
          (View.ld VB (Rect.unit ![0, 64] ![256, 64] inb_S256x256_S256x64_0_64))
          (View.ld VL (Rect.unit ![0, 64] ![2048, 64] inb_S2048x256_S2048x64_0_64)))
        (k0_pay29
          (k0_pay23 (View.ld Q (Rect.unit ![0, 96] ![512, 32] inb_S512x256_S512x32_0_96))
            (View.ld KB (Rect.unit ![96, 0] ![32, 256] inb_S256x256_S32x256_96_0)))
          (k0_pay25 (View.ld Q (Rect.unit ![0, 96] ![512, 32] inb_S512x256_S512x32_0_96))
            (View.ld KL (Rect.unit ![96, 0] ![32, 2048] inb_S256x2048_S32x2048_96_0)))
          (k0_pay27 (View.ld Q (Rect.unit ![0, 96] ![512, 32] inb_S512x256_S512x32_0_96))
            (View.ld KB (Rect.unit ![96, 0] ![32, 256] inb_S256x256_S32x256_96_0)))
          (View.ld VB (Rect.unit ![0, 64] ![256, 64] inb_S256x256_S256x64_0_64))
          (View.ld VL (Rect.unit ![0, 64] ![2048, 64] inb_S2048x256_S2048x64_0_64))))
      (k0_pay42 L
        (k0_pay36 (View.ld Q (Rect.unit ![0, 160] ![512, 32] inb_S512x256_S512x32_0_160))
          (View.ld KL (Rect.unit ![160, 0] ![32, 2048] inb_S256x2048_S32x2048_160_0)))
        (k0_pay38 (View.ld Q (Rect.unit ![0, 160] ![512, 32] inb_S512x256_S512x32_0_160))
          (View.ld KB (Rect.unit ![160, 0] ![32, 256] inb_S256x256_S32x256_160_0))
          (View.ld KL (Rect.unit ![160, 0] ![32, 2048] inb_S256x2048_S32x2048_160_0)))
        (k0_pay39 (View.ld Q (Rect.unit ![0, 128] ![512, 32] inb_S512x256_S512x32_0_128))
          (View.ld KB (Rect.unit ![128, 0] ![32, 256] inb_S256x256_S32x256_128_0))
          (View.ld KL (Rect.unit ![128, 0] ![32, 2048] inb_S256x2048_S32x2048_128_0)))
        (k0_pay40 (View.ld Q (Rect.unit ![0, 160] ![512, 32] inb_S512x256_S512x32_0_160))
          (View.ld KB (Rect.unit ![160, 0] ![32, 256] inb_S256x256_S32x256_160_0))
          (View.ld KL (Rect.unit ![160, 0] ![32, 2048] inb_S256x2048_S32x2048_160_0)))
        (k0_pay41 (View.ld Q (Rect.unit ![0, 128] ![512, 32] inb_S512x256_S512x32_0_128))
          (View.ld KB (Rect.unit ![128, 0] ![32, 256] inb_S256x256_S32x256_128_0))
          (View.ld KL (Rect.unit ![128, 0] ![32, 2048] inb_S256x2048_S32x2048_128_0)))
        (View.ld VB (Rect.unit ![0, 128] ![256, 64] inb_S256x256_S256x64_0_128))
        (View.ld VL (Rect.unit ![0, 128] ![2048, 64] inb_S2048x256_S2048x64_0_128))
        (View.ld VB (Rect.unit ![0, 128] ![256, 64] inb_S256x256_S256x64_0_128))
        (View.ld VL (Rect.unit ![0, 128] ![2048, 64] inb_S2048x256_S2048x64_0_128)))
      (k0_pay52 (View.ld Q (Rect.unit ![0, 224] ![512, 32] inb_S512x256_S512x32_0_224))
        (View.ld KB (Rect.unit ![224, 0] ![32, 256] inb_S256x256_S32x256_224_0))
        (View.ld KL (Rect.unit ![224, 0] ![32, 2048] inb_S256x2048_S32x2048_224_0)))
      (k0_pay53 (k0_pay43 (View.ld Q (Rect.unit ![0, 192] ![512, 32] inb_S512x256_S512x32_0_192)))
        (View.ld KB (Rect.unit ![192, 0] ![32, 256] inb_S256x256_S32x256_192_0))
        (View.ld KL (Rect.unit ![192, 0] ![32, 2048] inb_S256x2048_S32x2048_192_0)))
      (k0_pay54 (View.ld Q (Rect.unit ![0, 224] ![512, 32] inb_S512x256_S512x32_0_224))
        (View.ld KB (Rect.unit ![224, 0] ![32, 256] inb_S256x256_S32x256_224_0))
        (View.ld KL (Rect.unit ![224, 0] ![32, 2048] inb_S256x2048_S32x2048_224_0)))
      (k0_pay55 (k0_pay43 (View.ld Q (Rect.unit ![0, 192] ![512, 32] inb_S512x256_S512x32_0_192)))
        (View.ld KB (Rect.unit ![192, 0] ![32, 256] inb_S256x256_S32x256_192_0))
        (View.ld KL (Rect.unit ![192, 0] ![32, 2048] inb_S256x2048_S32x2048_192_0)))
      (k0_pay56 (k0_pay43 (View.ld Q (Rect.unit ![0, 192] ![512, 32] inb_S512x256_S512x32_0_192)))
        (View.ld KB (Rect.unit ![192, 0] ![32, 256] inb_S256x256_S32x256_192_0))
        (View.ld KL (Rect.unit ![192, 0] ![32, 2048] inb_S256x2048_S32x2048_192_0)))
      (View.ld VB (Rect.unit ![0, 192] ![256, 64] inb_S256x256_S256x64_0_192))
      (View.ld VL (Rect.unit ![0, 192] ![2048, 64] inb_S2048x256_S2048x64_0_192))
      (View.ld VB (Rect.unit ![0, 192] ![256, 64] inb_S256x256_S256x64_0_192))
      (View.ld VL (Rect.unit ![0, 192] ![2048, 64] inb_S2048x256_S2048x64_0_192))

/-- The buffers a grid point of number `n` reads, as real arrays. -/
structure Reads (Q : Vec Ideal S512x256 .f32) (KL : Vec Ideal S256x2048 .bf16) (VL : Vec Ideal S2048x256 .bf16)
    (KB VB : Vec Ideal S256x256 .bf16) (L : FVec Ideal S1x1 .f32) (X : ℕ → ℕ → ℝ) (KC VC : ℕ → ℕ → ℕ → ℝ) (l : ℝ) (n : ℕ) : Prop where
  q : ∀ y, Q y = ((X (n * 512 + y 0) (y 1) : ℝ) : EReal)
  kl : ∀ y, KL y = ((X (n / 4 * 2048 + y 1) (256 + y 0) : ℝ) : EReal)
  vl : ∀ y, VL y = ((X (n / 4 * 2048 + y 0) (512 + y 1) : ℝ) : EReal)
  kb : ∀ y, KB y = ((KC (n / 4) (y 1) (y 0) : ℝ) : EReal)
  vb : ∀ y, VB y = ((VC (n / 4) (y 0) (y 1) : ℝ) : EReal)
  w : L (ix2 0 0) = (l : EReal)

set_option maxHeartbeats 40000000 in
/-- What one grid point stores, in every row of its block and every lane, is the differential attention of that row; one
    head after the other. -/
theorem stored_eq {Q : Vec Ideal S512x256 .f32} {KL : Vec Ideal S256x2048 .bf16} {VL : Vec Ideal S2048x256 .bf16}
    {KB VB : Vec Ideal S256x256 .bf16} {L : FVec Ideal S1x1 .f32} {n : ℕ} (H : Reads Q KL VL KB VB L X KC VC l n)
    (r : Fin 512) (q : Fin 256) :
    stored Q KL VL KB VB L (ix2 r q) = ((diffAttn X KC VC l (n * 512 + r) q : ℝ) : EReal) := by
  obtain ⟨e0, e1, e2, e3, e4, hl⟩ := H
  have b : (n * 512 + r.val) / 2048 = n / 4 := by omega
  unfold stored
  rcases lane_cases q with ⟨o, d, rfl⟩ | ⟨o, d, rfl⟩ | ⟨o, d, rfl⟩ | ⟨o, d, rfl⟩
  all_goals
    dsimp only at o
    obtain ⟨p1, p2, p3, p4, p5, p6, p7⟩ := past d
    open_payloads
    pointwise []
    simp only [e0, e1, e2, e3, e4, hl, scale, negInf, exp2_def, p1, p2, p3, p4, p5, p6, p7, ↓reduceDIte]
    rw [component, component, ← EReal.coe_mul, ← EReal.coe_sub, scale_log]
    unfold diffAttn half
    simp only [ix2_0, ix2_1, b, o, zero_add, Nat.reduceAdd]

/-- Every grid point's block of the result. The two kinds of grid point differ only in where the kept keys and values
    come from. -/
theorem point (H : Args m c X KC VC) (t : Fin cfg0.N) (hl : k0_pay6 (iblk m c 5 t) (ix2 0 0) = (l : EReal)) (y : S512x256.Idx) :
    (outsAt0 m c t.val t.isLt).1 y = ((diffAttn X KC VC l (t.val * 512 + y 0) (y 1) : ℝ) : EReal) := by
  obtain ⟨r, q, rfl⟩ : ∃ (r : Fin 512) (q : Fin 256), y = ix2 r q := ⟨y 0, y 1, eq_ix2 y⟩
  by_cases h : t.val % 4 = 0
  · rw [outsAt0_A m c t h]
    frame_out
    simp only [View.readCov_fill (s := S256x2048) _ _ _ _ _ off0, View.readCov_fill (s := S2048x256) _ _ _ _ _ off0,
      View.readCov_fill (s := S256x256) _ _ _ _ _ off0]
    exact stored_eq ⟨block0 H t, block1 H t, block2 H t, block3 H t, block4 H t, hl⟩ r q
  · rw [outsAt0_B m c t h]
    have K := kept H (t.val - 1) (by have := t.isLt; omega)
    obtain ⟨e1, e2, e3, e4⟩ := K
    have f : (t.val - 1) / 4 = t.val / 4 := by omega
    simp only [f] at e1 e2 e3 e4
    frame_out
    simp only [read_unread_whole]
    exact stored_eq ⟨block0 H t, e1, e2, e3, e4, hl⟩ r q

end Cert.KernelIdeal.Df
-- ==== Proof.DfFinal.lean ====
/- The differential attention in the latent stream: what the kernel's result array holds after the run. -/
module

public import proofs.«01_k».proof.Proof.DfPoint

@[expose] public section

set_option maxRecDepth 16384

noncomputable section

open Idealize.ShloMosaic Idealize.ShloMosaic.TcCoe Idealize.SL.Sem
open Idealize.ShloMosaic.Pipeline (Dat)
open Cert.Softmax

namespace Cert.KernelIdeal.Df
open Cert.KernelIdeal Cert.KernelIdeal.Gen

variable {m : (ℓ : Loc nD τ sig) → Buf (Elt Ideal) ℓ} {c : Dev nD} {X : ℕ → ℕ → ℝ} {KC VC : ℕ → ℕ → ℕ → ℝ} {l : ℝ}

/-- The result array after the run: every entry is the differential attention of its row. -/
theorem final6 (H : Args m c X KC VC) (hl : ∀ t, k0_pay6 (iblk m c 5 t) (ix2 0 0) = (l : EReal)) :
    (dats m 0 c).arrAt 6 (cfgs 0).N = fun i => ((diffAttn X KC VC l (i 0) (i 1) : ℝ) : EReal) := by
  refine (dats m 0 c).arrAt_eq_of_covers 6 _ (by decide +kernel) fun t _ y => ?_
  blk_simp
  rw [after0_6, point H t (hl t)]
  refine congrArg _ (congrArg₂ (diffAttn X KC VC l) ?_ ?_)
  all_goals
    blk_simp [idx t]

end Cert.KernelIdeal.Df
-- ==== Proof.DfReference.lean ====
/- The differential attention in the latent stream, reference side: one entry of the reference's result, from real arguments. -/
module

public import proofs.«01_k».proof.Proof.Gen.ReferenceIdeal.Read
public import proofs.«01_k».proof.Proof.DfReals
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Softmax

namespace Cert.ReferenceIdeal.Df
open Cert.ReferenceIdeal Cert.ReferenceIdeal.Gen Cert.ReferenceIdeal.Read

/-- The arguments are the real arrays `X` (projections), `KC` and `VC` (cached keys and values). -/
structure Args (x0 : S8192x768.Idx → EReal) (x1 x2 : S4x256x256.Idx → EReal) (X : ℕ → ℕ → ℝ) (KC VC : ℕ → ℕ → ℕ → ℝ) : Prop where
  x : ∀ y, x0 y = ((X (y 0) (y 1) : ℝ) : EReal)
  kc : ∀ y, x1 y = ((KC (y 0) (y 1) (y 2) : ℝ) : EReal)
  vc : ∀ y, x2 y = ((VC (y 0) (y 1) (y 2) : ℝ) : EReal)

/-- Keys or values `j` of batch element `b`, lane `col`: the first 256 are the cached ones, the others are rows of the
    projections, `o` lanes on. -/
def joined (C : ℕ → ℕ → ℕ → ℝ) (X : ℕ → ℕ → ℝ) (o b j col : ℕ) : ℝ :=
  if j < 256 then C b j col else X (b * 2048 + (j - 256)) (o + col)

variable {x0 : S8192x768.Idx → EReal} {x1 x2 : S4x256x256.Idx → EReal} {X : ℕ → ℕ → ℝ} {KC VC : ℕ → ℕ → ℕ → ℝ}

/-- The queries, split into heads and components. -/
theorem queries (H : Args x0 x1 x2 X KC VC) (i : S4x2048x4x2x32.Idx) :
    val_main_v1 (F := Ideal) x0 i = ((X (i 0 * 2048 + i 1) (i 2 * 64 + i 3 * 32 + i 4) : ℝ) : EReal) := by
  rw [val_main_v1_apply, val_main_v0_apply, H.x]
  have h0 : (i 0).val < 4 := (i 0).isLt
  have h1 : (i 1).val < 2048 := (i 1).isLt
  have h2 : (i 2).val < 4 := (i 2).isLt
  have h3 : (i 3).val < 2 := (i 3).isLt
  have h4 : (i 4).val < 32 := (i 4).isLt
  refine congrArg _ (congrArg₂ X ?_ ?_)
  · change (((((i 0).val * 2048 + (i 1).val) * 4 + (i 2).val) * 2 + (i 3).val) * 32 + (i 4).val) / 256 = _
    omega
  · change (((((i 0).val * 2048 + (i 1).val) * 4 + (i 2).val) * 2 + (i 3).val) * 32 + (i 4).val) % 256 = _
    omega

/-- The keys, cached before current, split into heads and components. -/
theorem keys (H : Args x0 x1 x2 X KC VC) (i : S4x2304x4x2x32.Idx) :
    val_main_v5 (F := Ideal) x0 x1 i = ((joined KC X 256 (i 0) (i 1) (i 2 * 64 + i 3 * 32 + i 4) : ℝ) : EReal) := by
  have h0 : (i 0).val < 4 := (i 0).isLt
  have h1 : (i 1).val < 2304 := (i 1).isLt
  have h2 : (i 2).val < 4 := (i 2).isLt
  have h3 : (i 3).val < 2 := (i 3).isLt
  have h4 : (i 4).val < 32 := (i 4).isLt
  unfold joined val_main_v5
  by_cases h : (i 1).val < 256
  · rw [if_pos h]
    refine (concatenate_pair_apply_left (s₁ := S4x256x4x2x32) (s₂ := S4x2048x4x2x32) _ _ _ _ i rfl (ix5 (i 0) ⟨(i 1).val, h⟩ (i 2) (i 3) (i 4)) fun b => by fin_cases b <;> rfl).trans ?_
    rw [val_main_v2_apply, H.kc]
    refine congrArg _ ?_
    have a0 : (((((i 0).val * 256 + (i 1).val) * 4 + (i 2).val) * 2 + (i 3).val) * 32 + (i 4).val) / 65536 = (i 0).val := by omega
    have a1 : (((((i 0).val * 256 + (i 1).val) * 4 + (i 2).val) * 2 + (i 3).val) * 32 + (i 4).val) / 256 % 256 = (i 1).val := by omega
    have a2 : (((((i 0).val * 256 + (i 1).val) * 4 + (i 2).val) * 2 + (i 3).val) * 32 + (i 4).val) % 256
        = (i 2).val * 64 + (i 3).val * 32 + (i 4).val := by omega
    exact (congrArg₂ (fun a b => KC a b _) a0 a1).trans (congrArg (KC _ _) a2)
  · rw [if_neg h]
    refine (concatenate_pair_apply_right (s₁ := S4x256x4x2x32) (s₂ := S4x2048x4x2x32) _ _ _ _ i rfl rfl (ix5 (i 0) ⟨(i 1).val - 256, by omega⟩ (i 2) (i 3) (i 4))
      (fun b hb => by fin_cases b <;> first | rfl | exact absurd rfl hb) (by show (i 1).val - 256 + 256 = (i 1).val; omega)).trans ?_
    rw [val_main_v4_apply, val_main_v3_apply, H.x]
    refine congrArg _ (congrArg₂ X ?_ ?_)
    · change (((((i 0).val * 2048 + ((i 1).val - 256)) * 4 + (i 2).val) * 2 + (i 3).val) * 32 + (i 4).val) / 256 = _
      omega
    · change 256 + (((((i 0).val * 2048 + ((i 1).val - 256)) * 4 + (i 2).val) * 2 + (i 3).val) * 32 + (i 4).val) % 256 = _
      omega

/-- The values, cached before current, split into heads. -/
theorem values (H : Args x0 x1 x2 X KC VC) (i : S4x2304x4x64.Idx) :
    val_main_v9 (F := Ideal) x0 x2 i = ((joined VC X 512 (i 0) (i 1) (i 2 * 64 + i 3) : ℝ) : EReal) := by
  have h0 : (i 0).val < 4 := (i 0).isLt
  have h1 : (i 1).val < 2304 := (i 1).isLt
  have h2 : (i 2).val < 4 := (i 2).isLt
  have h3 : (i 3).val < 64 := (i 3).isLt
  unfold joined val_main_v9
  by_cases h : (i 1).val < 256
  · rw [if_pos h]
    refine (concatenate_pair_apply_left (s₁ := S4x256x4x64) (s₂ := S4x2048x4x64) _ _ _ _ i rfl (ix4 (i 0) ⟨(i 1).val, h⟩ (i 2) (i 3)) fun b => by fin_cases b <;> rfl).trans ?_
    rw [val_main_v6_apply, H.vc]
    refine congrArg _ ?_
    have a0 : ((((i 0).val * 256 + (i 1).val) * 4 + (i 2).val) * 64 + (i 3).val) / 65536 = (i 0).val := by omega
    have a1 : ((((i 0).val * 256 + (i 1).val) * 4 + (i 2).val) * 64 + (i 3).val) / 256 % 256 = (i 1).val := by omega
    have a2 : ((((i 0).val * 256 + (i 1).val) * 4 + (i 2).val) * 64 + (i 3).val) % 256 = (i 2).val * 64 + (i 3).val := by omega
    exact (congrArg₂ (fun a b => VC a b _) a0 a1).trans (congrArg (VC _ _) a2)
  · rw [if_neg h]
    refine (concatenate_pair_apply_right (s₁ := S4x256x4x64) (s₂ := S4x2048x4x64) _ _ _ _ i rfl rfl (ix4 (i 0) ⟨(i 1).val - 256, by omega⟩ (i 2) (i 3))
      (fun b hb => by fin_cases b <;> first | rfl | exact absurd rfl hb) (by show (i 1).val - 256 + 256 = (i 1).val; omega)).trans ?_
    rw [val_main_v8_apply, val_main_v7_apply, H.x]
    refine congrArg _ (congrArg₂ X ?_ ?_)
    · change ((((i 0).val * 2048 + ((i 1).val - 256)) * 4 + (i 2).val) * 64 + (i 3).val) / 256 = _
      omega
    · change 512 + ((((i 0).val * 2048 + ((i 1).val - 256)) * 4 + (i 2).val) * 64 + (i 3).val) % 256 = _
      omega

/-- The scale, one over the root of 32. -/
theorem scale (i : S_.Idx) : val_main_v27 (F := Ideal) i = (((Real.sqrt 32)⁻¹ : ℝ) : EReal) := by
  have e : Ideal.ofBits .f32 0x42000000#32 = ((32 : ℝ) : EReal) := by
    simp [Ideal.ofBits, Ideal.ieee, -EReal.coe_mul]; norm_num
  rw [val_main_v27_apply, val_main_cst_2_apply]
  change Ideal.rsqrt (Ideal.ofBits .f32 0x42000000#32) = _
  rw [e, Ideal.rsqrt_coe]
  norm_num

/-- The score of query `r` against key `j`, in component `s` of head `h` of batch element `b`. -/
def score (X : ℕ → ℕ → ℝ) (KC : ℕ → ℕ → ℕ → ℝ) (b h s r j : ℕ) : ℝ :=
  (∑ k : Fin 32, X (b * 2048 + r) (h * 64 + s * 32 + k) * joined KC X 256 b j (h * 64 + s * 32 + k)) * (Real.sqrt 32)⁻¹

/-- The reference's scores. -/
theorem scores (H : Args x0 x1 x2 X KC VC) (i : S4x4x2x2048x2304.Idx) :
    val_main_v29 (F := Ideal) x0 x1 i = ((score X KC (i 0) (i 1) (i 2) (i 3) (i 4) : ℝ) : EReal) := by
  rw [val_main_v29_apply, val_main_v26_apply, val_main_v28_apply, scale]
  simp only [queries H, keys H, ← EReal.coe_mul, sum_coe, Ideal.mulf_def]
  rfl

/-- The number the reference subtracts from a query's scores is a real. -/
theorem maxima (H : Args x0 x1 x2 X KC VC) (i : S4x4x2x2048.Idx) : ∃ M : ℝ, val_main_v32 (F := Ideal) x0 x1 i = (M : EReal) := by
  rw [val_main_v32_apply, val_main_v31_apply, val_main_cst_4_apply]
  pointwise [val_main_v30, val_main_cst_3]
  simp only [scores H, negInf]
  obtain ⟨M, hM⟩ := max_real fun x : Fin 2304 => score X KC (i 0) (i 1) (i 2) (i 3) x
  exact ⟨M, (max_eq_right bot_le).trans hM⟩

/-- The weight of key `j` for query `r`, in component `s` of head `h` of batch element `b`. -/
def soft (X : ℕ → ℕ → ℝ) (KC : ℕ → ℕ → ℕ → ℝ) (b h s r j : ℕ) : ℝ :=
  Real.exp (score X KC b h s r j) / ∑ k : Fin 2304, Real.exp (score X KC b h s r k)

/-- The reference's softmax weights: the exponential of a score over the sum of the exponentials of all of them. -/
theorem weights (H : Args x0 x1 x2 X KC VC) (b h : Fin 4) (s : Fin 2) (r : Fin 2048) (j : Fin 2304) :
    val_main_v40 (F := Ideal) x0 x1 (ix5 b h s r j) = ((soft X KC b h s r j : ℝ) : EReal) := by
  obtain ⟨M, hM⟩ := maxima H (ix4 b h s r)
  have u : ∀ k : Fin 2304, idx_main_v33 (idx_main_v34 (ix5 b h s r k)) = ix4 b h s r := fun k => by
    funext a
    fin_cases a <;> rfl
  have e : ∀ k : Fin 2304, val_main_v36 (F := Ideal) x0 x1 (ix5 b h s r k)
      = Ideal.exp ((score X KC b h s r k : EReal) - (M : EReal)) := fun k => by
    rw [val_main_v36_apply, val_main_v35_apply, val_main_v34_apply, val_main_v33_apply, u k, hM, scores H,
      Ideal.hostUnary_exp_def, Ideal.subf_def]
    rfl
  have z : val_main_cst_5 (F := Ideal) (Shape.Idx.first h_S_) = (0 : EReal) := by
    rw [val_main_cst_5_apply]
    change Ideal.ofBits .f32 0x00000000#32 = 0
    simp [Ideal.ofBits, Ideal.ieee]
  have v : ∀ k : Fin 2304, idx_main_v37 (idx_main_v38 (idx_main_v39 (ix5 b h s r j))) k = ix5 b h s r k := fun k => by
    funext a
    fin_cases a <;> rfl
  refine Eq.trans ?_ (weight (fun k : Fin 2304 => score X KC b h s r k) M j)
  rw [val_main_v40_apply, val_main_v39_apply, val_main_v38_apply, val_main_v37_apply, z, zero_add, Ideal.hostDivf_def]
  simp only [v, e]

/-- The first component's weights. -/
theorem first (H : Args x0 x1 x2 X KC VC) (b h : Fin 4) (r : Fin 2048) (j : Fin 2304) :
    val_main_v42 (F := Ideal) x0 x1 (ix4 b h r j) = ((soft X KC b h 0 r j : ℝ) : EReal) := by
  unfold val_main_v42
  refine (shapeCast_apply _ shapeCasts_S4x4x1x2048x2304_S4x4x2048x2304 (ix4 b h r j) (ix5 b h 0 r j) ?_).trans ?_
  · rw [Shape.rowMajor_val_five, Shape.rowMajor_val_four]
    show ((((b.val * 4 + h.val) * 1 + 0) * 2048 + r.val) * 2304 + j.val) = _
    rw [mul_one, add_zero]
    rfl
  · have w : idx_main_v41 (ix5 b h 0 r j) = ix5 b h 0 r j := by
      funext a
      fin_cases a <;> rfl
    rw [val_main_v41_apply, w, weights H]
    rfl

/-- The second component's weights. -/
theorem second (H : Args x0 x1 x2 X KC VC) (b h : Fin 4) (r : Fin 2048) (j : Fin 2304) :
    val_main_v44 (F := Ideal) x0 x1 (ix4 b h r j) = ((soft X KC b h 1 r j : ℝ) : EReal) := by
  unfold val_main_v44
  refine (shapeCast_apply _ shapeCasts_S4x4x1x2048x2304_S4x4x2048x2304 (ix4 b h r j) (ix5 b h 0 r j) ?_).trans ?_
  · rw [Shape.rowMajor_val_five, Shape.rowMajor_val_four]
    show ((((b.val * 4 + h.val) * 1 + 0) * 2048 + r.val) * 2304 + j.val) = _
    rw [mul_one, add_zero]
    rfl
  · have w : idx_main_v43 (ix5 b h 0 r j) = ix5 b h 1 r j := by
      funext a
      fin_cases a <;> rfl
    rw [val_main_v43_apply, w, weights H]
    rfl

/-- The weighted values of one component are the layer's softmax over cached and current keys. -/
theorem half_eq (X : ℕ → ℕ → ℝ) (KC VC : ℕ → ℕ → ℕ → ℝ) (b h s r d : ℕ) (hr : r < 2048) :
    attn1 (fun j : Fin 2304 => score X KC b h s r j) (fun j => joined VC X 512 b j (h * 64 + d))
      = half X KC VC (b * 2048 + r) (h * 64 + s * 32) (h * 64 + d) := by
  refine (attn1_split (n := 256) (p := 2048) (fun j => score X KC b h s r j) fun j => joined VC X 512 b j (h * 64 + d)).trans ?_
  have e : (b * 2048 + r) / 2048 = b := by omega
  unfold half score joined
  simp only [Fin.val_castAdd, Fin.val_natAdd, Fin.is_lt, ↓reduceIte, e, Nat.not_lt, Nat.le_add_right, not_lt.mpr, Nat.add_sub_cancel_left]

/-- The weights' index that an entry of the result reads: batch element, head, query. -/
theorem place_w (i : S8192x256.Idx) (k : Fin 2304) : ridx_main_v48 (idx_main_v49 (idx_main_v50 i)) k
    = ix4 ⟨(i 0).val / 2048, by have := (i 0).isLt; change (i 0).val < 8192 at this; omega⟩
        ⟨(i 1).val / 64, by have := (i 1).isLt; change (i 1).val < 256 at this; omega⟩
        ⟨(i 0).val % 2048, by omega⟩ k := by
  have h0 : (i 0).val < 8192 := (i 0).isLt
  have h1 : (i 1).val < 256 := (i 1).isLt
  funext a
  refine Fin.ext ?_
  fin_cases a
  · change ((i 0).val * 256 + (i 1).val) / 524288 = (i 0).val / 2048
    omega
  · change ((i 0).val * 256 + (i 1).val) / 64 % 4 = (i 1).val / 64
    omega
  · change ((i 0).val * 256 + (i 1).val) / 256 % 2048 = (i 0).val % 2048
    omega
  · rfl

/-- The values' index that an entry of the result reads: batch element, head, lane. -/
theorem place_v (i : S8192x256.Idx) (k : Fin 2304) : lidx_main_v48 (idx_main_v49 (idx_main_v50 i)) k
    = ix4 ⟨(i 0).val / 2048, by have := (i 0).isLt; change (i 0).val < 8192 at this; omega⟩ k
        ⟨(i 1).val / 64, by have := (i 1).isLt; change (i 1).val < 256 at this; omega⟩ ⟨(i 1).val % 64, by omega⟩ := by
  have h0 : (i 0).val < 8192 := (i 0).isLt
  have h1 : (i 1).val < 256 := (i 1).isLt
  funext a
  refine Fin.ext ?_
  fin_cases a
  · change ((i 0).val * 256 + (i 1).val) / 524288 = (i 0).val / 2048
    omega
  · rfl
  · change ((i 0).val * 256 + (i 1).val) / 64 % 4 = (i 1).val / 64
    omega
  · change ((i 0).val * 256 + (i 1).val) % 64 = (i 1).val % 64
    omega

/-- The sum of weighted values over all keys, by components. -/
theorem collect (X : ℕ → ℕ → ℝ) (KC : ℕ → ℕ → ℕ → ℝ) (l : ℝ) (b h r : ℕ) (v : Fin 2304 → ℝ) :
    ∑ k, v k * (soft X KC b h 0 r k - l * soft X KC b h 1 r k)
      = attn1 (fun k : Fin 2304 => score X KC b h 0 r k) v - l * attn1 (fun k : Fin 2304 => score X KC b h 1 r k) v := by
  unfold attn1 soft
  rw [Finset.sum_div, Finset.sum_div, Finset.mul_sum, ← Finset.sum_sub_distrib]
  exact Finset.sum_congr rfl fun k _ => by ring

/-- One key's part of an entry of the result. -/
theorem summand (H : Args x0 x1 x2 X KC VC) (x3 : S4x32.Idx → EReal) (l : ℝ) (hl : ∀ j, val_main_v25 (F := Ideal) x3 j = (l : EReal))
    (i : S8192x256.Idx) (k : Fin 2304) :
    val_main_v9 (F := Ideal) x0 x2 (lidx_main_v48 (idx_main_v49 (idx_main_v50 i)) k)
        * val_main_v47 (F := Ideal) x0 x1 x3 (ridx_main_v48 (idx_main_v49 (idx_main_v50 i)) k)
      = ((joined VC X 512 ((i 0).val / 2048) k ((i 1).val / 64 * 64 + (i 1).val % 64)
          * (soft X KC ((i 0).val / 2048) ((i 1).val / 64) 0 ((i 0).val % 2048) k
            - l * soft X KC ((i 0).val / 2048) ((i 1).val / 64) 1 ((i 0).val % 2048) k) : ℝ) : EReal) := by
  rw [place_w, place_v, values H, val_main_v47_apply, val_main_v46_apply, val_main_v45_apply, first H, second H, hl, Ideal.mulf_def,
    Ideal.subf_def, EReal.coe_mul, EReal.coe_sub, EReal.coe_mul]
  rfl

/-- One entry of the reference's result, from real arguments. -/
theorem result (H : Args x0 x1 x2 X KC VC) (x3 : S4x32.Idx → EReal) (l : ℝ) (hl : ∀ j, val_main_v25 (F := Ideal) x3 j = (l : EReal))
    (i : S8192x256.Idx) : val_main_v50 (F := Ideal) x0 x1 x2 x3 i = ((diffAttn X KC VC l (i 0) (i 1) : ℝ) : EReal) := by
  rw [val_main_v50_apply, val_main_v49_apply, val_main_v48_apply, Finset.sum_congr rfl fun k _ => summand H x3 l hl i k, sum_coe,
    collect, half_eq _ _ _ _ _ _ _ _ (Nat.mod_lt _ (by norm_num)), half_eq _ _ _ _ _ _ _ _ (Nat.mod_lt _ (by norm_num))]
  have b0 : (i 0).val / 2048 * 2048 + (i 0).val % 2048 = (i 0).val := by omega
  have b1 : (i 1).val / 64 * 64 + (i 1).val % 64 = (i 1).val := by omega
  rw [b0, b1, zero_mul, add_zero, one_mul, ← diffAttn]

end Cert.ReferenceIdeal.Df
-- ==== Proof.DfLambda.lean ====
/- The differential attention: the weight of the second softmax, computed alike by the kernel and the reference, is one
   real number when the learned vectors are real. -/
module

public import proofs.«01_k».proof.Proof.DfValue
public import proofs.«01_k».proof.Proof.DfReference

@[expose] public section

set_option maxRecDepth 16384

noncomputable section

open Idealize.ShloMosaic Idealize.ShloMosaic.TcCoe Idealize.SL.Sem
open Idealize.ShloMosaic.Pipeline (Dat)
open Cert.Softmax

namespace Cert.Softmax

/-- The weight of the second softmax: a difference of two exponentials of dot products of the learned vectors, plus a
    constant `r`. -/
def lam (L : ℕ → ℕ → ℝ) (r : ℝ) : ℝ :=
  Real.exp (∑ k : Fin 32, L 0 k * L 1 k) - Real.exp (∑ k : Fin 32, L 2 k * L 3 k) + r

end Cert.Softmax

namespace Cert.KernelIdeal.Df
open Cert.KernelIdeal Cert.KernelIdeal.Gen

/-- The kernel's weight, at every grid point. -/
theorem lambda {m : (ℓ : Loc nD τ sig) → Buf (Elt Ideal) ℓ} {c : Dev nD} {L : ℕ → ℕ → ℝ} {r : ℝ}
    (hr : Ideal.ofBits .f32 1045220557#32 = (r : EReal))
    (hL : ∀ y, m ((c : Thread nD τ).loc main_arg3) y = ((L (y 0) (y 1) : ℝ) : EReal)) (t : Fin cfg0.N) :
    k0_pay6 (iblk m c 5 t) (ix2 0 0) = ((lam L r : ℝ) : EReal) := by
  have e : ∀ y, iblk m c 5 t y = ((L (y 0) (y 1) : ℝ) : EReal) := fun y => by
    rw [iblk]; simp only [V]
    blk_simp
    rw [hL]
    blk_simp [idx t]
  open_payloads
  pointwise [hr]
  simp only [e, ← EReal.coe_mul, sum_coe, exp_coe, ← EReal.coe_sub, ← EReal.coe_add]
  rfl

end Cert.KernelIdeal.Df

namespace Cert.ReferenceIdeal.Df
open Cert.ReferenceIdeal Cert.ReferenceIdeal.Gen Cert.ReferenceIdeal.Read

/-- The reference's weight. -/
theorem lambda {x3 : S4x32.Idx → EReal} {L : ℕ → ℕ → ℝ} {r : ℝ} (hr : Ideal.ofBits .f32 1045220557#32 = (r : EReal))
    (hL : ∀ y, x3 y = ((L (y 0) (y 1) : ℝ) : EReal)) (j : S_.Idx) :
    val_main_v25 (F := Ideal) x3 j = ((lam L r : ℝ) : EReal) := by
  have a : ∀ i, val_main_v14 (F := Ideal) x3 i = ((L 0 (i 0) * L 1 (i 0) : ℝ) : EReal) := fun i => by
    rw [val_main_v14_apply, val_main_v11_apply, val_main_v10_apply, val_main_v13_apply, val_main_v12_apply, hL, hL,
      Ideal.mulf_def, ← EReal.coe_mul]
    have h : (i 0).val % 32 = (i 0).val := Nat.mod_eq_of_lt (i 0).isLt
    exact congrArg _ (congrArg₂ _ (congrArg (L _) h) (congrArg (L _) h))
  have b : ∀ i, val_main_v21 (F := Ideal) x3 i = ((L 2 (i 0) * L 3 (i 0) : ℝ) : EReal) := fun i => by
    rw [val_main_v21_apply, val_main_v18_apply, val_main_v17_apply, val_main_v20_apply, val_main_v19_apply, hL, hL,
      Ideal.mulf_def, ← EReal.coe_mul]
    have h : (i 0).val % 32 = (i 0).val := Nat.mod_eq_of_lt (i 0).isLt
    exact congrArg _ (congrArg₂ _ (congrArg (L _) h) (congrArg (L _) h))
  pointwise [val_main_v25, val_main_v24, val_main_v23, val_main_v22, val_main_v16, val_main_v15, val_main_cst, val_main_cst_0,
    val_main_cst_1, a, b, hr]
  simp only [sum_coe, exp_coe, ← EReal.coe_sub, ← EReal.coe_add]
  rfl

end Cert.ReferenceIdeal.Df
-- ==== Proof.DfClaim.lean ====
/- The differential attention in the latent stream: the algebraic claim, kernel against reference. -/
module

public import proofs.«01_k».proof.Defs
public import proofs.«01_k».proof.Proof.DfPre
public import proofs.«01_k».proof.Proof.DfFinal
public import proofs.«01_k».proof.Proof.DfLambda
public import proofs.«01_k».proof.Proof.Gen.ReferenceIdeal.Run
public import Idealize.ShloMosaic.Lib.Claim

@[expose] public section

set_option maxRecDepth 16384

noncomputable section

open Idealize.ShloMosaic Idealize.ShloMosaic.TcCoe Idealize.SL.Sem
open Cert.Softmax

namespace Cert.Proof

/-- From real arguments, what the kernel's result array holds after the run is what the reference computes. -/
theorem df_values (m : (ℓ : Loc Cert.KernelIdeal.nD Cert.KernelIdeal.τ Cert.KernelIdeal.sig) → Buf (Elt Ideal) ℓ)
    (c : Dev Cert.KernelIdeal.nD) (h : Cert.Pre_KernelIdeal_finite (hPre_finite := Cert.Pre_finite.Gen.facts) m) :
    (Cert.KernelIdeal.Gen.dats m 0 c).arrAt 6 (Cert.KernelIdeal.cfgs 0).N
      = Cert.ReferenceIdeal.Read.val_main_v50 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3)) := by
  obtain ⟨h0, h1, h2, h3⟩ := Cert.Pre_finite.Df.entries _ _ _ _ (h c)
  obtain ⟨X, hX⟩ := Cert.Pre_finite.Df.table2 (by norm_num) (by norm_num) _ h0
  obtain ⟨KC, hK⟩ := Cert.Pre_finite.Df.table3 (by norm_num) (by norm_num) (by norm_num) _ h1
  obtain ⟨VC, hV⟩ := Cert.Pre_finite.Df.table3 (by norm_num) (by norm_num) (by norm_num) _ h2
  obtain ⟨L, hL⟩ := Cert.Pre_finite.Df.table2 (by norm_num) (by norm_num) _ h3
  obtain ⟨r, hr⟩ := point2_real
  rw [Cert.KernelIdeal.Df.final6 ⟨hX, hK, hV⟩ (Cert.KernelIdeal.Df.lambda hr hL)]
  funext i
  exact (Cert.ReferenceIdeal.Df.result ⟨hX, hK, hV⟩ _ _ (Cert.ReferenceIdeal.Df.lambda hr hL) i).symm

/-- From equal real arguments the idealized kernel and the idealized reference end with equal results. -/
theorem df_algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from Cert.KernelIdeal.Gen.run_main m g
  · hlo_run
    exact (df_values m c ‹_›).symm

end Cert.Proof
-- ==== Proof.ProjRows.lean ====
/- The input projection's rows: a grid point's two halves of 256 normalised, modulated rows are the reference's rows, and so
   are their products with any columns of the weights. -/
module

public import proofs.«01_k».proof.Proof.Gen.Kernel3Ideal.Frame
public import proofs.«01_k».proof.Proof.Gen.Reference3Ideal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel3Ideal.Proj
open Cert.Kernel3Ideal Cert.Kernel3Ideal.Gen Cert.Reference3Ideal.Read

variable (m : (ℓ : Loc nD τ sig) → Buf (Elt Ideal) ℓ) (c : Dev nD)

/-- Grid point `t` works on rows `512 t` to `512 t + 511`, two contexts of 256; the modulation, gains, weights and biases
    are whole at every point. -/
theorem idx : ∀ t : Fin cfg0.N, win0_0.index t = ![t.val, 0] ∧ win0_1.index t = ![0, 0]
    ∧ win0_2.index t = ![0, 0] ∧ win0_3.index t = ![0, 0]
    ∧ win0_4.index t = ![0, 0] ∧ win0_5.index t = ![0, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0, 0, 0] ∧ win0_12.index t = ![t.val, 0, 0, 0] ∧ win0_13.index t = ![t.val, 0, 0, 0]
    ∧ win0_14.index t = ![t.val, 0, 0, 0] :=
  (by decide +kernel : ∀ t : Fin grid0.N, _)

/-- The shift is read from row 0 of the modulation table at every point. -/
theorem off1 : ∀ t : Fin cfg0.N, k0_off1 (grid0.coords t) = ![0, 0] :=
  (by decide +kernel : ∀ t : Fin grid0.N, _)

/-- The scale is read from row 0 of the modulation table at every point. -/
theorem off2 : ∀ t : Fin cfg0.N, k0_off2 (grid0.coords t) = ![0, 1024] :=
  (by decide +kernel : ∀ t : Fin grid0.N, _)

/-- The modulation table's entry read at offset 0 of row 0. -/
theorem shift (t : Fin cfg0.N) (h) (j : Fin 1024) :
    View.ld (iblk m c 1 t) (Rect.unit (s := S8x6144) (k0_off1 (grid0.coords t)) ![1, 1024] h) (ix2 0 j)
      = m ((c : Thread nD τ).loc main_arg1) (ix2 0 ⟨j.val, by omega⟩) := by
  have e : View.ld (iblk m c 1 t) (Rect.unit (s := S8x6144) (k0_off1 (grid0.coords t)) ![1, 1024] h)
      = View.ld (iblk m c 1 t) (Rect.unit (s := S8x6144) ![0, 0] ![1, 1024] (by decide)) := by
    congr 2
    exact off1 t
  rw [e]
  pointwise []
  blk_point [iblk, V, idx t]

/-- The modulation table's entry read at offset 1024 of row 0. -/
theorem scale (t : Fin cfg0.N) (h) (j : Fin 1024) :
    View.ld (iblk m c 1 t) (Rect.unit (s := S8x6144) (k0_off2 (grid0.coords t)) ![1, 1024] h) (ix2 0 j)
      = m ((c : Thread nD τ).loc main_arg1) (ix2 0 ⟨1024 + j.val, by omega⟩) := by
  have e : View.ld (iblk m c 1 t) (Rect.unit (s := S8x6144) (k0_off2 (grid0.coords t)) ![1, 1024] h)
      = View.ld (iblk m c 1 t) (Rect.unit (s := S8x6144) ![0, 1024] ![1, 1024] (by decide)) := by
    congr 2
    exact off2 t
  rw [e]
  pointwise []
  blk_point [iblk, V, idx t]

/-- The columns of the weights that a rectangle of whole columns reads. -/
theorem columns (t : Fin cfg0.N) (o w : ℕ) (h) (k : Fin 1024) (j : Fin w) (hj : o + j.val < 3200) :
    View.ld (iblk m c 3 t) (Rect.unit (s := S1024x3200) ![0, o] ![1024, w] h) (ix2 k j)
      = m ((c : Thread nD τ).loc main_arg3) (ix2 k ⟨o + j.val, hj⟩) := by
  pointwise []
  blk_point [iblk, V, idx t]

/-- The upper half's rows as the kernel holds them. -/
abbrev upper (t : Fin cfg0.N) : FVec Ideal S256x1024 .bf16 :=
  k0_pay3
    (k0_pay1 (View.ld (iblk m c 1 t) (Rect.unit (s := S8x6144) (k0_off2 (grid0.coords t)) ![1, 1024] (k0_off2_inb _)))
      (View.ld (iblk m c 0 t) (Rect.unit ![0, 0] ![256, 1024] inb_S512x1024_S256x1024_0_0)) (iblk m c 2 t))
    (k0_pay2 (View.ld (iblk m c 1 t) (Rect.unit (s := S8x6144) (k0_off1 (grid0.coords t)) ![1, 1024] (k0_off1_inb _))))

/-- The lower half's rows as the kernel holds them. -/
abbrev lower (t : Fin cfg0.N) : FVec Ideal S256x1024 .bf16 :=
  k0_pay45 (View.ld (iblk m c 1 t) (Rect.unit (s := S8x6144) (k0_off1 (grid0.coords t)) ![1, 1024] (k0_off1_inb _)))
    (View.ld (iblk m c 1 t) (Rect.unit (s := S8x6144) (k0_off2 (grid0.coords t)) ![1, 1024] (k0_off2_inb _)))
    (View.ld (iblk m c 0 t) (Rect.unit ![256, 0] ![256, 1024] inb_S512x1024_S256x1024_256_0)) (iblk m c 2 t)

/-- The reference's normalised, modulated rows. -/
abbrev hidden : (⟨S8192x1024, .f32⟩ : BufTy).Contents (Elt Ideal) :=
  val_main_v19 (F := Ideal) (m ((c : Thread nD τ).loc main_arg0)) (m ((c : Thread nD τ).loc main_arg1)) (m ((c : Thread nD τ).loc main_arg2))

/-- The reference's projection. -/
abbrev projected : (⟨Cert.Reference3Ideal.S8192x3200, .f32⟩ : BufTy).Contents (Elt Ideal) :=
  val_main_v21 (F := Ideal) (m ((c : Thread nD τ).loc main_arg0)) (m ((c : Thread nD τ).loc main_arg1)) (m ((c : Thread nD τ).loc main_arg2))
    (m ((c : Thread nD τ).loc main_arg3))

/-- A row of a grid point's block of the input. -/
theorem row (t : Fin cfg0.N) (p : Fin 512) (k : Fin 1024) (R : Fin 8192) (hR : R.val = t.val * 512 + p.val) :
    iblk m c 0 t (ix2 p k) = m ((c : Thread nD τ).loc main_arg0) (ix2 R k) := by
  obtain ⟨R, hlt⟩ := R
  dsimp only at hR
  subst hR
  blk_ext [iblk, V, idx t]

/-- The first normalisation's gains. -/
theorem gain (t : Fin cfg0.N) (k : Fin 1024) : iblk m c 2 t (ix2 0 k) = m ((c : Thread nD τ).loc main_arg2) (ix2 0 k) := by
  blk_ext [iblk, V, idx t]

/-- A row of the upper half is the reference's row. -/
theorem upper_eq (t : Fin cfg0.N) (r : Fin 256) (k : Fin 1024) (R : Fin 8192) (hR : R.val = t.val * 512 + r.val) :
    upper m c t (ix2 r k) = hidden m c (ix2 R k) := by
  have e1 := shift m c t (k0_off1_inb _) k
  have e2 := scale m c t (k0_off2_inb _) k
  unfold upper
  generalize View.ld (iblk m c 1 t) (Rect.unit (s := S8x6144) (k0_off1 (grid0.coords t)) ![1, 1024] (k0_off1_inb _)) = A at e1 ⊢
  generalize View.ld (iblk m c 1 t) (Rect.unit (s := S8x6144) (k0_off2 (grid0.coords t)) ![1, 1024] (k0_off2_inb _)) = B at e2 ⊢
  open_payloads
  pointwise [val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2,
    val_main_v1, val_main_v0, val_main_cst, val_main_cst_0, val_main_cst_1, val_main_cst_2]
  rw [e1, e2, gain m c t k]
  have e3 : ∀ x, iblk m c 0 t (ix2 ⟨r.val, by omega⟩ x) = m ((c : Thread nD τ).loc main_arg0) (ix2 R x) := fun x => row m c t _ x R hR
  simp only [e3]

/-- A row of the lower half is the reference's row. -/
theorem lower_eq (t : Fin cfg0.N) (r : Fin 256) (k : Fin 1024) (R : Fin 8192) (hR : R.val = t.val * 512 + (256 + r.val)) :
    lower m c t (ix2 r k) = hidden m c (ix2 R k) := by
  have e1 := shift m c t (k0_off1_inb _) k
  have e2 := scale m c t (k0_off2_inb _) k
  unfold lower
  generalize View.ld (iblk m c 1 t) (Rect.unit (s := S8x6144) (k0_off1 (grid0.coords t)) ![1, 1024] (k0_off1_inb _)) = A at e1 ⊢
  generalize View.ld (iblk m c 1 t) (Rect.unit (s := S8x6144) (k0_off2 (grid0.coords t)) ![1, 1024] (k0_off2_inb _)) = B at e2 ⊢
  open_payloads
  pointwise [val_main_v19, val_main_v18, val_main_v17, val_main_v16, val_main_v15, val_main_v14, val_main_v13, val_main_v12,
    val_main_v11, val_main_v10, val_main_v9, val_main_v8, val_main_v7, val_main_v6, val_main_v5, val_main_v4, val_main_v3, val_main_v2,
    val_main_v1, val_main_v0, val_main_cst, val_main_cst_0, val_main_cst_1, val_main_cst_2]
  rw [e1, e2, gain m c t k]
  have e3 : ∀ x, iblk m c 0 t (ix2 ⟨256 + r.val, by omega⟩ x) = m ((c : Thread nD τ).loc main_arg0) (ix2 R x) := fun x => row m c t _ x R hR
  simp only [e3]

/-- The reference's projection, entry by entry. -/
theorem projected_eq (R : Fin 8192) (J : Fin 3200) :
    projected m c (ix2 R J) = ∑ k : Fin 1024, hidden m c (ix2 R k) * m ((c : Thread nD τ).loc main_arg3) (ix2 k J) := by
  pointwise [val_main_v21, val_main_v20]

/-- A row of either half times columns of the weights is the reference's projection of the row in those columns. -/
theorem dot_eq (t : Fin cfg0.N) (H : FVec Ideal S256x1024 .bf16) (r : Fin 256) (R : Fin 8192)
    (hH : ∀ k : Fin 1024, H (ix2 r k) = hidden m c (ix2 R k)) (o w : ℕ) (h) (j : Fin w) (hj : o + j.val < 3200) :
    (∑ k : Fin 1024, H (ix2 r k) * View.ld (iblk m c 3 t) (Rect.unit (s := S1024x3200) ![0, o] ![1024, w] h) (ix2 k j) : EReal)
      = projected m c (ix2 R ⟨o + j.val, hj⟩) := by
  rw [projected_eq]
  exact Finset.sum_congr rfl fun k _ => by rw [hH k, columns m c t o w h k j hj]

end Cert.Kernel3Ideal.Proj
-- ==== Proof.Segments.lean ====
/- Sums over the segments of 256 lanes: the kernel takes each segment's sum by masking the other lanes, and spreads it
   back over the segment's lanes by nested selects. -/
module

public import Idealize.ShloMosaic.Lib.Pipeline.ValueKit
public import Idealize.ShloMosaic.Lib.Pointwise

@[expose] public section

set_option maxRecDepth 16384

noncomputable section

open Idealize.ShloMosaic Idealize.SL.Sem

namespace Cert.Segments

/-- The word of "lane `n` lies in the segment from `a` up to `b`". -/
abbrev word (n : ℕ) (a b : BitVec 32) : BitVec 1 :=
  IntOp.andi (IntOp.cmpi CmpIPredicate.sge (BitVec.ofNat 32 n) a) (IntOp.cmpi CmpIPredicate.slt (BitVec.ofNat 32 n) b)

/-- The word of a lane and one of four segments of 64. -/
theorem word64 : ∀ (s : Fin 4) (n : Fin 256), word n.val (BitVec.ofNat 32 (s.val * 64)) (BitVec.ofNat 32 (s.val * 64 + 64))
    = if s.val * 64 ≤ n.val ∧ n.val < s.val * 64 + 64 then 1#1 else 0#1 := by decide +kernel

/-- The word of a lane and one of eight segments of 32. -/
theorem word32 : ∀ (s : Fin 8) (n : Fin 256), word n.val (BitVec.ofNat 32 (s.val * 32)) (BitVec.ofNat 32 (s.val * 32 + 32))
    = if s.val * 32 ≤ n.val ∧ n.val < s.val * 32 + 32 then 1#1 else 0#1 := by decide +kernel

/-- A select on the word of a condition is a choice by the condition. -/
theorem select_if (p : Prop) [Decidable p] (a b : EReal) : Scalar.select (if p then 1#1 else 0#1) a b = if p then a else b := by
  by_cases g : p
  · rw [if_pos g, if_pos g]; rfl
  · rw [if_neg g, if_neg g]; rfl

/-- A sum that takes only the lanes of one segment is the sum over that segment. -/
theorem masked (f : Fin 256 → EReal) (p : ℕ → BitVec 1) (a w : ℕ) (h : a + w ≤ 256)
    (hp : ∀ n : Fin 256, p n.val = if a ≤ n.val ∧ n.val < a + w then 1#1 else 0#1) :
    ∑ n : Fin 256, Scalar.select (p n.val) (f n) 0 = ∑ e : Fin w, f ⟨a + e.val, by omega⟩ := by
  rw [Finset.sum_congr rfl fun n _ => (congrArg (Scalar.select · (f n) 0) (hp n)).trans (select_if _ _ _), ← Finset.sum_filter]
  refine Finset.sum_bij' (fun n hn => (⟨n.val - a, by have := (Finset.mem_filter.mp hn).2; omega⟩ : Fin w))
    (fun e _ => ⟨a + e.val, by omega⟩) ?_ ?_ ?_ ?_ ?_
  · intro n hn; exact Finset.mem_univ _
  · intro e _; exact Finset.mem_filter.mpr ⟨Finset.mem_univ _, by dsimp only; omega⟩
  · intro n hn; have := (Finset.mem_filter.mp hn).2; exact Fin.ext (by dsimp only; omega)
  · intro e _; exact Fin.ext (by dsimp only; omega)
  · intro n hn; have := (Finset.mem_filter.mp hn).2; exact congrArg f (Fin.ext (by dsimp only; omega))

/-- The sum of `f` over the segment of 64 lanes that holds lane `n`. -/
def sum64 (f : Fin 256 → EReal) (n : Fin 256) : EReal := ∑ e : Fin 64, f ⟨n.val / 64 * 64 + e.val, by omega⟩

/-- The sum of `f` over the segment of 32 lanes that holds lane `n`. -/
def sum32 (f : Fin 256 → EReal) (n : Fin 256) : EReal := ∑ e : Fin 32, f ⟨n.val / 32 * 32 + e.val, by omega⟩

/-- One layer of the nested selects over segments of 64: segment `s`'s masked sum on its lanes, `b` on the others. -/
def layer64 (f : Fin 256 → EReal) (n : Fin 256) (s : Fin 4) (b : EReal) : EReal :=
  Scalar.select (word n.val (BitVec.ofNat 32 (s.val * 64)) (BitVec.ofNat 32 (s.val * 64 + 64)))
    (∑ k : Fin 256, Scalar.select (word k.val (BitVec.ofNat 32 (s.val * 64)) (BitVec.ofNat 32 (s.val * 64 + 64))) (f k) 0) b

/-- One layer of the nested selects over segments of 32. -/
def layer32 (f : Fin 256 → EReal) (n : Fin 256) (s : Fin 8) (b : EReal) : EReal :=
  Scalar.select (word n.val (BitVec.ofNat 32 (s.val * 32)) (BitVec.ofNat 32 (s.val * 32 + 32)))
    (∑ k : Fin 256, Scalar.select (word k.val (BitVec.ofNat 32 (s.val * 32)) (BitVec.ofNat 32 (s.val * 32 + 32))) (f k) 0) b

theorem layer64_eq (f : Fin 256 → EReal) (n : Fin 256) (s : Fin 4) (b : EReal) :
    layer64 f n s b = if n.val / 64 = s.val then sum64 f n else b := by
  unfold layer64 sum64
  rw [word64, select_if, masked f (fun k => word k (BitVec.ofNat 32 (s.val * 64)) (BitVec.ofNat 32 (s.val * 64 + 64))) (s.val * 64) 64
    (by omega) (word64 s)]
  by_cases g : n.val / 64 = s.val
  · rw [if_pos g, if_pos (by omega)]
    exact Finset.sum_congr rfl fun e _ => congrArg f (Fin.ext (by dsimp only; omega))
  · rw [if_neg g, if_neg (by omega)]

theorem layer32_eq (f : Fin 256 → EReal) (n : Fin 256) (s : Fin 8) (b : EReal) :
    layer32 f n s b = if n.val / 32 = s.val then sum32 f n else b := by
  unfold layer32 sum32
  rw [word32, select_if, masked f (fun k => word k (BitVec.ofNat 32 (s.val * 32)) (BitVec.ofNat 32 (s.val * 32 + 32))) (s.val * 32) 32
    (by omega) (word32 s)]
  by_cases g : n.val / 32 = s.val
  · rw [if_pos g, if_pos (by omega)]
    exact Finset.sum_congr rfl fun e _ => congrArg f (Fin.ext (by dsimp only; omega))
  · rw [if_neg g, if_neg (by omega)]

/-- The four nested selects hold, at every lane, the sum over its segment of 64. -/
theorem nested64 (f : Fin 256 → EReal) (n : Fin 256) :
    layer64 f n 3 (layer64 f n 2 (layer64 f n 1 (layer64 f n 0 0))) = sum64 f n := by
  simp only [layer64_eq]
  split_ifs with h3 h2 h1 h0
  · rfl
  · rfl
  · rfl
  · rfl
  · have hn := n.isLt
    have e : n.val / 64 = 0 ∨ n.val / 64 = 1 ∨ n.val / 64 = 2 ∨ n.val / 64 = 3 := by omega
    rcases e with e | e | e | e
    exacts [absurd e h0, absurd e h1, absurd e h2, absurd e h3]

/-- The eight nested selects hold, at every lane, the sum over its segment of 32. -/
theorem nested32 (f : Fin 256 → EReal) (n : Fin 256) :
    layer32 f n 7 (layer32 f n 6 (layer32 f n 5 (layer32 f n 4 (layer32 f n 3 (layer32 f n 2 (layer32 f n 1 (layer32 f n 0 0)))))))
      = sum32 f n := by
  simp only [layer32_eq]
  split_ifs with h7 h6 h5 h4 h3 h2 h1 h0
  all_goals first | rfl | skip
  have hn := n.isLt
  have e : n.val / 32 = 0 ∨ n.val / 32 = 1 ∨ n.val / 32 = 2 ∨ n.val / 32 = 3 ∨ n.val / 32 = 4 ∨ n.val / 32 = 5
    ∨ n.val / 32 = 6 ∨ n.val / 32 = 7 := by omega
  rcases e with e | e | e | e | e | e | e | e
  exacts [absurd e h0, absurd e h1, absurd e h2, absurd e h3, absurd e h4, absurd e h5, absurd e h6, absurd e h7]

/-- Dividing by 64 is multiplying by a sixty-fourth. -/
theorem div64 (x : EReal) : Ideal.div x (Ideal.ofBits FTy.f32 1115684864#32) = x * Ideal.ofBits FTy.f32 1015021568#32 := by
  have a : Ideal.ofBits FTy.f32 1115684864#32 = ((64 : ℝ) : EReal) := by
    simp [Ideal.ofBits, Ideal.ieee, -EReal.coe_mul]; norm_num
  have b : Ideal.ofBits FTy.f32 1015021568#32 = ((1 / 64 : ℝ) : EReal) := by
    simp [Ideal.ofBits, Ideal.ieee, -EReal.coe_mul]; norm_num
  rw [a, b, Ideal.div_coe (by norm_num)]

/-- Dividing by 32 is multiplying by a thirty-second. -/
theorem div32 (x : EReal) : Ideal.div x (Ideal.ofBits FTy.f32 1107296256#32) = x * Ideal.ofBits FTy.f32 1023410176#32 := by
  have a : Ideal.ofBits FTy.f32 1107296256#32 = ((32 : ℝ) : EReal) := by
    simp [Ideal.ofBits, Ideal.ieee, -EReal.coe_mul]; norm_num
  have b : Ideal.ofBits FTy.f32 1023410176#32 = ((1 / 32 : ℝ) : EReal) := by
    simp [Ideal.ofBits, Ideal.ieee, -EReal.coe_mul]; norm_num
  rw [a, b, Ideal.div_coe (by norm_num)]

/-- A lane over the root mean square of its segment of 64 lanes, times the gain `g`. -/
def rms64 (z : Fin 256 → EReal) (g : EReal) (n : Fin 256) : EReal :=
  z n * Ideal.rsqrt (sum64 (fun k => z k * z k) n * Ideal.ofBits FTy.f32 1015021568#32 + Ideal.ofBits FTy.f32 897988541#32) * g

/-- A lane over the root mean square of its segment of 32 lanes, times the gain `g`. -/
def rms32 (z : Fin 256 → EReal) (g : EReal) (n : Fin 256) : EReal :=
  z n * Ideal.rsqrt (sum32 (fun k => z k * z k) n * Ideal.ofBits FTy.f32 1023410176#32 + Ideal.ofBits FTy.f32 897988541#32) * g

/-- The root mean square written with a quotient, as the reference takes it, for segments of 64 lanes. -/
theorem quotient64 (z : Fin 256 → EReal) (g : EReal) (n : Fin 256) :
    z n * Ideal.rsqrt (Ideal.div (∑ e : Fin 64, z ⟨n.val / 64 * 64 + e.val, by omega⟩ * z ⟨n.val / 64 * 64 + e.val, by omega⟩)
      (Ideal.ofBits FTy.f32 1115684864#32) + Ideal.ofBits FTy.f32 897988541#32) * g = rms64 z g n := by
  rw [div64]; rfl

/-- The root mean square written with a quotient, as the reference takes it, for segments of 32 lanes. -/
theorem quotient32 (z : Fin 256 → EReal) (g : EReal) (n : Fin 256) :
    z n * Ideal.rsqrt (Ideal.div (∑ e : Fin 32, z ⟨n.val / 32 * 32 + e.val, by omega⟩ * z ⟨n.val / 32 * 32 + e.val, by omega⟩)
      (Ideal.ofBits FTy.f32 1107296256#32) + Ideal.ofBits FTy.f32 897988541#32) * g = rms32 z g n := by
  rw [div32]; rfl

end Cert.Segments
-- ==== Proof.ProjRms.lean ====
/- The kernel's normalised segments: every query and key lane is divided by the root mean square of its head's segment and
   scaled by the head's gain. The sixteen rows-and-halves differ only in which columns of the projection they take. -/
module

public import proofs.«01_k».proof.Proof.Gen.Kernel3Ideal.Frame
public import proofs.«01_k».proof.Proof.Segments

@[expose] public section

set_option maxRecDepth 16384

noncomputable section

open Idealize.ShloMosaic Idealize.ShloMosaic.TcCoe Idealize.SL.Sem

namespace Cert.Kernel3Ideal.Proj
open Cert.Kernel3Ideal Cert.Kernel3Ideal.Gen Cert.Segments

/-- The numbers of the 256 lanes, in every row. -/
abbrev lanes : IVec S256x256 32 := iota .tc S256x256 32 [1] iota_S256x256_d1_w32

variable (H : FVec Ideal S256x1024 .bf16) (W : Vec Ideal S1024x768 .bf16) (G : Vec Ideal S1x256 .f32) (V : FVec Ideal S256x768 .f32)
  (r n : Fin 256)

/-- The neighbourhood attention's queries, upper 256 rows of a block. -/
theorem na_q_upper : k0_pay16 (k0_pay11 H W) G lanes (k0_pay12 H W) (k0_pay13 H W) k0_pay14 k0_pay15 (ix2 r n)
    = rms64 (fun k => k0_pay11 H W (ix2 r k)) (G (ix2 0 n)) n := by
  unfold k0_pay16 k0_pay13 k0_pay12 k0_pay14 k0_pay15
  generalize k0_pay11 H W = Z
  pointwise []
  exact congrArg (fun s => Z (ix2 r n) * Ideal.rsqrt (s * _ + _) * G (ix2 0 n)) (nested64 (fun k => Z (ix2 r k) * Z (ix2 r k)) n)

/-- The neighbourhood attention's queries, lower 256 rows of a block. -/
theorem na_q_lower : k0_pay58 (k0_pay53 H W) G (k0_pay54 (k0_pay53 H W)) (k0_pay55 (k0_pay53 H W)) k0_pay56 k0_pay57 (ix2 r n)
    = rms64 (fun k => k0_pay53 H W (ix2 r k)) (G (ix2 0 n)) n := by
  unfold k0_pay58 k0_pay55 k0_pay54 k0_pay56 k0_pay57
  generalize k0_pay53 H W = Z
  pointwise []
  exact congrArg (fun s => Z (ix2 r n) * Ideal.rsqrt (s * _ + _) * G (ix2 0 n)) (nested64 (fun k => Z (ix2 r k) * Z (ix2 r k)) n)

/-- The neighbourhood attention's keys, upper 256 rows of a block. -/
theorem na_k_upper : k0_pay20 (k0_pay17 V) G lanes (k0_pay18 V) (k0_pay19 V) (ix2 r n)
    = rms64 (fun k => k0_pay17 V (ix2 r k)) (G (ix2 0 n)) n := by
  unfold k0_pay20 k0_pay19 k0_pay18
  generalize k0_pay17 V = Z
  pointwise []
  exact congrArg (fun s => Z (ix2 r n) * Ideal.rsqrt (s * _ + _) * G (ix2 0 n)) (nested64 (fun k => Z (ix2 r k) * Z (ix2 r k)) n)

/-- The neighbourhood attention's keys, lower 256 rows of a block. -/
theorem na_k_lower : k0_pay62 (k0_pay59 V) G lanes (k0_pay60 V) (k0_pay61 V) (ix2 r n)
    = rms64 (fun k => k0_pay59 V (ix2 r k)) (G (ix2 0 n)) n := by
  unfold k0_pay62 k0_pay61 k0_pay60
  generalize k0_pay59 V = Z
  pointwise []
  exact congrArg (fun s => Z (ix2 r n) * Ideal.rsqrt (s * _ + _) * G (ix2 0 n)) (nested64 (fun k => Z (ix2 r k) * Z (ix2 r k)) n)

/-- The differential attention's queries, upper 256 rows of a block. -/
theorem df_q_upper : k0_pay28 (k0_pay22 H W) G lanes (k0_pay23 H W) (k0_pay25 lanes (k0_pay23 H W) (k0_pay24 H W) 96#32) (k0_pay26 lanes) (k0_pay27 lanes (k0_pay23 H W)) (ix2 r n)
    = rms32 (fun k => k0_pay22 H W (ix2 r k)) (G (ix2 0 n)) n := by
  unfold k0_pay28 k0_pay27 k0_pay26 k0_pay25 k0_pay24 k0_pay23
  generalize k0_pay22 H W = Z
  pointwise []
  exact congrArg (fun s => Z (ix2 r n) * Ideal.rsqrt (s * _ + _) * G (ix2 0 n)) (nested32 (fun k => Z (ix2 r k) * Z (ix2 r k)) n)

/-- The differential attention's queries, lower 256 rows of a block. -/
theorem df_q_lower : k0_pay73 (k0_pay64 H W) G (k0_pay70 lanes (k0_pay65 H W) (k0_pay69 lanes (k0_pay65 H W) k0_pay66 k0_pay67 k0_pay68) 128#32) (k0_pay71 lanes) (k0_pay72 lanes (k0_pay65 H W)) (ix2 r n)
    = rms32 (fun k => k0_pay64 H W (ix2 r k)) (G (ix2 0 n)) n := by
  unfold k0_pay73 k0_pay72 k0_pay71 k0_pay70 k0_pay69 k0_pay66 k0_pay67 k0_pay68 k0_pay65
  generalize k0_pay64 H W = Z
  pointwise []
  exact congrArg (fun s => Z (ix2 r n) * Ideal.rsqrt (s * _ + _) * G (ix2 0 n)) (nested32 (fun k => Z (ix2 r k) * Z (ix2 r k)) n)

/-- The differential attention's keys, upper 256 rows of a block. -/
theorem df_k_upper : k0_pay35 (k0_pay29 V) G lanes (k0_pay30 V) (k0_pay33 lanes (k0_pay30 V) (k0_pay31 V) k0_pay32) (k0_pay34 lanes) (ix2 r n)
    = rms32 (fun k => k0_pay29 V (ix2 r k)) (G (ix2 0 n)) n := by
  unfold k0_pay35 k0_pay34 k0_pay33 k0_pay31 k0_pay30 k0_pay32
  generalize k0_pay29 V = Z
  pointwise []
  exact congrArg (fun s => Z (ix2 r n) * Ideal.rsqrt (s * _ + _) * G (ix2 0 n)) (nested32 (fun k => Z (ix2 r k) * Z (ix2 r k)) n)

/-- The differential attention's keys, lower 256 rows of a block. -/
theorem df_k_lower : k0_pay80 (k0_pay74 V) G lanes (k0_pay75 V) (k0_pay78 lanes (k0_pay75 V) (k0_pay76 V) k0_pay77) (k0_pay79 lanes) (ix2 r n)
    = rms32 (fun k => k0_pay74 V (ix2 r k)) (G (ix2 0 n)) n := by
  unfold k0_pay80 k0_pay79 k0_pay78 k0_pay76 k0_pay75 k0_pay77
  generalize k0_pay74 V = Z
  pointwise []
  exact congrArg (fun s => Z (ix2 r n) * Ideal.rsqrt (s * _ + _) * G (ix2 0 n)) (nested32 (fun k => Z (ix2 r k) * Z (ix2 r k)) n)

end Cert.Kernel3Ideal.Proj
-- ==== Proof.ProjReference.lean ====
/- The reference's nine results, entry by entry, as functions of the projected rows `projected` of the normalised context. -/
module

public import proofs.«01_k».proof.Proof.ProjRows
public import proofs.«01_k».proof.Proof.ProjRms

@[expose] public section

set_option maxRecDepth 16384

noncomputable section

open Idealize.ShloMosaic Idealize.ShloMosaic.TcCoe Idealize.SL.Sem

namespace Cert.Kernel3Ideal.Proj
open Cert.Kernel3Ideal Cert.Kernel3Ideal.Gen Cert.Segments Cert.Reference3Ideal.Read

variable (m : (ℓ : Loc nD τ sig) → Buf (Elt Ideal) ℓ) (c : Dev nD)

/-- The reference's matrix memory's input. -/
abbrev memory : (⟨Cert.Reference3Ideal.S8192x1024, .f32⟩ : BufTy).Contents (Elt Ideal) :=
  val_main_v40 (F := Ideal) (m ((c : Thread nD τ).loc main_arg0)) (m ((c : Thread nD τ).loc main_arg1))
    (m ((c : Thread nD τ).loc main_arg2)) (m ((c : Thread nD τ).loc main_arg3))

/-- The reference's gates' logits. -/
abbrev gates : (⟨Cert.Reference3Ideal.S8192x128, .f32⟩ : BufTy).Contents (Elt Ideal) :=
  val_main_v34 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The reference's neighbourhood attention's queries. -/
abbrev naQ : (⟨Cert.Reference3Ideal.S8192x256, .f32⟩ : BufTy).Contents (Elt Ideal) :=
  val_main_v59 (F := Ideal) (m ((c : Thread nD τ).loc main_arg0)) (m ((c : Thread nD τ).loc main_arg1))
    (m ((c : Thread nD τ).loc main_arg2)) (m ((c : Thread nD τ).loc main_arg3)) (m ((c : Thread nD τ).loc main_arg5))

/-- The reference's gated recurrence's input. -/
abbrev recurrence : (⟨Cert.Reference3Ideal.S8192x512, .f32⟩ : BufTy).Contents (Elt Ideal) :=
  val_main_v115 (F := Ideal) (m ((c : Thread nD τ).loc main_arg0)) (m ((c : Thread nD τ).loc main_arg1))
    (m ((c : Thread nD τ).loc main_arg2)) (m ((c : Thread nD τ).loc main_arg3))

/-- The reference's differential attention's queries. -/
abbrev dfQ : (⟨Cert.Reference3Ideal.S8192x256, .f32⟩ : BufTy).Contents (Elt Ideal) :=
  val_main_v96 (F := Ideal) (m ((c : Thread nD τ).loc main_arg0)) (m ((c : Thread nD τ).loc main_arg1))
    (m ((c : Thread nD τ).loc main_arg2)) (m ((c : Thread nD τ).loc main_arg3)) (m ((c : Thread nD τ).loc main_arg5))

/-- The reference's cache of the neighbourhood attention's keys. -/
abbrev naK : (⟨Cert.Reference3Ideal.S32x2x256x256, .f32⟩ : BufTy).Contents (Elt Ideal) :=
  val_main_v120 (F := Ideal) (m ((c : Thread nD τ).loc main_arg0)) (m ((c : Thread nD τ).loc main_arg1))
    (m ((c : Thread nD τ).loc main_arg2)) (m ((c : Thread nD τ).loc main_arg3)) (m ((c : Thread nD τ).loc main_arg5))

/-- The reference's cache of the neighbourhood attention's values. -/
abbrev naV : (⟨Cert.Reference3Ideal.S32x2x256x256, .f32⟩ : BufTy).Contents (Elt Ideal) :=
  val_main_v126 (F := Ideal) (m ((c : Thread nD τ).loc main_arg0)) (m ((c : Thread nD τ).loc main_arg1))
    (m ((c : Thread nD τ).loc main_arg2)) (m ((c : Thread nD τ).loc main_arg3))

/-- The reference's cache of the differential attention's keys. -/
abbrev dfK : (⟨Cert.Reference3Ideal.S32x2x256x256, .f32⟩ : BufTy).Contents (Elt Ideal) :=
  val_main_v131 (F := Ideal) (m ((c : Thread nD τ).loc main_arg0)) (m ((c : Thread nD τ).loc main_arg1))
    (m ((c : Thread nD τ).loc main_arg2)) (m ((c : Thread nD τ).loc main_arg3)) (m ((c : Thread nD τ).loc main_arg5))

/-- The reference's cache of the differential attention's values. -/
abbrev dfV : (⟨Cert.Reference3Ideal.S32x2x256x256, .f32⟩ : BufTy).Contents (Elt Ideal) :=
  val_main_v137 (F := Ideal) (m ((c : Thread nD τ).loc main_arg0)) (m ((c : Thread nD τ).loc main_arg1))
    (m ((c : Thread nD τ).loc main_arg2)) (m ((c : Thread nD τ).loc main_arg3))

/-- The neighbourhood attention's queries. -/
theorem na_q_ref (R : Fin 8192) (q : Fin 256) :
    naQ m c (ix2 R q) = rms64 (fun k => projected m c (ix2 R ⟨1024 + k.val, by omega⟩)) (m ((c : Thread nD τ).loc main_arg5) (ix2 0 q)) q := by
  rw [← quotient64]
  have e : ∀ h, (⟨q.val / 64 * 64 + q.val % 64, h⟩ : Fin 256) = q := fun h => Fin.ext (by dsimp only; omega)
  have e' : ∀ h, (⟨1024 + (q.val / 64 * 64 + q.val % 64), h⟩ : Fin 3200) = ⟨1024 + q.val, by omega⟩ := fun h => Fin.ext (by dsimp only; omega)
  unfold naQ
  pointwise [val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_cst_4, val_main_cst_5, val_main_cst_6]

/-- The differential attention's queries. -/
theorem df_q_ref (R : Fin 8192) (q : Fin 256) :
    dfQ m c (ix2 R q) = rms32 (fun k => projected m c (ix2 R ⟨2304 + k.val, by omega⟩)) (m ((c : Thread nD τ).loc main_arg5) (ix2 2 q)) q := by
  rw [← quotient32]
  have e : ∀ h, (⟨q.val / 32 * 32 + q.val % 32, h⟩ : Fin 256) = q := fun h => Fin.ext (by dsimp only; omega)
  have e' : ∀ h, (⟨2304 + (q.val / 32 * 32 + q.val % 32), h⟩ : Fin 3200) = ⟨2304 + q.val, by omega⟩ := fun h => Fin.ext (by dsimp only; omega)
  unfold dfQ
  pointwise [val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_cst_10, val_main_cst_11, val_main_cst_12]

/-- The neighbourhood attention's keys, stacked over the two layers: the second layer's are zeros. -/
theorem na_k_ref (b : Fin 32) (l : Fin 2) (s q : Fin 256) :
    naK m c (ix4 b l s q) = if l.val < 1 then rms64 (fun k => projected m c (ix2 ⟨b.val * 256 + s.val, by omega⟩ ⟨1280 + k.val, by omega⟩))
          (m ((c : Thread nD τ).loc main_arg5) (ix2 1 q)) q else 0 := by
  have e : ∀ h, (⟨q.val / 64 * 64 + q.val % 64, h⟩ : Fin 256) = q := fun h => Fin.ext (by dsimp only; omega)
  have e' : ∀ h, (⟨1280 + (q.val / 64 * 64 + q.val % 64), h⟩ : Fin 3200) = ⟨1280 + q.val, by omega⟩ := fun h => Fin.ext (by dsimp only; omega)
  by_cases g : l.val < 1
  · rw [if_pos g, ← quotient64]
    unfold naK
    pointwise [val_main_v120, val_main_v119, val_main_v118, val_main_v117, val_main_v116, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_cst_7, val_main_cst_8, val_main_cst_9, val_main_cst_16]
    exact dif_pos g
  · rw [if_neg g]
    unfold naK
    pointwise [val_main_v120, val_main_v119, val_main_v118, val_main_v117, val_main_v116, val_main_cst_16]
    rw [dif_neg g]

/-- The differential attention's keys, stacked over the two layers: the second layer's are zeros. -/
theorem df_k_ref (b : Fin 32) (l : Fin 2) (s q : Fin 256) :
    dfK m c (ix4 b l s q) = if l.val < 1 then rms32 (fun k => projected m c (ix2 ⟨b.val * 256 + s.val, by omega⟩ ⟨2560 + k.val, by omega⟩))
          (m ((c : Thread nD τ).loc main_arg5) (ix2 3 q)) q else 0 := by
  have e : ∀ h, (⟨q.val / 32 * 32 + q.val % 32, h⟩ : Fin 256) = q := fun h => Fin.ext (by dsimp only; omega)
  have e' : ∀ h, (⟨2560 + (q.val / 32 * 32 + q.val % 32), h⟩ : Fin 3200) = ⟨2560 + q.val, by omega⟩ := fun h => Fin.ext (by dsimp only; omega)
  by_cases g : l.val < 1
  · rw [if_pos g, ← quotient32]
    unfold dfK
    pointwise [val_main_v131, val_main_v130, val_main_v129, val_main_v128, val_main_v127, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_cst_13, val_main_cst_14, val_main_cst_15, val_main_cst_18]
    exact dif_pos g
  · rw [if_neg g]
    unfold dfK
    pointwise [val_main_v131, val_main_v130, val_main_v129, val_main_v128, val_main_v127, val_main_cst_18]
    rw [dif_neg g]

/-- The neighbourhood attention's values, stacked over the two layers: the second layer's are zeros. -/
theorem na_v_ref (b : Fin 32) (l : Fin 2) (s q : Fin 256) :
    naV m c (ix4 b l s q) = if l.val < 1 then projected m c (ix2 ⟨b.val * 256 + s.val, by omega⟩ ⟨1536 + q.val, by omega⟩) else 0 := by
  unfold naV
  pointwise [val_main_v126, val_main_v125, val_main_v124, val_main_v123, val_main_v122, val_main_v121, val_main_cst_17]
  rfl

/-- The differential attention's values, stacked over the two layers: the second layer's are zeros. -/
theorem df_v_ref (b : Fin 32) (l : Fin 2) (s q : Fin 256) :
    dfV m c (ix4 b l s q) = if l.val < 1 then projected m c (ix2 ⟨b.val * 256 + s.val, by omega⟩ ⟨2816 + q.val, by omega⟩) else 0 := by
  unfold dfV
  pointwise [val_main_v137, val_main_v136, val_main_v135, val_main_v134, val_main_v133, val_main_v132, val_main_cst_19]
  rfl

/-- The gated recurrence's input. -/
theorem rg_ref (R : Fin 8192) (q : Fin 512) :
    recurrence m c (ix2 R q) = projected m c (ix2 R ⟨1792 + q.val, by omega⟩) := by
  unfold recurrence
  pointwise [val_main_v115]

/-- The matrix memory's input: its keys, lanes 256 to 511, are scaled by an eighth. -/
theorem ml_ref (R : Fin 8192) (q : Fin 1024) :
    memory m c (ix2 R q) = if 256 ≤ q.val ∧ q.val < 512 then projected m c (ix2 R ⟨q.val, by omega⟩) * Ideal.ofBits FTy.f32 1040187392#32
        else projected m c (ix2 R ⟨q.val, by omega⟩) := by
  unfold memory
  pointwise [val_main_v40, val_main_v39, val_main_v38, val_main_v37, val_main_v36, val_main_v35, val_main_cst_3]
  by_cases h1 : q.val < 256
  · rw [dif_pos h1, if_neg (show ¬ (256 ≤ q.val ∧ q.val < 512) by omega)]
  · by_cases h2 : q.val < 512
    · rw [dif_neg h1, dif_pos (show q.val - 256 < 256 by omega), if_pos (show 256 ≤ q.val ∧ q.val < 512 by omega)]
      exact congrArg (fun k => projected m c (ix2 R k) * _) (Fin.ext (by dsimp only; omega))
    · rw [dif_neg h1, dif_neg (show ¬ q.val - 256 < 256 by omega), if_neg (show ¬ (256 ≤ q.val ∧ q.val < 512) by omega)]
      exact congrArg (fun k => projected m c (ix2 R k)) (Fin.ext (by dsimp only; omega))

/-- The reference's logarithm of the sigmoid of `x`, as it writes it: minus the softplus of minus `x`. -/
def logSigmoid (x : EReal) : EReal := -(max (-x) 0 + Ideal.log1p (Ideal.exp (-(FloatOps.absf (F := Ideal) (φ := FTy.f32) (-x)))))

/-- The gates' logits: of the eight lanes of a head, four hold the input gates' and four the forget gates' logarithms. -/
theorem gates_ref (R : Fin 8192) (q : Fin 128) (z : EReal)
    (hz : projected m c (ix2 R ⟨3072 + q.val, by omega⟩) + m ((c : Thread nD τ).loc main_arg4) (ix2 0 q) = z) :
    gates m c (ix2 R q) = if q.val / 4 % 2 < 1 then z else logSigmoid z := by
  subst hz
  unfold gates
  pointwise [val_main_v34, val_main_v33, val_main_v32, val_main_v31, val_main_v30, val_main_v29, val_main_v28, val_main_v27, val_main_v26, val_main_v25, val_main_v24, val_main_v23, val_main_v22, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_v0, val_main_call0_call0_cst]
  by_cases h : q.val / 4 % 2 < 1
  · rw [dif_pos h, if_pos h]
    exact congrArg₂ (· + ·) (congrArg (fun k => projected m c (ix2 R k)) (Fin.ext (by dsimp only; omega)))
      (congrArg (fun k => m ((c : Thread nD τ).loc main_arg4) (ix2 0 k)) (Fin.ext (by dsimp only; omega)))
  · rw [dif_neg h, if_neg h, if_neg (fun g => g rfl)]
    exact congrArg logSigmoid (congrArg₂ (· + ·) (congrArg (fun k => projected m c (ix2 R k)) (Fin.ext (by dsimp only; omega)))
      (congrArg (fun k => m ((c : Thread nD τ).loc main_arg4) (ix2 0 k)) (Fin.ext (by dsimp only; omega))))

end Cert.Kernel3Ideal.Proj
-- ==== Proof.ProjColumns.lean ====
/- The kernel's unnormalised columns: every slice of its products is a row times a column of the weights it loads, and the
   gates' lanes pass through the logarithm of the sigmoid. -/
module

public import proofs.«01_k».proof.Proof.ProjReference

@[expose] public section

set_option maxRecDepth 16384

noncomputable section

open Idealize.ShloMosaic Idealize.ShloMosaic.TcCoe Idealize.SL.Sem

namespace Cert.Kernel3Ideal.Proj
open Cert.Kernel3Ideal Cert.Kernel3Ideal.Gen

/-- `e^x` is never minus infinity, and neither is `log (1 + e^x)`. -/
theorem log1p_exp_ne_bot (x : EReal) : Ideal.log1p (Ideal.exp x) ≠ ⊥ := by
  have pos (r : ℝ) (h : 0 < r) : Ideal.log (r : EReal) ≠ ⊥ := by
    show (if r ≤ 0 then (⊥ : EReal) else (Real.log r : EReal)) ≠ ⊥
    rw [if_neg (not_le.mpr h)]
    exact EReal.coe_ne_bot _
  unfold Ideal.log1p
  induction x using EReal.rec with
  | bot =>
    have e : (1 : EReal) + Ideal.exp ⊥ = ((1 : ℝ) : EReal) := add_zero (1 : EReal)
    rw [e]
    exact pos 1 one_pos
  | top =>
    have e : (1 : EReal) + Ideal.exp ⊤ = ⊤ := EReal.add_top_of_ne_bot (EReal.coe_ne_bot 1)
    rw [e]
    exact top_ne_bot
  | coe r =>
    have e : (1 : EReal) + Ideal.exp r = ((1 + Real.exp r : ℝ) : EReal) := (EReal.coe_add 1 (Real.exp r)).symm
    rw [e]
    exact pos _ (add_pos one_pos (Real.exp_pos r))

/-- The kernel's logarithm of the sigmoid, the smaller of `x` and 0 less `log (1 + e^(-|x|))`, is the reference's. -/
theorem logSigmoid_eq (x : EReal) :
    min x 0 - Ideal.log1p (Ideal.exp (0 - FloatOps.absf (F := Ideal) (φ := FTy.f32) x)) = logSigmoid x := by
  unfold logSigmoid
  have e : FloatOps.absf (F := Ideal) (φ := FTy.f32) (-x) = FloatOps.absf (F := Ideal) (φ := FTy.f32) x := by
    show max (-x) (- -x) = max x (-x)
    rw [neg_neg, max_comm]
  have z : max (-x) 0 ≠ ⊥ := fun h => absurd (le_max_right (-x) 0) (by rw [h]; simp)
  rw [e, zero_sub, EReal.neg_add (Or.inl z) (Or.inr (log1p_exp_ne_bot _))]
  congr 1
  rcases le_total x 0 with h | h
  · rw [min_eq_left h, max_eq_left (EReal.neg_nonneg.mpr h), neg_neg]
  · rw [min_eq_right h, max_eq_right (EReal.neg_le.mp (by rwa [neg_zero])), neg_zero]

/-- Bit 2 of a lane's number tells a forget gate from an input gate. -/
theorem forget_word (n : Fin 128) :
    IntOp.cmpi CmpIPredicate.eq (IntOp.andi (IntOp.shrsi ArithUnit.vector (BitVec.ofNat 32 n.val) 2#32) 1#32) 1#32
      = if n.val / 4 % 2 < 1 then 0#1 else 1#1 := by
  revert n
  decide +kernel

/-- The select on the forget gates' word. -/
theorem forget_select (n : Fin 128) (a b : EReal) :
    Scalar.select (IntOp.cmpi CmpIPredicate.eq (IntOp.andi (IntOp.shrsi ArithUnit.vector (BitVec.ofNat 32 n.val) 2#32) 1#32) 1#32) a b
      = if n.val / 4 % 2 < 1 then b else a := by
  rw [forget_word]
  by_cases g : n.val / 4 % 2 < 1
  · rw [if_pos g, if_pos g]; rfl
  · rw [if_neg g, if_neg g]; rfl

/-- A row times a column. -/
abbrev dot {w : ℕ} (H : FVec Ideal S256x1024 .bf16) (W : (⟨2, ![1024, w]⟩ : Shape).Idx → EReal) (r : Fin 256) (n : Fin w) : EReal :=
  ∑ x : Fin 1024, H (ix2 r x) * W (ix2 x n)

section gates
variable (A B : FVec Ideal S256x1024 .f32) (H : FVec Ideal S256x1024 .bf16) (W : Vec Ideal S1024x128 .bf16) (b : Vec Ideal S1x128 .f32)
  (r : Fin 256) (n : Fin 128)

/-- The gates of the upper half's rows. -/
theorem gates_upper : k0_pay8 A B W b (ix2 r n)
    = if n.val / 4 % 2 < 1 then dot (k0_pay3 A B) W r n + b (ix2 0 n) else logSigmoid (dot (k0_pay3 A B) W r n + b (ix2 0 n)) := by
  unfold k0_pay8
  generalize k0_pay3 A B = H
  pointwise []
  rw [forget_select, logSigmoid_eq]

/-- The gates of the lower half's rows. -/
theorem gates_lower : k0_pay50 H W b (ix2 r n)
    = if n.val / 4 % 2 < 1 then dot H W r n + b (ix2 0 n) else logSigmoid (dot H W r n + b (ix2 0 n)) := by
  unfold k0_pay50
  pointwise []
  rw [forget_select, logSigmoid_eq]

end gates

section memory
variable (A B : FVec Ideal S256x1024 .f32) (P Q : Vec Ideal S1x1024 .f32) (X : Vec Ideal S256x1024 .f32) (G : Vec Ideal S1x1024 .f32)
  (W : Vec Ideal S1024x1024 .bf16) (r n : Fin 256) (k : Fin 512)

/-- The matrix memory's queries, upper half. -/
theorem memory_q_upper : k0_pay5 A B W (ix2 r n) = dot (k0_pay3 A B) W r ⟨0 + n.val, by omega⟩ := by
  unfold k0_pay5 k0_pay4
  generalize k0_pay3 A B = H
  pointwise []

/-- The matrix memory's keys, upper half: scaled by an eighth. -/
theorem memory_k_upper : k0_pay6 A B W (ix2 r n) = dot (k0_pay3 A B) W r ⟨256 + n.val, by omega⟩ * Ideal.ofBits FTy.f32 1040187392#32 := by
  unfold k0_pay6 k0_pay4
  generalize k0_pay3 A B = H
  pointwise []

/-- The matrix memory's values and output gates, upper half. -/
theorem memory_v_upper : k0_pay7 A B W (ix2 r k) = dot (k0_pay3 A B) W r ⟨512 + k.val, by omega⟩ := by
  unfold k0_pay7 k0_pay4
  generalize k0_pay3 A B = H
  pointwise []

/-- The matrix memory's queries, lower half. -/
theorem memory_q_lower : k0_pay47 P Q X G W (ix2 r n) = dot (k0_pay45 P Q X G) W r ⟨0 + n.val, by omega⟩ := by
  unfold k0_pay47 k0_pay46
  generalize k0_pay45 P Q X G = H
  pointwise []

/-- The matrix memory's keys, lower half: scaled by an eighth. -/
theorem memory_k_lower : k0_pay48 P Q X G W (ix2 r n) = dot (k0_pay45 P Q X G) W r ⟨256 + n.val, by omega⟩ * Ideal.ofBits FTy.f32 1040187392#32 := by
  unfold k0_pay48 k0_pay46
  generalize k0_pay45 P Q X G = H
  pointwise []

/-- The matrix memory's values and output gates, lower half. -/
theorem memory_v_lower : k0_pay49 (k0_pay46 P Q X G W) (ix2 r k) = dot (k0_pay45 P Q X G) W r ⟨512 + k.val, by omega⟩ := by
  unfold k0_pay49 k0_pay46
  generalize k0_pay45 P Q X G = H
  pointwise []

end memory

section attention
variable (H : FVec Ideal S256x1024 .bf16) (W : Vec Ideal S1024x768 .bf16) (Y : Vec Ideal S1024x512 .bf16) (Z : FVec Ideal S256x256 .f32)
  (r n : Fin 256) (k : Fin 512)

/-- The gated recurrence's input, upper half. -/
theorem recurrence_upper : k0_pay9 H Y (ix2 r k) = dot H Y r k := by
  unfold k0_pay9
  pointwise []

/-- The gated recurrence's input, lower half. -/
theorem recurrence_lower : k0_pay51 H Y (ix2 r k) = dot H Y r k := by
  unfold k0_pay51
  pointwise []

/-- The neighbourhood attention's queries before their normalisation, upper half. -/
theorem na_q_columns_upper : k0_pay11 H W (ix2 r n) = dot H W r ⟨0 + n.val, by omega⟩ := by
  unfold k0_pay11 k0_pay10
  pointwise []

/-- The neighbourhood attention's queries before their normalisation, lower half. -/
theorem na_q_columns_lower : k0_pay53 H W (ix2 r n) = dot H W r ⟨0 + n.val, by omega⟩ := by
  unfold k0_pay53 k0_pay52
  pointwise []

/-- The differential attention's queries before their normalisation, upper half. -/
theorem df_q_columns_upper : k0_pay22 H W (ix2 r n) = dot H W r ⟨0 + n.val, by omega⟩ := by
  unfold k0_pay22 k0_pay21
  pointwise []

/-- The differential attention's queries before their normalisation, lower half. -/
theorem df_q_columns_lower : k0_pay64 H W (ix2 r n) = dot H W r ⟨0 + n.val, by omega⟩ := by
  unfold k0_pay64 k0_pay63
  pointwise []

/-- The neighbourhood attention's keys before their normalisation, upper half. -/
theorem na_k_columns_upper : k0_pay17 (k0_pay10 H W) (ix2 r n) = dot H W r ⟨256 + n.val, by omega⟩ := by
  unfold k0_pay17 k0_pay10
  pointwise []

/-- The neighbourhood attention's keys before their normalisation, lower half. -/
theorem na_k_columns_lower : k0_pay59 (k0_pay52 H W) (ix2 r n) = dot H W r ⟨256 + n.val, by omega⟩ := by
  unfold k0_pay59 k0_pay52
  pointwise []

/-- The differential attention's keys before their normalisation, upper half. -/
theorem df_k_columns_upper : k0_pay29 (k0_pay21 H W) (ix2 r n) = dot H W r ⟨256 + n.val, by omega⟩ := by
  unfold k0_pay29 k0_pay21
  pointwise []

/-- The differential attention's keys before their normalisation, lower half. -/
theorem df_k_columns_lower : k0_pay74 (k0_pay63 H W) (ix2 r n) = dot H W r ⟨256 + n.val, by omega⟩ := by
  unfold k0_pay74 k0_pay63
  pointwise []

/-- The neighbourhood attention's values, upper half. -/
theorem na_v_upper : k0_pay39 (k0_pay10 H W) (ix4 0 0 r n) = dot H W r ⟨512 + n.val, by omega⟩ := by
  unfold k0_pay39 k0_pay10
  pointwise []

/-- The neighbourhood attention's values, lower half. -/
theorem na_v_lower : k0_pay86 (k0_pay81 (k0_pay52 H W)) (ix4 0 0 r n) = dot H W r ⟨512 + n.val, by omega⟩ := by
  unfold k0_pay86 k0_pay81 k0_pay52
  pointwise []

/-- The differential attention's values, upper half. -/
theorem df_v_upper : k0_pay43 (k0_pay36 (k0_pay21 H W)) (ix4 0 0 r n) = dot H W r ⟨512 + n.val, by omega⟩ := by
  unfold k0_pay43 k0_pay36 k0_pay21
  pointwise []

/-- The differential attention's values, lower half. -/
theorem df_v_lower : k0_pay90 (k0_pay82 (k0_pay63 H W)) (ix4 0 0 r n) = dot H W r ⟨512 + n.val, by omega⟩ := by
  unfold k0_pay90 k0_pay82 k0_pay63
  pointwise []

/-- The stored keys are the rows' keys under two unit axes. -/
theorem na_k_store_upper : k0_pay37 Z (ix4 0 0 r n) = Z (ix2 r n) := by
  unfold k0_pay37
  pointwise []

/-- The stored keys are the rows' keys under two unit axes. -/
theorem na_k_store_lower : k0_pay83 Z (ix4 0 0 r n) = Z (ix2 r n) := by
  unfold k0_pay83
  pointwise []

/-- The stored keys are the rows' keys under two unit axes. -/
theorem df_k_store_upper : k0_pay41 Z (ix4 0 0 r n) = Z (ix2 r n) := by
  unfold k0_pay41
  pointwise []

/-- The stored keys are the rows' keys under two unit axes. -/
theorem df_k_store_lower : k0_pay88 Z (ix4 0 0 r n) = Z (ix2 r n) := by
  unfold k0_pay88
  pointwise []

end attention

/-- The second layer's entries of the caches are stored as zeros. -/
theorem zeros (i : S1x1x256x256.Idx) : k0_pay38 (F := Ideal) i = 0 ∧ k0_pay85 (F := Ideal) k0_pay84 i = 0 ∧ k0_pay40 (F := Ideal) i = 0
    ∧ k0_pay87 (F := Ideal) i = 0 ∧ k0_pay42 (F := Ideal) i = 0 ∧ k0_pay89 (F := Ideal) i = 0 ∧ k0_pay44 (F := Ideal) i = 0
    ∧ k0_pay91 (F := Ideal) i = 0 := by
  refine ⟨?_, ?_, ?_, ?_, ?_, ?_, ?_, ?_⟩ <;> (open_payloads; pointwise [])

end Cert.Kernel3Ideal.Proj
-- ==== Proof.ProjStored.lean ====
/- The projection's stored rows: for any 256 rows that are rows of the reference's normalised context, what the kernel stores of
   them is what the reference holds at those rows. -/
module

public import proofs.«01_k».proof.Proof.ProjColumns

@[expose] public section

set_option maxRecDepth 16384

noncomputable section

open Idealize.ShloMosaic Idealize.ShloMosaic.TcCoe Idealize.SL.Sem

namespace Cert.Kernel3Ideal.Proj
open Cert.Kernel3Ideal Cert.Kernel3Ideal.Gen Cert.Segments Cert.Reference3Ideal.Read

variable (m : (ℓ : Loc nD τ sig) → Buf (Elt Ideal) ℓ) (c : Dev nD)

/-- The gains of one row of the table of gains. -/
theorem gains (t : Fin cfg0.N) (o : ℕ) (ho : o < 4) (h) (n : Fin 256) :
    View.ld (iblk m c 5 t) (Rect.unit (s := S4x256) ![o, 0] ![1, 256] h) (ix2 0 n) = m ((c : Thread nD τ).loc main_arg5) (ix2 ⟨o, ho⟩ n) := by
  pointwise []
  blk_point [iblk, V, idx t]

/-- The gates' biases. -/
theorem bias (t : Fin cfg0.N) (n : Fin 128) : iblk m c 4 t (ix2 0 n) = m ((c : Thread nD τ).loc main_arg4) (ix2 0 n) := by
  blk_ext [iblk, V, idx t]

section rows
variable (t : Fin cfg0.N) (A B : FVec Ideal S256x1024 .f32) (P Q : Vec Ideal S1x1024 .f32) (X : Vec Ideal S256x1024 .f32) (G : Vec Ideal S1x1024 .f32)
  (H : FVec Ideal S256x1024 .bf16) (r : Fin 256) (R : Fin 8192)

/-- `dot_eq`, with the reference's column named. -/
theorem dot_at (hH : ∀ k : Fin 1024, H (ix2 r k) = hidden m c (ix2 R k)) (o w : ℕ) (h) (j : Fin w) (J : Fin 3200) (hJ : J.val = o + j.val) :
    dot H (View.ld (iblk m c 3 t) (Rect.unit (s := S1024x3200) ![0, o] ![1024, w] h)) r j = projected m c (ix2 R J) := by
  obtain ⟨J, hlt⟩ := J
  dsimp only at hJ
  subst hJ
  exact dot_eq m c t H r R hH o w h j hlt

/-- The matrix memory's queries, upper half. -/
theorem memory_q_row_upper (hH : ∀ k : Fin 1024, (k0_pay3 A B) (ix2 r k) = hidden m c (ix2 R k)) (n : Fin 256) :
    k0_pay5 A B (View.ld (iblk m c 3 t) (Rect.unit (s := S1024x3200) ![0, 0] ![1024, 1024] inb_S1024x3200_S1024x1024_0_0)) (ix2 r n) = memory m c (ix2 R ⟨n.val, by omega⟩) := by
  rw [memory_q_upper, ml_ref, if_neg (by dsimp only; omega)]
  exact dot_at m c t _ r R hH 0 1024 _ _ _ (by dsimp only; omega)

/-- The matrix memory's keys, upper half. -/
theorem memory_k_row_upper (hH : ∀ k : Fin 1024, (k0_pay3 A B) (ix2 r k) = hidden m c (ix2 R k)) (n : Fin 256) :
    k0_pay6 A B (View.ld (iblk m c 3 t) (Rect.unit (s := S1024x3200) ![0, 0] ![1024, 1024] inb_S1024x3200_S1024x1024_0_0)) (ix2 r n) = memory m c (ix2 R ⟨256 + n.val, by omega⟩) := by
  rw [memory_k_upper, ml_ref, if_pos (by dsimp only; omega)]
  exact congrArg (· * _) (dot_at m c t _ r R hH 0 1024 _ _ _ (by dsimp only; omega))

/-- The matrix memory's values and output gates, upper half. -/
theorem memory_v_row_upper (hH : ∀ k : Fin 1024, (k0_pay3 A B) (ix2 r k) = hidden m c (ix2 R k)) (n : Fin 512) :
    k0_pay7 A B (View.ld (iblk m c 3 t) (Rect.unit (s := S1024x3200) ![0, 0] ![1024, 1024] inb_S1024x3200_S1024x1024_0_0)) (ix2 r n) = memory m c (ix2 R ⟨512 + n.val, by omega⟩) := by
  rw [memory_v_upper, ml_ref, if_neg (by dsimp only; omega)]
  exact dot_at m c t _ r R hH 0 1024 _ _ _ (by dsimp only; omega)

/-- The gates' logits, upper half. -/
theorem gates_row_upper (hH : ∀ k : Fin 1024, (k0_pay3 A B) (ix2 r k) = hidden m c (ix2 R k)) (n : Fin 128) :
    k0_pay8 A B (View.ld (iblk m c 3 t) (Rect.unit (s := S1024x3200) ![0, 3072] ![1024, 128] inb_S1024x3200_S1024x128_0_3072)) (iblk m c 4 t) (ix2 r n) = gates m c (ix2 R n) := by
  have e := dot_at m c t _ r R hH 3072 128 inb_S1024x3200_S1024x128_0_3072 n ⟨3072 + n.val, by omega⟩ rfl
  rw [gates_upper, gates_ref m c R n _ rfl, bias m c t n, e]

/-- The gated recurrence's input, upper half. -/
theorem recurrence_row_upper (hH : ∀ k : Fin 1024, H (ix2 r k) = hidden m c (ix2 R k)) (n : Fin 512) :
    k0_pay9 H (View.ld (iblk m c 3 t) (Rect.unit (s := S1024x3200) ![0, 1792] ![1024, 512] inb_S1024x3200_S1024x512_0_1792)) (ix2 r n) = recurrence m c (ix2 R n) := by
  rw [recurrence_upper, rg_ref]
  exact dot_at m c t _ r R hH 1792 512 _ _ _ rfl

/-- The matrix memory's queries, lower half. -/
theorem memory_q_row_lower (hH : ∀ k : Fin 1024, (k0_pay45 P Q X G) (ix2 r k) = hidden m c (ix2 R k)) (n : Fin 256) :
    k0_pay47 P Q X G (View.ld (iblk m c 3 t) (Rect.unit (s := S1024x3200) ![0, 0] ![1024, 1024] inb_S1024x3200_S1024x1024_0_0)) (ix2 r n) = memory m c (ix2 R ⟨n.val, by omega⟩) := by
  rw [memory_q_lower, ml_ref, if_neg (by dsimp only; omega)]
  exact dot_at m c t _ r R hH 0 1024 _ _ _ (by dsimp only; omega)

/-- The matrix memory's keys, lower half. -/
theorem memory_k_row_lower (hH : ∀ k : Fin 1024, (k0_pay45 P Q X G) (ix2 r k) = hidden m c (ix2 R k)) (n : Fin 256) :
    k0_pay48 P Q X G (View.ld (iblk m c 3 t) (Rect.unit (s := S1024x3200) ![0, 0] ![1024, 1024] inb_S1024x3200_S1024x1024_0_0)) (ix2 r n) = memory m c (ix2 R ⟨256 + n.val, by omega⟩) := by
  rw [memory_k_lower, ml_ref, if_pos (by dsimp only; omega)]
  exact congrArg (· * _) (dot_at m c t _ r R hH 0 1024 _ _ _ (by dsimp only; omega))

/-- The matrix memory's values and output gates, lower half. -/
theorem memory_v_row_lower (hH : ∀ k : Fin 1024, (k0_pay45 P Q X G) (ix2 r k) = hidden m c (ix2 R k)) (n : Fin 512) :
    k0_pay49 (k0_pay46 P Q X G (View.ld (iblk m c 3 t) (Rect.unit (s := S1024x3200) ![0, 0] ![1024, 1024] inb_S1024x3200_S1024x1024_0_0))) (ix2 r n) = memory m c (ix2 R ⟨512 + n.val, by omega⟩) := by
  rw [memory_v_lower, ml_ref, if_neg (by dsimp only; omega)]
  exact dot_at m c t _ r R hH 0 1024 _ _ _ (by dsimp only; omega)

/-- The gates' logits, lower half. -/
theorem gates_row_lower (hH : ∀ k : Fin 1024, (H) (ix2 r k) = hidden m c (ix2 R k)) (n : Fin 128) :
    k0_pay50 H (View.ld (iblk m c 3 t) (Rect.unit (s := S1024x3200) ![0, 3072] ![1024, 128] inb_S1024x3200_S1024x128_0_3072)) (iblk m c 4 t) (ix2 r n) = gates m c (ix2 R n) := by
  have e := dot_at m c t _ r R hH 3072 128 inb_S1024x3200_S1024x128_0_3072 n ⟨3072 + n.val, by omega⟩ rfl
  rw [gates_lower, gates_ref m c R n _ rfl, bias m c t n, e]

/-- The gated recurrence's input, lower half. -/
theorem recurrence_row_lower (hH : ∀ k : Fin 1024, H (ix2 r k) = hidden m c (ix2 R k)) (n : Fin 512) :
    k0_pay51 H (View.ld (iblk m c 3 t) (Rect.unit (s := S1024x3200) ![0, 1792] ![1024, 512] inb_S1024x3200_S1024x512_0_1792)) (ix2 r n) = recurrence m c (ix2 R n) := by
  rw [recurrence_lower, rg_ref]
  exact dot_at m c t _ r R hH 1792 512 _ _ _ rfl

/-- The neighbourhood attention's queries, upper half. -/
theorem na_q_row_upper (hH : ∀ k : Fin 1024, H (ix2 r k) = hidden m c (ix2 R k)) (n : Fin 256) :
    k0_pay16 (k0_pay11 H (View.ld (iblk m c 3 t) (Rect.unit (s := S1024x3200) ![0, 1024] ![1024, 768] inb_S1024x3200_S1024x768_0_1024))) (View.ld (iblk m c 5 t) (Rect.unit (s := S4x256) ![0, 0] ![1, 256] inb_S4x256_S1x256_0_0)) lanes (k0_pay12 H (View.ld (iblk m c 3 t) (Rect.unit (s := S1024x3200) ![0, 1024] ![1024, 768] inb_S1024x3200_S1024x768_0_1024))) (k0_pay13 H (View.ld (iblk m c 3 t) (Rect.unit (s := S1024x3200) ![0, 1024] ![1024, 768] inb_S1024x3200_S1024x768_0_1024))) k0_pay14 k0_pay15 (ix2 r n) = naQ m c (ix2 R n) := by
  rw [na_q_upper, na_q_ref]
  exact congrArg₂ (fun z g => rms64 z g n)
    (funext fun k => (na_q_columns_upper H _ r k).trans (dot_at m c t H r R hH 1024 768 _ _ _ (by dsimp only; omega))) (gains m c t 0 (by omega) _ n)

/-- The neighbourhood attention's keys in the first layer's part of their cache, upper half. -/
theorem na_k_row_upper (b : Fin 32) (hR : R.val = b.val * 256 + r.val) (hH : ∀ k : Fin 1024, H (ix2 r k) = hidden m c (ix2 R k)) (n : Fin 256) :
    k0_pay37 (k0_pay20 (k0_pay17 (k0_pay10 H (View.ld (iblk m c 3 t) (Rect.unit (s := S1024x3200) ![0, 1024] ![1024, 768] inb_S1024x3200_S1024x768_0_1024)))) (View.ld (iblk m c 5 t) (Rect.unit (s := S4x256) ![1, 0] ![1, 256] inb_S4x256_S1x256_1_0)) lanes (k0_pay18 (k0_pay10 H (View.ld (iblk m c 3 t) (Rect.unit (s := S1024x3200) ![0, 1024] ![1024, 768] inb_S1024x3200_S1024x768_0_1024)))) (k0_pay19 (k0_pay10 H (View.ld (iblk m c 3 t) (Rect.unit (s := S1024x3200) ![0, 1024] ![1024, 768] inb_S1024x3200_S1024x768_0_1024)))))
      (ix4 0 0 r n) = naK m c (ix4 b 0 r n) := by
  obtain ⟨R, hlt⟩ := R
  dsimp only at hR
  subst hR
  rw [na_k_store_upper, na_k_upper, na_k_ref, if_pos (by decide)]
  exact congrArg₂ (fun z g => rms64 z g n)
    (funext fun k => (na_k_columns_upper H _ r k).trans (dot_at m c t H r _ hH 1024 768 _ _ _ (by dsimp only; omega))) (gains m c t 1 (by omega) _ n)

/-- The neighbourhood attention's values in the first layer's part of their cache, upper half. -/
theorem na_v_row_upper (b : Fin 32) (hR : R.val = b.val * 256 + r.val) (hH : ∀ k : Fin 1024, H (ix2 r k) = hidden m c (ix2 R k)) (n : Fin 256) :
    k0_pay39 (k0_pay10 H (View.ld (iblk m c 3 t) (Rect.unit (s := S1024x3200) ![0, 1024] ![1024, 768] inb_S1024x3200_S1024x768_0_1024))) (ix4 0 0 r n) = naV m c (ix4 b 0 r n) := by
  obtain ⟨R, hlt⟩ := R
  dsimp only at hR
  subst hR
  rw [na_v_upper, na_v_ref, if_pos (by decide)]
  exact dot_at m c t H r _ hH 1024 768 _ _ _ (by dsimp only; omega)

/-- The neighbourhood attention's queries, lower half. -/
theorem na_q_row_lower (hH : ∀ k : Fin 1024, H (ix2 r k) = hidden m c (ix2 R k)) (n : Fin 256) :
    k0_pay58 (k0_pay53 H (View.ld (iblk m c 3 t) (Rect.unit (s := S1024x3200) ![0, 1024] ![1024, 768] inb_S1024x3200_S1024x768_0_1024))) (View.ld (iblk m c 5 t) (Rect.unit (s := S4x256) ![0, 0] ![1, 256] inb_S4x256_S1x256_0_0)) (k0_pay54 (k0_pay53 H (View.ld (iblk m c 3 t) (Rect.unit (s := S1024x3200) ![0, 1024] ![1024, 768] inb_S1024x3200_S1024x768_0_1024)))) (k0_pay55 (k0_pay53 H (View.ld (iblk m c 3 t) (Rect.unit (s := S1024x3200) ![0, 1024] ![1024, 768] inb_S1024x3200_S1024x768_0_1024)))) k0_pay56 k0_pay57 (ix2 r n) = naQ m c (ix2 R n) := by
  rw [na_q_lower, na_q_ref]
  exact congrArg₂ (fun z g => rms64 z g n)
    (funext fun k => (na_q_columns_lower H _ r k).trans (dot_at m c t H r R hH 1024 768 _ _ _ (by dsimp only; omega))) (gains m c t 0 (by omega) _ n)

/-- The neighbourhood attention's keys in the first layer's part of their cache, lower half. -/
theorem na_k_row_lower (b : Fin 32) (hR : R.val = b.val * 256 + r.val) (hH : ∀ k : Fin 1024, H (ix2 r k) = hidden m c (ix2 R k)) (n : Fin 256) :
    k0_pay83 (k0_pay62 (k0_pay59 (k0_pay52 H (View.ld (iblk m c 3 t) (Rect.unit (s := S1024x3200) ![0, 1024] ![1024, 768] inb_S1024x3200_S1024x768_0_1024)))) (View.ld (iblk m c 5 t) (Rect.unit (s := S4x256) ![1, 0] ![1, 256] inb_S4x256_S1x256_1_0)) lanes (k0_pay60 (k0_pay52 H (View.ld (iblk m c 3 t) (Rect.unit (s := S1024x3200) ![0, 1024] ![1024, 768] inb_S1024x3200_S1024x768_0_1024)))) (k0_pay61 (k0_pay52 H (View.ld (iblk m c 3 t) (Rect.unit (s := S1024x3200) ![0, 1024] ![1024, 768] inb_S1024x3200_S1024x768_0_1024)))))
      (ix4 0 0 r n) = naK m c (ix4 b 0 r n) := by
  obtain ⟨R, hlt⟩ := R
  dsimp only at hR
  subst hR
  rw [na_k_store_lower, na_k_lower, na_k_ref, if_pos (by decide)]
  exact congrArg₂ (fun z g => rms64 z g n)
    (funext fun k => (na_k_columns_lower H _ r k).trans (dot_at m c t H r _ hH 1024 768 _ _ _ (by dsimp only; omega))) (gains m c t 1 (by omega) _ n)

/-- The neighbourhood attention's values in the first layer's part of their cache, lower half. -/
theorem na_v_row_lower (b : Fin 32) (hR : R.val = b.val * 256 + r.val) (hH : ∀ k : Fin 1024, H (ix2 r k) = hidden m c (ix2 R k)) (n : Fin 256) :
    k0_pay86 (k0_pay81 (k0_pay52 H (View.ld (iblk m c 3 t) (Rect.unit (s := S1024x3200) ![0, 1024] ![1024, 768] inb_S1024x3200_S1024x768_0_1024)))) (ix4 0 0 r n) = naV m c (ix4 b 0 r n) := by
  obtain ⟨R, hlt⟩ := R
  dsimp only at hR
  subst hR
  rw [na_v_lower, na_v_ref, if_pos (by decide)]
  exact dot_at m c t H r _ hH 1024 768 _ _ _ (by dsimp only; omega)

/-- The differential attention's queries, upper half. -/
theorem df_q_row_upper (hH : ∀ k : Fin 1024, H (ix2 r k) = hidden m c (ix2 R k)) (n : Fin 256) :
    k0_pay28 (k0_pay22 H (View.ld (iblk m c 3 t) (Rect.unit (s := S1024x3200) ![0, 2304] ![1024, 768] inb_S1024x3200_S1024x768_0_2304))) (View.ld (iblk m c 5 t) (Rect.unit (s := S4x256) ![2, 0] ![1, 256] inb_S4x256_S1x256_2_0)) lanes (k0_pay23 H (View.ld (iblk m c 3 t) (Rect.unit (s := S1024x3200) ![0, 2304] ![1024, 768] inb_S1024x3200_S1024x768_0_2304))) (k0_pay25 lanes (k0_pay23 H (View.ld (iblk m c 3 t) (Rect.unit (s := S1024x3200) ![0, 2304] ![1024, 768] inb_S1024x3200_S1024x768_0_2304))) (k0_pay24 H (View.ld (iblk m c 3 t) (Rect.unit (s := S1024x3200) ![0, 2304] ![1024, 768] inb_S1024x3200_S1024x768_0_2304))) 96#32) (k0_pay26 lanes) (k0_pay27 lanes (k0_pay23 H (View.ld (iblk m c 3 t) (Rect.unit (s := S1024x3200) ![0, 2304] ![1024, 768] inb_S1024x3200_S1024x768_0_2304)))) (ix2 r n) = dfQ m c (ix2 R n) := by
  rw [df_q_upper, df_q_ref]
  exact congrArg₂ (fun z g => rms32 z g n)
    (funext fun k => (df_q_columns_upper H _ r k).trans (dot_at m c t H r R hH 2304 768 _ _ _ (by dsimp only; omega))) (gains m c t 2 (by omega) _ n)

/-- The differential attention's keys in the first layer's part of their cache, upper half. -/
theorem df_k_row_upper (b : Fin 32) (hR : R.val = b.val * 256 + r.val) (hH : ∀ k : Fin 1024, H (ix2 r k) = hidden m c (ix2 R k)) (n : Fin 256) :
    k0_pay41 (k0_pay35 (k0_pay29 (k0_pay21 H (View.ld (iblk m c 3 t) (Rect.unit (s := S1024x3200) ![0, 2304] ![1024, 768] inb_S1024x3200_S1024x768_0_2304)))) (View.ld (iblk m c 5 t) (Rect.unit (s := S4x256) ![3, 0] ![1, 256] inb_S4x256_S1x256_3_0)) lanes (k0_pay30 (k0_pay21 H (View.ld (iblk m c 3 t) (Rect.unit (s := S1024x3200) ![0, 2304] ![1024, 768] inb_S1024x3200_S1024x768_0_2304)))) (k0_pay33 lanes (k0_pay30 (k0_pay21 H (View.ld (iblk m c 3 t) (Rect.unit (s := S1024x3200) ![0, 2304] ![1024, 768] inb_S1024x3200_S1024x768_0_2304)))) (k0_pay31 (k0_pay21 H (View.ld (iblk m c 3 t) (Rect.unit (s := S1024x3200) ![0, 2304] ![1024, 768] inb_S1024x3200_S1024x768_0_2304)))) k0_pay32) (k0_pay34 lanes))
      (ix4 0 0 r n) = dfK m c (ix4 b 0 r n) := by
  obtain ⟨R, hlt⟩ := R
  dsimp only at hR
  subst hR
  rw [df_k_store_upper, df_k_upper, df_k_ref, if_pos (by decide)]
  exact congrArg₂ (fun z g => rms32 z g n)
    (funext fun k => (df_k_columns_upper H _ r k).trans (dot_at m c t H r _ hH 2304 768 _ _ _ (by dsimp only; omega))) (gains m c t 3 (by omega) _ n)

/-- The differential attention's values in the first layer's part of their cache, upper half. -/
theorem df_v_row_upper (b : Fin 32) (hR : R.val = b.val * 256 + r.val) (hH : ∀ k : Fin 1024, H (ix2 r k) = hidden m c (ix2 R k)) (n : Fin 256) :
    k0_pay43 (k0_pay36 (k0_pay21 H (View.ld (iblk m c 3 t) (Rect.unit (s := S1024x3200) ![0, 2304] ![1024, 768] inb_S1024x3200_S1024x768_0_2304)))) (ix4 0 0 r n) = dfV m c (ix4 b 0 r n) := by
  obtain ⟨R, hlt⟩ := R
  dsimp only at hR
  subst hR
  rw [df_v_upper, df_v_ref, if_pos (by decide)]
  exact dot_at m c t H r _ hH 2304 768 _ _ _ (by dsimp only; omega)

/-- The differential attention's queries, lower half. -/
theorem df_q_row_lower (hH : ∀ k : Fin 1024, H (ix2 r k) = hidden m c (ix2 R k)) (n : Fin 256) :
    k0_pay73 (k0_pay64 H (View.ld (iblk m c 3 t) (Rect.unit (s := S1024x3200) ![0, 2304] ![1024, 768] inb_S1024x3200_S1024x768_0_2304))) (View.ld (iblk m c 5 t) (Rect.unit (s := S4x256) ![2, 0] ![1, 256] inb_S4x256_S1x256_2_0)) (k0_pay70 lanes (k0_pay65 H (View.ld (iblk m c 3 t) (Rect.unit (s := S1024x3200) ![0, 2304] ![1024, 768] inb_S1024x3200_S1024x768_0_2304))) (k0_pay69 lanes (k0_pay65 H (View.ld (iblk m c 3 t) (Rect.unit (s := S1024x3200) ![0, 2304] ![1024, 768] inb_S1024x3200_S1024x768_0_2304))) k0_pay66 k0_pay67 k0_pay68) 128#32) (k0_pay71 lanes) (k0_pay72 lanes (k0_pay65 H (View.ld (iblk m c 3 t) (Rect.unit (s := S1024x3200) ![0, 2304] ![1024, 768] inb_S1024x3200_S1024x768_0_2304)))) (ix2 r n) = dfQ m c (ix2 R n) := by
  rw [df_q_lower, df_q_ref]
  exact congrArg₂ (fun z g => rms32 z g n)
    (funext fun k => (df_q_columns_lower H _ r k).trans (dot_at m c t H r R hH 2304 768 _ _ _ (by dsimp only; omega))) (gains m c t 2 (by omega) _ n)

/-- The differential attention's keys in the first layer's part of their cache, lower half. -/
theorem df_k_row_lower (b : Fin 32) (hR : R.val = b.val * 256 + r.val) (hH : ∀ k : Fin 1024, H (ix2 r k) = hidden m c (ix2 R k)) (n : Fin 256) :
    k0_pay88 (k0_pay80 (k0_pay74 (k0_pay63 H (View.ld (iblk m c 3 t) (Rect.unit (s := S1024x3200) ![0, 2304] ![1024, 768] inb_S1024x3200_S1024x768_0_2304)))) (View.ld (iblk m c 5 t) (Rect.unit (s := S4x256) ![3, 0] ![1, 256] inb_S4x256_S1x256_3_0)) lanes (k0_pay75 (k0_pay63 H (View.ld (iblk m c 3 t) (Rect.unit (s := S1024x3200) ![0, 2304] ![1024, 768] inb_S1024x3200_S1024x768_0_2304)))) (k0_pay78 lanes (k0_pay75 (k0_pay63 H (View.ld (iblk m c 3 t) (Rect.unit (s := S1024x3200) ![0, 2304] ![1024, 768] inb_S1024x3200_S1024x768_0_2304)))) (k0_pay76 (k0_pay63 H (View.ld (iblk m c 3 t) (Rect.unit (s := S1024x3200) ![0, 2304] ![1024, 768] inb_S1024x3200_S1024x768_0_2304)))) k0_pay77) (k0_pay79 lanes))
      (ix4 0 0 r n) = dfK m c (ix4 b 0 r n) := by
  obtain ⟨R, hlt⟩ := R
  dsimp only at hR
  subst hR
  rw [df_k_store_lower, df_k_lower, df_k_ref, if_pos (by decide)]
  exact congrArg₂ (fun z g => rms32 z g n)
    (funext fun k => (df_k_columns_lower H _ r k).trans (dot_at m c t H r _ hH 2304 768 _ _ _ (by dsimp only; omega))) (gains m c t 3 (by omega) _ n)

/-- The differential attention's values in the first layer's part of their cache, lower half. -/
theorem df_v_row_lower (b : Fin 32) (hR : R.val = b.val * 256 + r.val) (hH : ∀ k : Fin 1024, H (ix2 r k) = hidden m c (ix2 R k)) (n : Fin 256) :
    k0_pay90 (k0_pay82 (k0_pay63 H (View.ld (iblk m c 3 t) (Rect.unit (s := S1024x3200) ![0, 2304] ![1024, 768] inb_S1024x3200_S1024x768_0_2304)))) (ix4 0 0 r n) = dfV m c (ix4 b 0 r n) := by
  obtain ⟨R, hlt⟩ := R
  dsimp only at hR
  subst hR
  rw [df_v_lower, df_v_ref, if_pos (by decide)]
  exact dot_at m c t H r _ hH 2304 768 _ _ _ (by dsimp only; omega)

end rows

/-- The reference's caches hold zeros in the second layer's part. -/
theorem second (b : Fin 32) (r n : Fin 256) : naK m c (ix4 b 1 r n) = 0 ∧ naV m c (ix4 b 1 r n) = 0 ∧ dfK m c (ix4 b 1 r n) = 0
    ∧ dfV m c (ix4 b 1 r n) = 0 := by
  rw [na_k_ref, na_v_ref, df_k_ref, df_v_ref]
  exact ⟨if_neg (by decide), if_neg (by decide), if_neg (by decide), if_neg (by decide)⟩

end Cert.Kernel3Ideal.Proj
-- ==== Proof.ProjValue.lean ====
/- The projection: what the idealized kernel leaves in its nine result arrays is what the reference computes. -/
module

public import proofs.«01_k».proof.Proof.ProjStored
public import Idealize.ShloMosaic.Lib.Ring

@[expose] public section

set_option maxRecDepth 16384

noncomputable section

open Idealize.ShloMosaic Idealize.ShloMosaic.TcCoe Idealize.SL.Sem
open Idealize.ShloMosaic.Pipeline (Dat)

namespace Cert.Kernel3Ideal.Proj
open Cert.Kernel3Ideal Cert.Kernel3Ideal.Gen

variable (m : (ℓ : Loc nD τ sig) → Buf (Elt Ideal) ℓ) (c : Dev nD)

/-- There are sixteen grid points. -/
theorem point_lt : ∀ t : Fin cfg0.N, t.val < 16 := (by decide +kernel : ∀ t : Fin grid0.N, _)

/-- Row `p`, lane `n` of grid point `t`'s block of the matrix memory's input is an entry of row `512 t + p`. -/
theorem place6 (t : Fin cfg0.N) (y : S512x1024.Idx) (p : ℕ) (n : Fin 1024) (h0 : (y 0).val = p) (h1 : (y 1).val = n.val) :
    ∃ R : Fin 8192, R.val = t.val * 512 + p ∧ ((cfg0.win 6).blk t).view.emb y = ix2 R n := by
  have ht := point_lt t
  have hy : (y 0).val < 512 := (y 0).isLt
  obtain ⟨n, hn⟩ := n
  dsimp only at h1
  subst h0 h1
  exact ⟨⟨t.val * 512 + (y 0).val, by omega⟩, rfl, by blk_ext [idx t]⟩

/-- What one grid point computes of the matrix memory's input. -/
theorem point6 (t : Fin cfg0.N) (y : S512x1024.Idx) :
    (outsAt0 m c t).1 y = memory m c (((cfg0.win 6).blk t).view.emb y) := by
  unfold outsAt0
  dsimp only
  frame_out
  canon_tiles x h using View.cover_of_tiledBy _ ![256, 256] (by sl_kernel_rfl) y
  · obtain ⟨r, n, rfl⟩ : ∃ (r : Fin 256) (n : Fin 512), x = ix2 r n := ⟨x 0, x 1, eq_ix2 x⟩
    obtain ⟨R, hR, e⟩ := place6 t y (256 + r.val) ⟨512 + n.val, by omega⟩ h0 h1
    exact (memory_v_row_lower m c t _ _ _ _ r R (fun k => lower_eq m c t r k R hR) n).trans (congrArg _ e.symm)
  · obtain ⟨r, n, rfl⟩ : ∃ (r : Fin 256) (n : Fin 256), x = ix2 r n := ⟨x 0, x 1, eq_ix2 x⟩
    obtain ⟨R, hR, e⟩ := place6 t y (256 + r.val) ⟨256 + n.val, by omega⟩ h0 h1
    exact (memory_k_row_lower m c t _ _ _ _ r R (fun k => lower_eq m c t r k R hR) n).trans (congrArg _ e.symm)
  · obtain ⟨r, n, rfl⟩ : ∃ (r : Fin 256) (n : Fin 256), x = ix2 r n := ⟨x 0, x 1, eq_ix2 x⟩
    obtain ⟨R, hR, e⟩ := place6 t y (256 + r.val) ⟨n.val, by omega⟩ h0 h1
    exact (memory_q_row_lower m c t _ _ _ _ r R (fun k => lower_eq m c t r k R hR) n).trans (congrArg _ e.symm)
  · obtain ⟨r, n, rfl⟩ : ∃ (r : Fin 256) (n : Fin 512), x = ix2 r n := ⟨x 0, x 1, eq_ix2 x⟩
    obtain ⟨R, hR, e⟩ := place6 t y (r.val) ⟨512 + n.val, by omega⟩ h0 h1
    exact (memory_v_row_upper m c t _ _ r R (fun k => upper_eq m c t r k R hR) n).trans (congrArg _ e.symm)
  · obtain ⟨r, n, rfl⟩ : ∃ (r : Fin 256) (n : Fin 256), x = ix2 r n := ⟨x 0, x 1, eq_ix2 x⟩
    obtain ⟨R, hR, e⟩ := place6 t y (r.val) ⟨256 + n.val, by omega⟩ h0 h1
    exact (memory_k_row_upper m c t _ _ r R (fun k => upper_eq m c t r k R hR) n).trans (congrArg _ e.symm)
  · obtain ⟨r, n, rfl⟩ : ∃ (r : Fin 256) (n : Fin 256), x = ix2 r n := ⟨x 0, x 1, eq_ix2 x⟩
    obtain ⟨R, hR, e⟩ := place6 t y (r.val) ⟨n.val, by omega⟩ h0 h1
    exact (memory_q_row_upper m c t _ _ r R (fun k => upper_eq m c t r k R hR) n).trans (congrArg _ e.symm)

/-- The array of the matrix memory's input after the run. -/
theorem final6 : (dats m 0 c).arrAt 6 (cfgs 0).N = memory m c := by
  refine (dats m 0 c).arrAt_eq_of_covers 6 _ (by decide +kernel) fun t _ y => ?_
  blk_simp
  rw [after0_6]
  exact point6 m c t y

/-- Row `p`, lane `n` of grid point `t`'s block of the gates' logits is an entry of row `512 t + p`. -/
theorem place7 (t : Fin cfg0.N) (y : S512x128.Idx) (p : ℕ) (n : Fin 128) (h0 : (y 0).val = p) (h1 : (y 1).val = n.val) :
    ∃ R : Fin 8192, R.val = t.val * 512 + p ∧ ((cfg0.win 7).blk t).view.emb y = ix2 R n := by
  have ht := point_lt t
  have hy : (y 0).val < 512 := (y 0).isLt
  obtain ⟨n, hn⟩ := n
  dsimp only at h1
  subst h0 h1
  exact ⟨⟨t.val * 512 + (y 0).val, by omega⟩, rfl, by blk_ext [idx t]⟩

/-- What one grid point computes of the gates' logits. -/
theorem point7 (t : Fin cfg0.N) (y : S512x128.Idx) :
    (outsAt0 m c t).2.1 y = gates m c (((cfg0.win 7).blk t).view.emb y) := by
  unfold outsAt0
  dsimp only
  frame_out
  canon_tiles x h
  · obtain ⟨r, n, rfl⟩ : ∃ (r : Fin 256) (n : Fin 128), x = ix2 r n := ⟨x 0, x 1, eq_ix2 x⟩
    obtain ⟨R, hR, e⟩ := place7 t y (256 + r.val) n h0 h1
    exact (gates_row_lower m c t _ r R (fun k => lower_eq m c t r k R hR) n).trans (congrArg _ e.symm)
  · obtain ⟨r, n, rfl⟩ : ∃ (r : Fin 256) (n : Fin 128), x = ix2 r n := ⟨x 0, x 1, eq_ix2 x⟩
    obtain ⟨R, hR, e⟩ := place7 t y (r.val) n h0 h1
    exact (gates_row_upper m c t _ _ r R (fun k => upper_eq m c t r k R hR) n).trans (congrArg _ e.symm)

/-- The array of the gates' logits after the run. -/
theorem final7 : (dats m 0 c).arrAt 7 (cfgs 0).N = gates m c := by
  refine (dats m 0 c).arrAt_eq_of_covers 7 _ (by decide +kernel) fun t _ y => ?_
  blk_simp
  rw [after0_7]
  exact point7 m c t y

/-- Row `p`, lane `n` of grid point `t`'s block of the neighbourhood attention's queries is an entry of row `512 t + p`. -/
theorem place8 (t : Fin cfg0.N) (y : S512x256.Idx) (p : ℕ) (n : Fin 256) (h0 : (y 0).val = p) (h1 : (y 1).val = n.val) :
    ∃ R : Fin 8192, R.val = t.val * 512 + p ∧ ((cfg0.win 8).blk t).view.emb y = ix2 R n := by
  have ht := point_lt t
  have hy : (y 0).val < 512 := (y 0).isLt
  obtain ⟨n, hn⟩ := n
  dsimp only at h1
  subst h0 h1
  exact ⟨⟨t.val * 512 + (y 0).val, by omega⟩, rfl, by blk_ext [idx t]⟩

/-- What one grid point computes of the neighbourhood attention's queries. -/
theorem point8 (t : Fin cfg0.N) (y : S512x256.Idx) :
    (outsAt0 m c t).2.2.1 y = naQ m c (((cfg0.win 8).blk t).view.emb y) := by
  unfold outsAt0
  dsimp only
  frame_out
  canon_tiles x h
  · obtain ⟨r, n, rfl⟩ : ∃ (r : Fin 256) (n : Fin 256), x = ix2 r n := ⟨x 0, x 1, eq_ix2 x⟩
    obtain ⟨R, hR, e⟩ := place8 t y (256 + r.val) n h0 h1
    exact (na_q_row_lower m c t _ r R (fun k => lower_eq m c t r k R hR) n).trans (congrArg _ e.symm)
  · obtain ⟨r, n, rfl⟩ : ∃ (r : Fin 256) (n : Fin 256), x = ix2 r n := ⟨x 0, x 1, eq_ix2 x⟩
    obtain ⟨R, hR, e⟩ := place8 t y (r.val) n h0 h1
    exact (na_q_row_upper m c t _ r R (fun k => upper_eq m c t r k R hR) n).trans (congrArg _ e.symm)

/-- The array of the neighbourhood attention's queries after the run. -/
theorem final8 : (dats m 0 c).arrAt 8 (cfgs 0).N = naQ m c := by
  refine (dats m 0 c).arrAt_eq_of_covers 8 _ (by decide +kernel) fun t _ y => ?_
  blk_simp
  rw [after0_8]
  exact point8 m c t y

/-- Row `p`, lane `n` of grid point `t`'s block of the gated recurrence's input is an entry of row `512 t + p`. -/
theorem place9 (t : Fin cfg0.N) (y : S512x512.Idx) (p : ℕ) (n : Fin 512) (h0 : (y 0).val = p) (h1 : (y 1).val = n.val) :
    ∃ R : Fin 8192, R.val = t.val * 512 + p ∧ ((cfg0.win 9).blk t).view.emb y = ix2 R n := by
  have ht := point_lt t
  have hy : (y 0).val < 512 := (y 0).isLt
  obtain ⟨n, hn⟩ := n
  dsimp only at h1
  subst h0 h1
  exact ⟨⟨t.val * 512 + (y 0).val, by omega⟩, rfl, by blk_ext [idx t]⟩

/-- What one grid point computes of the gated recurrence's input. -/
theorem point9 (t : Fin cfg0.N) (y : S512x512.Idx) :
    (outsAt0 m c t).2.2.2.1 y = recurrence m c (((cfg0.win 9).blk t).view.emb y) := by
  unfold outsAt0
  dsimp only
  frame_out
  canon_tiles x h
  · obtain ⟨r, n, rfl⟩ : ∃ (r : Fin 256) (n : Fin 512), x = ix2 r n := ⟨x 0, x 1, eq_ix2 x⟩
    obtain ⟨R, hR, e⟩ := place9 t y (256 + r.val) n h0 h1
    exact (recurrence_row_lower m c t _ r R (fun k => lower_eq m c t r k R hR) n).trans (congrArg _ e.symm)
  · obtain ⟨r, n, rfl⟩ : ∃ (r : Fin 256) (n : Fin 512), x = ix2 r n := ⟨x 0, x 1, eq_ix2 x⟩
    obtain ⟨R, hR, e⟩ := place9 t y (r.val) n h0 h1
    exact (recurrence_row_upper m c t _ r R (fun k => upper_eq m c t r k R hR) n).trans (congrArg _ e.symm)

/-- The array of the gated recurrence's input after the run. -/
theorem final9 : (dats m 0 c).arrAt 9 (cfgs 0).N = recurrence m c := by
  refine (dats m 0 c).arrAt_eq_of_covers 9 _ (by decide +kernel) fun t _ y => ?_
  blk_simp
  rw [after0_9]
  exact point9 m c t y

/-- Row `p`, lane `n` of grid point `t`'s block of the differential attention's queries is an entry of row `512 t + p`. -/
theorem place10 (t : Fin cfg0.N) (y : S512x256.Idx) (p : ℕ) (n : Fin 256) (h0 : (y 0).val = p) (h1 : (y 1).val = n.val) :
    ∃ R : Fin 8192, R.val = t.val * 512 + p ∧ ((cfg0.win 10).blk t).view.emb y = ix2 R n := by
  have ht := point_lt t
  have hy : (y 0).val < 512 := (y 0).isLt
  obtain ⟨n, hn⟩ := n
  dsimp only at h1
  subst h0 h1
  exact ⟨⟨t.val * 512 + (y 0).val, by omega⟩, rfl, by blk_ext [idx t]⟩

/-- What one grid point computes of the differential attention's queries. -/
theorem point10 (t : Fin cfg0.N) (y : S512x256.Idx) :
    (outsAt0 m c t).2.2.2.2.1 y = dfQ m c (((cfg0.win 10).blk t).view.emb y) := by
  unfold outsAt0
  dsimp only
  frame_out
  canon_tiles x h
  · obtain ⟨r, n, rfl⟩ : ∃ (r : Fin 256) (n : Fin 256), x = ix2 r n := ⟨x 0, x 1, eq_ix2 x⟩
    obtain ⟨R, hR, e⟩ := place10 t y (256 + r.val) n h0 h1
    exact (df_q_row_lower m c t _ r R (fun k => lower_eq m c t r k R hR) n).trans (congrArg _ e.symm)
  · obtain ⟨r, n, rfl⟩ : ∃ (r : Fin 256) (n : Fin 256), x = ix2 r n := ⟨x 0, x 1, eq_ix2 x⟩
    obtain ⟨R, hR, e⟩ := place10 t y (r.val) n h0 h1
    exact (df_q_row_upper m c t _ r R (fun k => upper_eq m c t r k R hR) n).trans (congrArg _ e.symm)

/-- The array of the differential attention's queries after the run. -/
theorem final10 : (dats m 0 c).arrAt 10 (cfgs 0).N = dfQ m c := by
  refine (dats m 0 c).arrAt_eq_of_covers 10 _ (by decide +kernel) fun t _ y => ?_
  blk_simp
  rw [after0_10]
  exact point10 m c t y

/-- Entry `(g, l, r, n)` of grid point `t`'s block of the cache of the neighbourhood attention's keys belongs to context `2 t + g`, layer `l`. -/
theorem place11 (t : Fin cfg0.N) (y : S2x2x256x256.Idx) (g : ℕ) (l : Fin 2) (r n : Fin 256) (h0 : (y 0).val = g) (h1 : (y 1).val = l.val)
    (h2 : (y 2).val = r.val) (h3 : (y 3).val = n.val) :
    ∃ b : Fin 32, b.val = t.val * 2 + g ∧ ((cfg0.win 11).blk t).view.emb y = ix4 b l r n := by
  have ht := point_lt t
  have hy : (y 0).val < 2 := (y 0).isLt
  obtain ⟨l, hl⟩ := l
  obtain ⟨r, hr⟩ := r
  obtain ⟨n, hn⟩ := n
  dsimp only at h1 h2 h3
  subst h0 h1 h2 h3
  exact ⟨⟨t.val * 2 + (y 0).val, by omega⟩, rfl, by blk_ext [idx t]⟩

/-- What one grid point computes of the cache of the neighbourhood attention's keys: two contexts' first layer, and zeros for the second. -/
theorem point11 (t : Fin cfg0.N) (y : S2x2x256x256.Idx) :
    (outsAt0 m c t).2.2.2.2.2.1 y = naK m c (((cfg0.win 11).blk t).view.emb y) := by
  unfold outsAt0
  dsimp only
  frame_out
  canon_tiles x h
  · obtain ⟨i, j, r, n, rfl⟩ : ∃ (i j : Fin 1) (r n : Fin 256), x = ix4 i j r n := ⟨x 0, x 1, x 2, x 3, eq_ix4 x⟩
    obtain rfl : i = 0 := Subsingleton.elim _ _
    obtain rfl : j = 0 := Subsingleton.elim _ _
    obtain ⟨b, hb, e⟩ := place11 t y 1 1 r n h0 h1 h2 h3
    exact (zeros _).2.1.trans ((second m c b r n).1.symm.trans (congrArg _ e.symm))
  · obtain ⟨i, j, r, n, rfl⟩ : ∃ (i j : Fin 1) (r n : Fin 256), x = ix4 i j r n := ⟨x 0, x 1, x 2, x 3, eq_ix4 x⟩
    obtain rfl : i = 0 := Subsingleton.elim _ _
    obtain rfl : j = 0 := Subsingleton.elim _ _
    obtain ⟨b, hb, e⟩ := place11 t y 1 0 r n h0 h1 h2 h3
    exact (na_k_row_lower m c t _ r ⟨b.val * 256 + r.val, by omega⟩ b rfl (fun k => lower_eq m c t r k _ (by dsimp only; omega)) n).trans
      (congrArg _ e.symm)
  · obtain ⟨i, j, r, n, rfl⟩ : ∃ (i j : Fin 1) (r n : Fin 256), x = ix4 i j r n := ⟨x 0, x 1, x 2, x 3, eq_ix4 x⟩
    obtain rfl : i = 0 := Subsingleton.elim _ _
    obtain rfl : j = 0 := Subsingleton.elim _ _
    obtain ⟨b, hb, e⟩ := place11 t y 0 1 r n h0 h1 h2 h3
    exact (zeros _).1.trans ((second m c b r n).1.symm.trans (congrArg _ e.symm))
  · obtain ⟨i, j, r, n, rfl⟩ : ∃ (i j : Fin 1) (r n : Fin 256), x = ix4 i j r n := ⟨x 0, x 1, x 2, x 3, eq_ix4 x⟩
    obtain rfl : i = 0 := Subsingleton.elim _ _
    obtain rfl : j = 0 := Subsingleton.elim _ _
    obtain ⟨b, hb, e⟩ := place11 t y 0 0 r n h0 h1 h2 h3
    exact (na_k_row_upper m c t _ r ⟨b.val * 256 + r.val, by omega⟩ b rfl (fun k => upper_eq m c t r k _ (by dsimp only; omega)) n).trans
      (congrArg _ e.symm)

/-- The array of the cache of the neighbourhood attention's keys after the run. -/
theorem final11 : (dats m 0 c).arrAt 11 (cfgs 0).N = naK m c := by
  refine (dats m 0 c).arrAt_eq_of_covers 11 _ (by decide +kernel) fun t _ y => ?_
  blk_simp
  rw [after0_11]
  exact point11 m c t y

/-- Entry `(g, l, r, n)` of grid point `t`'s block of the cache of the neighbourhood attention's values belongs to context `2 t + g`, layer `l`. -/
theorem place12 (t : Fin cfg0.N) (y : S2x2x256x256.Idx) (g : ℕ) (l : Fin 2) (r n : Fin 256) (h0 : (y 0).val = g) (h1 : (y 1).val = l.val)
    (h2 : (y 2).val = r.val) (h3 : (y 3).val = n.val) :
    ∃ b : Fin 32, b.val = t.val * 2 + g ∧ ((cfg0.win 12).blk t).view.emb y = ix4 b l r n := by
  have ht := point_lt t
  have hy : (y 0).val < 2 := (y 0).isLt
  obtain ⟨l, hl⟩ := l
  obtain ⟨r, hr⟩ := r
  obtain ⟨n, hn⟩ := n
  dsimp only at h1 h2 h3
  subst h0 h1 h2 h3
  exact ⟨⟨t.val * 2 + (y 0).val, by omega⟩, rfl, by blk_ext [idx t]⟩

/-- What one grid point computes of the cache of the neighbourhood attention's values: two contexts' first layer, and zeros for the second. -/
theorem point12 (t : Fin cfg0.N) (y : S2x2x256x256.Idx) :
    (outsAt0 m c t).2.2.2.2.2.2.1 y = naV m c (((cfg0.win 12).blk t).view.emb y) := by
  unfold outsAt0
  dsimp only
  frame_out
  canon_tiles x h
  · obtain ⟨i, j, r, n, rfl⟩ : ∃ (i j : Fin 1) (r n : Fin 256), x = ix4 i j r n := ⟨x 0, x 1, x 2, x 3, eq_ix4 x⟩
    obtain rfl : i = 0 := Subsingleton.elim _ _
    obtain rfl : j = 0 := Subsingleton.elim _ _
    obtain ⟨b, hb, e⟩ := place12 t y 1 1 r n h0 h1 h2 h3
    exact (zeros _).2.2.2.1.trans ((second m c b r n).2.1.symm.trans (congrArg _ e.symm))
  · obtain ⟨i, j, r, n, rfl⟩ : ∃ (i j : Fin 1) (r n : Fin 256), x = ix4 i j r n := ⟨x 0, x 1, x 2, x 3, eq_ix4 x⟩
    obtain rfl : i = 0 := Subsingleton.elim _ _
    obtain rfl : j = 0 := Subsingleton.elim _ _
    obtain ⟨b, hb, e⟩ := place12 t y 1 0 r n h0 h1 h2 h3
    exact (na_v_row_lower m c t _ r ⟨b.val * 256 + r.val, by omega⟩ b rfl (fun k => lower_eq m c t r k _ (by dsimp only; omega)) n).trans
      (congrArg _ e.symm)
  · obtain ⟨i, j, r, n, rfl⟩ : ∃ (i j : Fin 1) (r n : Fin 256), x = ix4 i j r n := ⟨x 0, x 1, x 2, x 3, eq_ix4 x⟩
    obtain rfl : i = 0 := Subsingleton.elim _ _
    obtain rfl : j = 0 := Subsingleton.elim _ _
    obtain ⟨b, hb, e⟩ := place12 t y 0 1 r n h0 h1 h2 h3
    exact (zeros _).2.2.1.trans ((second m c b r n).2.1.symm.trans (congrArg _ e.symm))
  · obtain ⟨i, j, r, n, rfl⟩ : ∃ (i j : Fin 1) (r n : Fin 256), x = ix4 i j r n := ⟨x 0, x 1, x 2, x 3, eq_ix4 x⟩
    obtain rfl : i = 0 := Subsingleton.elim _ _
    obtain rfl : j = 0 := Subsingleton.elim _ _
    obtain ⟨b, hb, e⟩ := place12 t y 0 0 r n h0 h1 h2 h3
    exact (na_v_row_upper m c t _ r ⟨b.val * 256 + r.val, by omega⟩ b rfl (fun k => upper_eq m c t r k _ (by dsimp only; omega)) n).trans
      (congrArg _ e.symm)

/-- The array of the cache of the neighbourhood attention's values after the run. -/
theorem final12 : (dats m 0 c).arrAt 12 (cfgs 0).N = naV m c := by
  refine (dats m 0 c).arrAt_eq_of_covers 12 _ (by decide +kernel) fun t _ y => ?_
  blk_simp
  rw [after0_12]
  exact point12 m c t y

/-- Entry `(g, l, r, n)` of grid point `t`'s block of the cache of the differential attention's keys belongs to context `2 t + g`, layer `l`. -/
theorem place13 (t : Fin cfg0.N) (y : S2x2x256x256.Idx) (g : ℕ) (l : Fin 2) (r n : Fin 256) (h0 : (y 0).val = g) (h1 : (y 1).val = l.val)
    (h2 : (y 2).val = r.val) (h3 : (y 3).val = n.val) :
    ∃ b : Fin 32, b.val = t.val * 2 + g ∧ ((cfg0.win 13).blk t).view.emb y = ix4 b l r n := by
  have ht := point_lt t
  have hy : (y 0).val < 2 := (y 0).isLt
  obtain ⟨l, hl⟩ := l
  obtain ⟨r, hr⟩ := r
  obtain ⟨n, hn⟩ := n
  dsimp only at h1 h2 h3
  subst h0 h1 h2 h3
  exact ⟨⟨t.val * 2 + (y 0).val, by omega⟩, rfl, by blk_ext [idx t]⟩

/-- What one grid point computes of the cache of the differential attention's keys: two contexts' first layer, and zeros for the second. -/
theorem point13 (t : Fin cfg0.N) (y : S2x2x256x256.Idx) :
    (outsAt0 m c t).2.2.2.2.2.2.2.1 y = dfK m c (((cfg0.win 13).blk t).view.emb y) := by
  unfold outsAt0
  dsimp only
  frame_out
  canon_tiles x h
  · obtain ⟨i, j, r, n, rfl⟩ : ∃ (i j : Fin 1) (r n : Fin 256), x = ix4 i j r n := ⟨x 0, x 1, x 2, x 3, eq_ix4 x⟩
    obtain rfl : i = 0 := Subsingleton.elim _ _
    obtain rfl : j = 0 := Subsingleton.elim _ _
    obtain ⟨b, hb, e⟩ := place13 t y 1 1 r n h0 h1 h2 h3
    exact (zeros _).2.2.2.2.2.1.trans ((second m c b r n).2.2.1.symm.trans (congrArg _ e.symm))
  · obtain ⟨i, j, r, n, rfl⟩ : ∃ (i j : Fin 1) (r n : Fin 256), x = ix4 i j r n := ⟨x 0, x 1, x 2, x 3, eq_ix4 x⟩
    obtain rfl : i = 0 := Subsingleton.elim _ _
    obtain rfl : j = 0 := Subsingleton.elim _ _
    obtain ⟨b, hb, e⟩ := place13 t y 1 0 r n h0 h1 h2 h3
    exact (df_k_row_lower m c t _ r ⟨b.val * 256 + r.val, by omega⟩ b rfl (fun k => lower_eq m c t r k _ (by dsimp only; omega)) n).trans
      (congrArg _ e.symm)
  · obtain ⟨i, j, r, n, rfl⟩ : ∃ (i j : Fin 1) (r n : Fin 256), x = ix4 i j r n := ⟨x 0, x 1, x 2, x 3, eq_ix4 x⟩
    obtain rfl : i = 0 := Subsingleton.elim _ _
    obtain rfl : j = 0 := Subsingleton.elim _ _
    obtain ⟨b, hb, e⟩ := place13 t y 0 1 r n h0 h1 h2 h3
    exact (zeros _).2.2.2.2.1.trans ((second m c b r n).2.2.1.symm.trans (congrArg _ e.symm))
  · obtain ⟨i, j, r, n, rfl⟩ : ∃ (i j : Fin 1) (r n : Fin 256), x = ix4 i j r n := ⟨x 0, x 1, x 2, x 3, eq_ix4 x⟩
    obtain rfl : i = 0 := Subsingleton.elim _ _
    obtain rfl : j = 0 := Subsingleton.elim _ _
    obtain ⟨b, hb, e⟩ := place13 t y 0 0 r n h0 h1 h2 h3
    exact (df_k_row_upper m c t _ r ⟨b.val * 256 + r.val, by omega⟩ b rfl (fun k => upper_eq m c t r k _ (by dsimp only; omega)) n).trans
      (congrArg _ e.symm)

/-- The array of the cache of the differential attention's keys after the run. -/
theorem final13 : (dats m 0 c).arrAt 13 (cfgs 0).N = dfK m c := by
  refine (dats m 0 c).arrAt_eq_of_covers 13 _ (by decide +kernel) fun t _ y => ?_
  blk_simp
  rw [after0_13]
  exact point13 m c t y

/-- Entry `(g, l, r, n)` of grid point `t`'s block of the cache of the differential attention's values belongs to context `2 t + g`, layer `l`. -/
theorem place14 (t : Fin cfg0.N) (y : S2x2x256x256.Idx) (g : ℕ) (l : Fin 2) (r n : Fin 256) (h0 : (y 0).val = g) (h1 : (y 1).val = l.val)
    (h2 : (y 2).val = r.val) (h3 : (y 3).val = n.val) :
    ∃ b : Fin 32, b.val = t.val * 2 + g ∧ ((cfg0.win 14).blk t).view.emb y = ix4 b l r n := by
  have ht := point_lt t
  have hy : (y 0).val < 2 := (y 0).isLt
  obtain ⟨l, hl⟩ := l
  obtain ⟨r, hr⟩ := r
  obtain ⟨n, hn⟩ := n
  dsimp only at h1 h2 h3
  subst h0 h1 h2 h3
  exact ⟨⟨t.val * 2 + (y 0).val, by omega⟩, rfl, by blk_ext [idx t]⟩

/-- What one grid point computes of the cache of the differential attention's values: two contexts' first layer, and zeros for the second. -/
theorem point14 (t : Fin cfg0.N) (y : S2x2x256x256.Idx) :
    (outsAt0 m c t).2.2.2.2.2.2.2.2 y = dfV m c (((cfg0.win 14).blk t).view.emb y) := by
  unfold outsAt0
  dsimp only
  frame_out
  canon_tiles x h
  · obtain ⟨i, j, r, n, rfl⟩ : ∃ (i j : Fin 1) (r n : Fin 256), x = ix4 i j r n := ⟨x 0, x 1, x 2, x 3, eq_ix4 x⟩
    obtain rfl : i = 0 := Subsingleton.elim _ _
    obtain rfl : j = 0 := Subsingleton.elim _ _
    obtain ⟨b, hb, e⟩ := place14 t y 1 1 r n h0 h1 h2 h3
    exact (zeros _).2.2.2.2.2.2.2.trans ((second m c b r n).2.2.2.symm.trans (congrArg _ e.symm))
  · obtain ⟨i, j, r, n, rfl⟩ : ∃ (i j : Fin 1) (r n : Fin 256), x = ix4 i j r n := ⟨x 0, x 1, x 2, x 3, eq_ix4 x⟩
    obtain rfl : i = 0 := Subsingleton.elim _ _
    obtain rfl : j = 0 := Subsingleton.elim _ _
    obtain ⟨b, hb, e⟩ := place14 t y 1 0 r n h0 h1 h2 h3
    exact (df_v_row_lower m c t _ r ⟨b.val * 256 + r.val, by omega⟩ b rfl (fun k => lower_eq m c t r k _ (by dsimp only; omega)) n).trans
      (congrArg _ e.symm)
  · obtain ⟨i, j, r, n, rfl⟩ : ∃ (i j : Fin 1) (r n : Fin 256), x = ix4 i j r n := ⟨x 0, x 1, x 2, x 3, eq_ix4 x⟩
    obtain rfl : i = 0 := Subsingleton.elim _ _
    obtain rfl : j = 0 := Subsingleton.elim _ _
    obtain ⟨b, hb, e⟩ := place14 t y 0 1 r n h0 h1 h2 h3
    exact (zeros _).2.2.2.2.2.2.1.trans ((second m c b r n).2.2.2.symm.trans (congrArg _ e.symm))
  · obtain ⟨i, j, r, n, rfl⟩ : ∃ (i j : Fin 1) (r n : Fin 256), x = ix4 i j r n := ⟨x 0, x 1, x 2, x 3, eq_ix4 x⟩
    obtain rfl : i = 0 := Subsingleton.elim _ _
    obtain rfl : j = 0 := Subsingleton.elim _ _
    obtain ⟨b, hb, e⟩ := place14 t y 0 0 r n h0 h1 h2 h3
    exact (df_v_row_upper m c t _ r ⟨b.val * 256 + r.val, by omega⟩ b rfl (fun k => upper_eq m c t r k _ (by dsimp only; omega)) n).trans
      (congrArg _ e.symm)

/-- The array of the cache of the differential attention's values after the run. -/
theorem final14 : (dats m 0 c).arrAt 14 (cfgs 0).N = dfV m c := by
  refine (dats m 0 c).arrAt_eq_of_covers 14 _ (by decide +kernel) fun t _ y => ?_
  blk_simp
  rw [after0_14]
  exact point14 m c t y

end Cert.Kernel3Ideal.Proj
-- ==== Proof.ProjClaim.lean ====
/- The context's input projection: the algebraic claim, kernel against reference. -/
module

public import proofs.«01_k».proof.Defs
public import proofs.«01_k».proof.Proof.ProjValue
public import proofs.«01_k».proof.Proof.Gen.Reference3Ideal.Run
public import proofs.«01_k».proof.Proof.Gen.Reference3Ideal.Read
public import Idealize.ShloMosaic.Lib.Claim

@[expose] public section

set_option maxRecDepth 16384

noncomputable section

open Idealize.ShloMosaic Idealize.ShloMosaic.TcCoe Idealize.SL.Sem

namespace Cert.Proof

set_option maxHeartbeats 4000000 in
/-- From equal arguments the idealized kernel and the idealized reference end with nine equal results: the recurrences' and the
    attentions' inputs and the four caches, whatever the arguments hold. -/
theorem projection_algebraic : Cert.algebraic_Kernel3Ideal_Reference3Ideal (hKernel3Ideal := Cert.Kernel3Ideal.Gen.facts)
    (hReference3Ideal := Cert.Reference3Ideal.Gen.facts) := by
  pair_intro
  · run_from Cert.Kernel3Ideal.Gen.run_main m g
  · run_from Cert.Reference3Ideal.Value.run m' g'
    all_goals obtain ⟨e0, e1, e2, e3, e4, e5⟩ := hagree c
    · refine (Cert.Reference3Ideal.Read.val_main_v40_eq m' c).trans ?_
      rw [e0, e1, e2, e3]
      exact (Cert.Kernel3Ideal.Proj.final6 m c).symm
    · refine (Cert.Reference3Ideal.Read.val_main_v34_eq m' c).trans ?_
      rw [e0, e1, e2, e3, e4]
      exact (Cert.Kernel3Ideal.Proj.final7 m c).symm
    · refine (Cert.Reference3Ideal.Read.val_main_v59_eq m' c).trans ?_
      rw [e0, e1, e2, e3, e5]
      exact (Cert.Kernel3Ideal.Proj.final8 m c).symm
    · exact (Cert.Reference3Ideal.Read.val_main_v115_eq _ _ _ _).trans (Cert.Kernel3Ideal.Proj.final9 m c).symm
    · refine (Cert.Reference3Ideal.Read.val_main_v96_eq m' c).trans ?_
      rw [e0, e1, e2, e3, e5]
      exact (Cert.Kernel3Ideal.Proj.final10 m c).symm
    · refine (Cert.Reference3Ideal.Read.val_main_v120_eq m' c).trans ?_
      rw [e0, e1, e2, e3, e5]
      exact (Cert.Kernel3Ideal.Proj.final11 m c).symm
    · exact (Cert.Reference3Ideal.Read.val_main_v126_eq _ _ _ _).trans (Cert.Kernel3Ideal.Proj.final12 m c).symm
    · refine (Cert.Reference3Ideal.Read.val_main_v131_eq m' c).trans ?_
      rw [e0, e1, e2, e3, e5]
      exact (Cert.Kernel3Ideal.Proj.final13 m c).symm
    · exact (Cert.Reference3Ideal.Read.val_main_v137_eq _ _ _ _).trans (Cert.Kernel3Ideal.Proj.final14 m c).symm

end Cert.Proof
-- ==== Proof.MergeRows.lean ====
/- The merge's rows: the four mixers' outputs of a row, normalised and gated as the reference has them, side by side. -/
module

public import proofs.«01_k».proof.Proof.Gen.Kernel4Ideal.Frame
public import proofs.«01_k».proof.Proof.Gen.Reference4Ideal.Read
public import proofs.«01_k».proof.Proof.Segments

@[expose] public section

set_option maxRecDepth 16384

noncomputable section

open Idealize.ShloMosaic Idealize.ShloMosaic.TcCoe Idealize.SL.Sem

namespace Cert.Kernel4Ideal.Merge
open Cert.Kernel4Ideal Cert.Kernel4Ideal.Gen Cert.Segments Cert.Reference4Ideal.Read

/-- The numbers of the 256 lanes, in every row. -/
abbrev lanes : IVec S512x256 32 := iota .tc S512x256 32 [1] iota_S512x256_d1_w32

/-- Four vectors of 256 lanes side by side. -/
def side (a b c d : Fin 256 → EReal) (k : Fin 1024) : EReal :=
  if h : k.val < 256 then a ⟨k.val, h⟩
  else if h : k.val - 256 < 256 then b ⟨k.val - 256, h⟩
  else if h : k.val - 256 - 256 < 256 then c ⟨k.val - 256 - 256, h⟩
  else d ⟨k.val - 256 - 256 - 256, by omega⟩

section Kernel

variable (A B Z : Vec Ideal S512x256 .f32) (G : Vec Ideal S1x256 .f32) (r : Fin 512) (n : Fin 256)

/-- The matrix memory's output in the kernel: the two directions' sum, normalised head by head and gated. -/
theorem memory_row : k0_pay7 (k0_pay3 A B) G lanes (k0_pay4 A B) (k0_pay5 A B) k0_pay6 Z (ix2 r n)
    = rms64 (fun k => A (ix2 r k) + B (ix2 r k)) (G (ix2 0 n)) n * Ideal.logistic (Z (ix2 r n)) := by
  unfold k0_pay7 k0_pay5 k0_pay4 k0_pay6
  have e : ∀ k, k0_pay3 A B (ix2 r k) = A (ix2 r k) + B (ix2 r k) := fun k => by unfold k0_pay3; pointwise []
  simp only [← e]
  generalize k0_pay3 A B = Y
  simp only [Ideal.logistic]
  pointwise []
  exact congrArg (fun s => Y (ix2 r n) * Ideal.rsqrt (s * _ + _) * G (ix2 0 n) * _) (nested64 (fun k => Y (ix2 r k) * Y (ix2 r k)) n)

variable (M N R : Vec Ideal S512x256 .f32) (W : Vec Ideal S1024x1024 .bf16) (X : Vec Ideal S512x1024 .f32) (S : Vec Ideal S1x1024 .f32)
  (j : Fin 1024)

set_option maxHeartbeats 4000000 in
/-- A row of the merge in the kernel: the residual plus the gated product of the four mixers' lanes with the output weights. -/
theorem merged_row : k0_pay11 M Z G lanes (k0_pay8 Z) (k0_pay9 Z) k0_pay10 N R W X S (ix2 r j)
    = X (ix2 r j) + S (ix2 0 j) * ∑ k : Fin 1024, side (fun q => M (ix2 r q)) (fun q => N (ix2 r q)) (fun q => R (ix2 r q))
        (fun q => rms64 (fun q => Z (ix2 r q)) (G (ix2 0 q)) q * Ideal.ofBits FTy.f32 1061997773#32) k * W (ix2 k j) := by
  unfold k0_pay11 k0_pay9 k0_pay8 k0_pay10
  pointwise []
  refine congrArg (fun s => X (ix2 r j) + S (ix2 0 j) * s) (Finset.sum_congr rfl fun k _ => congrArg (· * W (ix2 k j)) ?_)
  unfold side
  by_cases h1 : k.val < 256
  · rw [dif_pos h1, dif_pos h1]
  by_cases h2 : k.val - 256 < 256
  · rw [dif_neg h1, dif_neg h1, dif_pos h2, dif_pos h2]
  by_cases h3 : k.val - 256 - 256 < 256
  · rw [dif_neg h1, dif_neg h1, dif_neg h2, dif_neg h2, dif_pos h3, dif_pos h3]
  rw [dif_neg h1, dif_neg h1, dif_neg h2, dif_neg h2, dif_neg h3, dif_neg h3]
  have l : k.val - 256 - 256 - 256 < 256 := by omega
  exact congrArg (fun s => Z (ix2 r ⟨k.val - 256 - 256 - 256, l⟩) * Ideal.rsqrt (s * _ + _) * G (ix2 0 ⟨k.val - 256 - 256 - 256, l⟩) * _)
    (nested64 (fun q => Z (ix2 r q) * Z (ix2 r q)) ⟨k.val - 256 - 256 - 256, l⟩)

variable (D : FVec Ideal S512x256 .f32) (E : IVec S512x256 32) (L P Q T : Vec Ideal S1x1024 .f32) (U : FVec Ideal S512x256 .f32)
  (V : FVec Ideal S512x1024 .f32) (s : FVec Ideal S512x1 .f32)

/-- The sum of the squares of a merged row in the kernel. -/
theorem squares_row : k0_pay12 M Z G lanes U D E N R W X S (ix2 r 0)
    = ∑ k : Fin 1024, k0_pay11 M Z G lanes U D E N R W X S (ix2 r k) * k0_pay11 M Z G lanes U D E N R W X S (ix2 r k) := by
  unfold k0_pay12
  generalize k0_pay11 M Z G lanes U D E N R W X S = V
  pointwise []

/-- A normalised, modulated row in the kernel, from the merged row and the sum of its squares. -/
theorem normed_row : k0_pay1 V s P Q T (ix2 r j)
    = V (ix2 r j) * Ideal.rsqrt (Ideal.div (s (ix2 r 0)) (Ideal.ofBits FTy.f32 1149239296#32) + Ideal.ofBits FTy.f32 897988541#32) * P (ix2 0 j)
      * (Ideal.ofBits FTy.f32 1065353216#32 + Q (ix2 0 j)) + T (ix2 0 j) := by
  unfold k0_pay1
  pointwise []

/-- The router's logits of a row in the kernel. -/
theorem logits_row (w : Vec Ideal S1024x128 .bf16) (i : Fin 128) : k0_pay2 V s P Q T w (ix2 r i)
    = ∑ k : Fin 1024, k0_pay1 V s P Q T (ix2 r k) * w (ix2 k i) := by
  unfold k0_pay2
  generalize k0_pay1 V s P Q T = H
  pointwise []

end Kernel

end Cert.Kernel4Ideal.Merge
-- ==== Proof.MergeReference.lean ====
/- The reference's merge, entry by entry, as functions of the rows of its arguments. -/
module

public import proofs.«01_k».proof.Proof.MergeRows

@[expose] public section

set_option maxRecDepth 16384

noncomputable section

open Idealize.ShloMosaic Idealize.ShloMosaic.TcCoe Idealize.SL.Sem

namespace Cert.Kernel4Ideal.Merge
open Cert.Kernel4Ideal Cert.Kernel4Ideal.Gen Cert.Segments Cert.Reference4Ideal.Read

section Mixed

variable (x0 x1 x3 x4 x5 : Vec Ideal S8192x256 .f32) (x2 : Vec Ideal S8192x1024 .f32) (x8 x9 : Vec Ideal S1x256 .f32)
  (R : Fin 8192) (q : Fin 256) (k : Fin 1024)

/-- The matrix memory's output in the reference. -/
theorem memory_ref : val_main_v24 (F := Ideal) x0 x1 x2 x8 (ix2 R q)
    = rms64 (fun k => x0 (ix2 R k) + x1 (ix2 R k)) (x8 (ix2 0 q)) q * Ideal.logistic (x2 (ix2 R ⟨768 + q.val, by omega⟩)) := by
  rw [← quotient64]
  have e : ∀ h, (⟨q.val / 64 * 64 + q.val % 64, h⟩ : Fin 256) = q := fun h => Fin.ext (by dsimp only; omega)
  simp only [Ideal.logistic]
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]

/-- The differential attention's output in the reference. -/
theorem attention_ref : val_main_v42 (F := Ideal) x5 x9 (ix2 R q)
    = rms64 (fun k => x5 (ix2 R k)) (x9 (ix2 0 q)) q * Ideal.ofBits FTy.f32 1061997773#32 := by
  rw [← quotient64]
  have e : ∀ h, (⟨q.val / 64 * 64 + q.val % 64, h⟩ : Fin 256) = q := fun h => Fin.ext (by dsimp only; omega)
  pointwise [val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_cst_4, val_main_cst_5, val_main_cst_6, val_main_cst_7]

/-- The four mixers' outputs side by side in the reference. -/
theorem mixed_ref : val_main_v43 (F := Ideal) x0 x1 x2 x3 x4 x5 x8 x9 (ix2 R k) = side
    (fun q => rms64 (fun k => x0 (ix2 R k) + x1 (ix2 R k)) (x8 (ix2 0 q)) q * Ideal.logistic (x2 (ix2 R ⟨768 + q.val, by omega⟩)))
    (fun q => x3 (ix2 R q)) (fun q => x4 (ix2 R q))
    (fun q => rms64 (fun k => x5 (ix2 R k)) (x9 (ix2 0 q)) q * Ideal.ofBits FTy.f32 1061997773#32) k := by
  simp only [← memory_ref, ← attention_ref]
  pointwise [val_main_v43]
  rfl

end Mixed

variable (m : (ℓ : Loc nD τ sig) → Buf (Elt Ideal) ℓ) (c : Dev nD)

/-- The residual stream before the merge. -/
abbrev residual (R : Fin 8192) (j : Fin 1024) : EReal := m ((c : Thread nD τ).loc main_arg6) (ix2 R j)

/-- The first row of the modulation table. -/
abbrev modulation (j : Fin 6144) : EReal := m ((c : Thread nD τ).loc main_arg7) (ix2 0 j)

/-- The reference's four mixers' outputs side by side. -/
abbrev mixed : (⟨Cert.Reference4Ideal.S8192x1024, .f32⟩ : BufTy).Contents (Elt Ideal) :=
  val_main_v43 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg8)) (m ((c : Thread nD τ).loc main_arg9))

/-- The reference's residual stream after the merge. -/
abbrev merged : (⟨Cert.Reference4Ideal.S8192x1024, .f32⟩ : BufTy).Contents (Elt Ideal) :=
  val_main_v49 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

/-- The reference's normalised, modulated rows for the experts, before they are rounded. -/
abbrev normed : (⟨Cert.Reference4Ideal.S8192x1024, .f32⟩ : BufTy).Contents (Elt Ideal) :=
  val_main_v69 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11))

/-- The reference's rows for the experts, rounded to sixteen bits. -/
abbrev rounded : (⟨Cert.Reference4Ideal.S8192x1024, .bf16⟩ : BufTy).Contents (Elt Ideal) :=
  val_main_v70 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11))

/-- The reference's router logits. -/
abbrev logits : (⟨Cert.Reference4Ideal.S8192x128, .f32⟩ : BufTy).Contents (Elt Ideal) :=
  val_main_v72 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12))

/-- The residual stream after the merge in the reference. -/
theorem merged_ref (R : Fin 8192) (j : Fin 1024) :
    merged m c (ix2 R j) = residual m c R j + modulation m c ⟨2048 + j.val, by omega⟩
      * (∑ k : Fin 1024, mixed m c (ix2 R k) * m ((c : Thread nD τ).loc main_arg10) (ix2 k j) : EReal) := by
  pointwise [val_main_v49, val_main_v48, val_main_v47, val_main_v46, val_main_v45, val_main_v44]

/-- A normalised, modulated row in the reference. -/
theorem normed_ref (R : Fin 8192) (j : Fin 1024) :
    normed m c (ix2 R j) = merged m c (ix2 R j)
        * Ideal.rsqrt (Ideal.div (∑ k : Fin 1024, merged m c (ix2 R k) * merged m c (ix2 R k)) (Ideal.ofBits FTy.f32 1149239296#32) + Ideal.ofBits FTy.f32 897988541#32)
        * m ((c : Thread nD τ).loc main_arg11) (ix2 0 j) * (Ideal.ofBits FTy.f32 1065353216#32 + modulation m c ⟨4096 + j.val, by omega⟩)
        + modulation m c ⟨3072 + j.val, by omega⟩ := by
  pointwise [val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_cst_8, val_main_cst_9, val_main_cst_10, val_main_cst_11]

/-- Rounding changes nothing over the extended reals. -/
theorem rounded_ref (R : Fin 8192) (j : Fin 1024) : rounded m c (ix2 R j) = normed m c (ix2 R j) := by
  pointwise [val_main_v70]

/-- The router's logits in the reference. -/
theorem logits_ref (R : Fin 8192) (j : Fin 128) :
    logits m c (ix2 R j) = ∑ k : Fin 1024, normed m c (ix2 R k) * m ((c : Thread nD τ).loc main_arg12) (ix2 k j) := by
  pointwise [val_main_v72, val_main_v71]

end Cert.Kernel4Ideal.Merge
-- ==== Proof.MergeValue.lean ====
/- The merge, end to end: what the kernel leaves in its three output arrays is what the reference computes. -/
module

public import proofs.«01_k».proof.Proof.MergeReference

@[expose] public section

set_option maxRecDepth 16384

noncomputable section

open Idealize.ShloMosaic Idealize.ShloMosaic.TcCoe Idealize.SL.Sem

namespace Cert.Kernel4Ideal.Merge
open Cert.Kernel4Ideal Cert.Kernel4Ideal.Gen Cert.Segments Cert.Reference4Ideal.Read

variable (m : (ℓ : Loc nD τ sig) → Buf (Elt Ideal) ℓ) (c : Dev nD)

/-- Grid point `t` works on rows `512 t` to `512 t + 511`; of the matrix memory's arguments it takes the fourth quarter of the
    columns, the output gate's. The tables and weights are whole at every point. -/
theorem idx : ∀ t : Fin cfg0.N, win0_0.index t = ![t.val, 0] ∧ win0_1.index t = ![t.val, 0]
    ∧ win0_2.index t = ![t.val, 3] ∧ win0_3.index t = ![t.val, 0] ∧ win0_4.index t = ![t.val, 0] ∧ win0_5.index t = ![t.val, 0]
    ∧ win0_6.index t = ![t.val, 0] ∧ win0_7.index t = ![0, 0] ∧ win0_8.index t = ![0, 0] ∧ win0_9.index t = ![0, 0]
    ∧ win0_10.index t = ![0, 0] ∧ win0_11.index t = ![0, 0] ∧ win0_12.index t = ![0, 0]
    ∧ win0_13.index t = ![t.val, 0] ∧ win0_14.index t = ![t.val, 0] ∧ win0_15.index t = ![t.val, 0] :=
  (by decide +kernel : ∀ t : Fin grid0.N, _)

/-- The three modulation vectors are read from row 0 of the table at every point. -/
theorem offsets : ∀ t : Fin cfg0.N, k0_off1 (grid0.coords t) = ![0, 2048] ∧ k0_off2 (grid0.coords t) = ![0, 4096]
    ∧ k0_off3 (grid0.coords t) = ![0, 3072] :=
  (by decide +kernel : ∀ t : Fin grid0.N, _)

/-- There are sixteen grid points. -/
theorem point_lt (t : Fin cfg0.N) : t.val < 16 := t.isLt

/-- The modulation table's entry read at offset `o` of row 0. -/
theorem modulation_read (t : Fin cfg0.N) (f : Fin 2 → ℕ) (o : ℕ) (hf : f = ![0, o]) (ho : o + 1024 ≤ 6144) (h) (j : Fin 1024) :
    View.ld (iblk m c 7 t) (Rect.unit (s := S8x6144) f ![1, 1024] h) (ix2 0 j) = modulation m c ⟨o + j.val, by omega⟩ := by
  subst hf
  pointwise []
  blk_point [iblk, V, idx t]

/-- A row of the blocks of the arguments that come in rows. -/
theorem rows (t : Fin cfg0.N) (r : Fin 512) (R : Fin 8192) (hR : R.val = t.val * 512 + r.val) (q : Fin 256) (j : Fin 1024) :
    iblk m c 0 t (ix2 r q) = m ((c : Thread nD τ).loc main_arg0) (ix2 R q)
    ∧ iblk m c 1 t (ix2 r q) = m ((c : Thread nD τ).loc main_arg1) (ix2 R q)
    ∧ iblk m c 2 t (ix2 r q) = m ((c : Thread nD τ).loc main_arg2) (ix2 R ⟨768 + q.val, by omega⟩)
    ∧ iblk m c 3 t (ix2 r q) = m ((c : Thread nD τ).loc main_arg3) (ix2 R q)
    ∧ iblk m c 4 t (ix2 r q) = m ((c : Thread nD τ).loc main_arg4) (ix2 R q)
    ∧ iblk m c 5 t (ix2 r q) = m ((c : Thread nD τ).loc main_arg5) (ix2 R q)
    ∧ iblk m c 6 t (ix2 r j) = m ((c : Thread nD τ).loc main_arg6) (ix2 R j) := by
  obtain ⟨R, hlt⟩ := R
  dsimp only at hR
  subst hR
  refine ⟨?_, ?_, ?_, ?_, ?_, ?_, ?_⟩ <;> blk_ext [iblk, V, idx t]

/-- The blocks of the gains and of the weights are the arguments. -/
theorem wholes (t : Fin cfg0.N) (k j : Fin 1024) (q : Fin 256) (i : Fin 128) :
    iblk m c 8 t (ix2 0 q) = m ((c : Thread nD τ).loc main_arg8) (ix2 0 q)
    ∧ iblk m c 9 t (ix2 0 q) = m ((c : Thread nD τ).loc main_arg9) (ix2 0 q)
    ∧ iblk m c 10 t (ix2 k j) = m ((c : Thread nD τ).loc main_arg10) (ix2 k j)
    ∧ iblk m c 11 t (ix2 0 j) = m ((c : Thread nD τ).loc main_arg11) (ix2 0 j)
    ∧ iblk m c 12 t (ix2 k i) = m ((c : Thread nD τ).loc main_arg12) (ix2 k i) := by
  refine ⟨?_, ?_, ?_, ?_, ?_⟩ <;> blk_ext [iblk, V, idx t]

/-- The matrix memory's lanes as the kernel holds them. -/
abbrev blockMemory (t : Fin cfg0.N) : FVec Ideal S512x256 .f32 :=
  k0_pay7 (k0_pay3 (iblk m c 0 t) (iblk m c 1 t)) (iblk m c 8 t) lanes (k0_pay4 (iblk m c 0 t) (iblk m c 1 t))
    (k0_pay5 (iblk m c 0 t) (iblk m c 1 t)) k0_pay6 (iblk m c 2 t)

/-- The residual stream's rows after the merge as the kernel holds them. -/
abbrev blockMerged (t : Fin cfg0.N) : FVec Ideal S512x1024 .f32 :=
  k0_pay11 (blockMemory m c t) (iblk m c 5 t) (iblk m c 9 t) lanes (k0_pay8 (iblk m c 5 t)) (k0_pay9 (iblk m c 5 t)) k0_pay10
    (iblk m c 3 t) (iblk m c 4 t) (iblk m c 10 t) (iblk m c 6 t)
    (View.ld (iblk m c 7 t) (Rect.unit (s := S8x6144) (k0_off1 (grid0.coords t)) ![1, 1024] (k0_off1_inb _)))

/-- The sums of the squares of those rows. -/
abbrev blockSquares (t : Fin cfg0.N) : FVec Ideal S512x1 .f32 :=
  k0_pay12 (blockMemory m c t) (iblk m c 5 t) (iblk m c 9 t) lanes (k0_pay8 (iblk m c 5 t)) (k0_pay9 (iblk m c 5 t)) k0_pay10
    (iblk m c 3 t) (iblk m c 4 t) (iblk m c 10 t) (iblk m c 6 t)
    (View.ld (iblk m c 7 t) (Rect.unit (s := S8x6144) (k0_off1 (grid0.coords t)) ![1, 1024] (k0_off1_inb _)))

/-- The normalised, modulated rows as the kernel holds them. -/
abbrev blockNormed (t : Fin cfg0.N) : FVec Ideal S512x1024 .bf16 :=
  k0_pay1 (blockMerged m c t) (blockSquares m c t) (iblk m c 11 t)
    (View.ld (iblk m c 7 t) (Rect.unit (s := S8x6144) (k0_off2 (grid0.coords t)) ![1, 1024] (k0_off2_inb _)))
    (View.ld (iblk m c 7 t) (Rect.unit (s := S8x6144) (k0_off3 (grid0.coords t)) ![1, 1024] (k0_off3_inb _)))

/-- A merged row of the kernel is the reference's. -/
theorem merged_eq (t : Fin cfg0.N) (r : Fin 512) (R : Fin 8192) (hR : R.val = t.val * 512 + r.val) (j : Fin 1024) :
    blockMerged m c t (ix2 r j) = merged m c (ix2 R j) := by
  have a := fun q => rows m c t r R hR q j
  have w := fun k q => wholes m c t k j q 0
  refine (merged_row _ _ _ _ _ _ _ _ _ _).trans ?_
  simp only [merged_ref, mixed_ref, memory_row]
  rw [modulation_read m c t _ 2048 (offsets t).1 (by omega)]
  simp only [fun q => (a q).1, fun q => (a q).2.1, fun q => (a q).2.2.1, fun q => (a q).2.2.2.1, fun q => (a q).2.2.2.2.1,
    fun q => (a q).2.2.2.2.2.1, (a 0).2.2.2.2.2.2, fun q => (w 0 q).1, fun q => (w 0 q).2.1, fun k => (w k 0).2.2.1]

/-- A normalised, modulated row of the kernel is the reference's. -/
theorem normed_eq (t : Fin cfg0.N) (r : Fin 512) (R : Fin 8192) (hR : R.val = t.val * 512 + r.val) (j : Fin 1024) :
    blockNormed m c t (ix2 r j) = normed m c (ix2 R j) := by
  refine (normed_row _ _ _ _ _ _ _).trans ?_
  unfold blockSquares
  rw [squares_row, normed_ref, modulation_read m c t _ 4096 (offsets t).2.1 (by omega), modulation_read m c t _ 3072 (offsets t).2.2 (by omega),
    (wholes m c t 0 j 0 0).2.2.2.1]
  have e := fun k => merged_eq m c t r R hR k
  unfold blockMerged at e
  simp only [e]

/-- The router's logits of a row of the kernel are the reference's. -/
theorem logits_eq (t : Fin cfg0.N) (r : Fin 512) (R : Fin 8192) (hR : R.val = t.val * 512 + r.val) (i : Fin 128) :
    k0_pay2 (blockMerged m c t) (blockSquares m c t) (iblk m c 11 t)
      (View.ld (iblk m c 7 t) (Rect.unit (s := S8x6144) (k0_off2 (grid0.coords t)) ![1, 1024] (k0_off2_inb _)))
      (View.ld (iblk m c 7 t) (Rect.unit (s := S8x6144) (k0_off3 (grid0.coords t)) ![1, 1024] (k0_off3_inb _))) (iblk m c 12 t) (ix2 r i)
      = logits m c (ix2 R i) := by
  refine (logits_row _ _ _ _ _ _ _ _).trans ?_
  rw [logits_ref]
  exact Finset.sum_congr rfl fun k _ => congrArg₂ (· * ·) (normed_eq m c t r R hR k) (wholes m c t k 0 0 i).2.2.2.2

/-- What one grid point computes of the residual stream. -/
theorem point13 (t : Fin cfg0.N) (y : S512x1024.Idx) :
    (outsAt0 m c t).1 y = merged m c (((cfg0.win 13).blk t).view.emb y) := by
  unfold outsAt0
  dsimp only
  frame_out
  obtain ⟨r, j, rfl⟩ : ∃ (r : Fin 512) (j : Fin 1024), y = ix2 r j := ⟨y 0, y 1, eq_ix2 y⟩
  have ht := point_lt t
  refine (merged_eq m c t r ⟨t.val * 512 + r.val, by omega⟩ rfl j).trans (congrArg _ ?_)
  blk_ext [idx t]

/-- What one grid point computes of the experts' rows. -/
theorem point14 (t : Fin cfg0.N) (y : S512x1024.Idx) :
    (outsAt0 m c t).2.1 y = rounded m c (((cfg0.win 14).blk t).view.emb y) := by
  unfold outsAt0
  dsimp only
  frame_out
  obtain ⟨r, j, rfl⟩ : ∃ (r : Fin 512) (j : Fin 1024), y = ix2 r j := ⟨y 0, y 1, eq_ix2 y⟩
  have ht := point_lt t
  refine ((normed_eq m c t r ⟨t.val * 512 + r.val, by omega⟩ rfl j).trans (rounded_ref m c _ j).symm).trans (congrArg _ ?_)
  blk_ext [idx t]

/-- What one grid point computes of the router's logits. -/
theorem point15 (t : Fin cfg0.N) (y : S512x128.Idx) :
    (outsAt0 m c t).2.2 y = logits m c (((cfg0.win 15).blk t).view.emb y) := by
  unfold outsAt0
  dsimp only
  frame_out
  obtain ⟨r, j, rfl⟩ : ∃ (r : Fin 512) (j : Fin 128), y = ix2 r j := ⟨y 0, y 1, eq_ix2 y⟩
  have ht := point_lt t
  refine (logits_eq m c t r ⟨t.val * 512 + r.val, by omega⟩ rfl j).trans (congrArg _ ?_)
  blk_ext [idx t]

/-- The array of the residual stream after the run. -/
theorem final13 : (dats m 0 c).arrAt 13 (cfgs 0).N = merged m c := by
  refine (dats m 0 c).arrAt_eq_of_covers 13 _ (by decide +kernel) fun t _ y => ?_
  blk_simp
  rw [after0_13]
  exact point13 m c t y

/-- The array of the experts' rows after the run. -/
theorem final14 : (dats m 0 c).arrAt 14 (cfgs 0).N = rounded m c := by
  refine (dats m 0 c).arrAt_eq_of_covers 14 _ (by decide +kernel) fun t _ y => ?_
  blk_simp
  rw [after0_14]
  exact point14 m c t y

/-- The array of the router's logits after the run. -/
theorem final15 : (dats m 0 c).arrAt 15 (cfgs 0).N = logits m c := by
  refine (dats m 0 c).arrAt_eq_of_covers 15 _ (by decide +kernel) fun t _ y => ?_
  blk_simp
  rw [after0_15]
  exact point15 m c t y

end Cert.Kernel4Ideal.Merge
-- ==== Proof.MergeClaim.lean ====
/- The context's merge: the algebraic claim, kernel against reference. -/
module

public import proofs.«01_k».proof.Defs
public import proofs.«01_k».proof.Proof.MergeValue
public import proofs.«01_k».proof.Proof.Gen.Reference4Ideal.Run
public import proofs.«01_k».proof.Proof.Gen.Reference4Ideal.Read
public import Idealize.ShloMosaic.Lib.Claim

@[expose] public section

set_option maxRecDepth 16384

noncomputable section

open Idealize.ShloMosaic Idealize.ShloMosaic.TcCoe Idealize.SL.Sem

namespace Cert.Proof

set_option maxHeartbeats 4000000 in
/-- From equal arguments the idealized kernel and the idealized reference end with three equal results: the residual stream, the
    experts' rows and the router's logits, whatever the arguments hold. -/
theorem merge_algebraic : Cert.algebraic_Kernel4Ideal_Reference4Ideal (hKernel4Ideal := Cert.Kernel4Ideal.Gen.facts)
    (hReference4Ideal := Cert.Reference4Ideal.Gen.facts) := by
  pair_intro
  · run_from Cert.Kernel4Ideal.Gen.run_main m g
  · run_from Cert.Reference4Ideal.Value.run m' g'
    all_goals obtain ⟨e0, e1, e2, e3, e4, e5, e6, e7, e8, e9, e10, e11, e12⟩ := hagree c
    · refine (Cert.Reference4Ideal.Read.val_main_v49_eq _ _ _ _ _ _ _ _ _ _ _).trans ?_
      rw [e4, e5, e8, e9]
      exact (Cert.Kernel4Ideal.Merge.final13 m c).symm
    · refine (Cert.Reference4Ideal.Read.val_main_v70_eq m' c).trans ?_
      rw [e0, e1, e2, e3, e4, e5, e6, e7, e8, e9, e10, e11]
      exact (Cert.Kernel4Ideal.Merge.final14 m c).symm
    · refine (Cert.Reference4Ideal.Read.val_main_v72_eq m' c).trans ?_
      rw [e0, e1, e2, e3, e4, e5, e6, e7, e8, e9, e10, e11, e12]
      exact (Cert.Kernel4Ideal.Merge.final15 m c).symm

end Cert.Proof
-- ==== Proof.LatentReference.lean ====
/- The latent stream's merge. The kernel's arithmetic is the context's, so its rows are read by the context's lemmas; only the row
   of the modulation table differs, one for each request of 2048 tokens. The reference's rows, entry by entry. -/
module

public import proofs.«01_k».proof.Proof.MergeReference
public import proofs.«01_k».proof.Proof.Gen.Kernel5Ideal.Frame
public import proofs.«01_k».proof.Proof.Gen.Reference5Ideal.Read

@[expose] public section

set_option maxRecDepth 16384

noncomputable section

open Idealize.ShloMosaic Idealize.ShloMosaic.TcCoe Idealize.SL.Sem

namespace Cert.Kernel5Ideal.Merge
open Cert.Kernel5Ideal Cert.Kernel5Ideal.Gen Cert.Reference5Ideal.Read

variable (m : (ℓ : Loc nD τ sig) → Buf (Elt Ideal) ℓ) (c : Dev nD)

/-- The residual stream before the merge. -/
abbrev residual (R : Fin 8192) (j : Fin 1024) : EReal := m ((c : Thread nD τ).loc main_arg6) (ix2 R j)

/-- The modulation table's row for token `R`: row 0 is the context's, row 1 the first request's. -/
abbrev modulation (R : Fin 8192) (j : Fin 6144) : EReal := m ((c : Thread nD τ).loc main_arg7) (ix2 ⟨1 + R.val / 2048, by omega⟩ j)

/-- The reference's four mixers' outputs side by side. -/
abbrev mixed : (⟨Cert.Reference5Ideal.S8192x1024, .f32⟩ : BufTy).Contents (Elt Ideal) :=
  val_main_v43 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg8)) (m ((c : Thread nD τ).loc main_arg9))

/-- The reference's residual stream after the merge. -/
abbrev merged : (⟨Cert.Reference5Ideal.S8192x1024, .f32⟩ : BufTy).Contents (Elt Ideal) :=
  val_main_v77 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))

/-- The reference's normalised, modulated rows for the experts, before they are rounded. -/
abbrev normed : (⟨Cert.Reference5Ideal.S8192x1024, .f32⟩ : BufTy).Contents (Elt Ideal) :=
  val_main_v76 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11))

/-- The reference's rows for the experts, rounded to sixteen bits. -/
abbrev rounded : (⟨Cert.Reference5Ideal.S8192x1024, .bf16⟩ : BufTy).Contents (Elt Ideal) :=
  val_main_v78 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11))

/-- The reference's router logits. -/
abbrev logits : (⟨Cert.Reference5Ideal.S8192x128, .f32⟩ : BufTy).Contents (Elt Ideal) :=
  val_main_v80 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) (m ((c : Thread nD τ).loc main_arg12))

/-- The residual stream after the merge in the reference. -/
theorem merged_ref (R : Fin 8192) (j : Fin 1024) :
    merged m c (ix2 R j) = residual m c R j + modulation m c R ⟨2048 + j.val, by omega⟩
      * (∑ k : Fin 1024, mixed m c (ix2 R k) * m ((c : Thread nD τ).loc main_arg10) (ix2 k j) : EReal) := by
  pointwise [val_main_v77, val_main_v52, val_main_v51, val_main_v50, val_main_v49, val_main_v48, val_main_v47, val_main_v46, val_main_v45, val_main_v44]

/-- A normalised, modulated row in the reference. -/
theorem normed_ref (R : Fin 8192) (j : Fin 1024) :
    normed m c (ix2 R j) = merged m c (ix2 R j)
        * Ideal.rsqrt (Ideal.div (∑ k : Fin 1024, merged m c (ix2 R k) * merged m c (ix2 R k)) (Ideal.ofBits FTy.f32 1149239296#32) + Ideal.ofBits FTy.f32 897988541#32)
        * m ((c : Thread nD τ).loc main_arg11) (ix2 0 j) * (Ideal.ofBits FTy.f32 1065353216#32 + modulation m c R ⟨4096 + j.val, by omega⟩)
        + modulation m c R ⟨3072 + j.val, by omega⟩ := by
  pointwise [val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_cst_8, val_main_cst_9, val_main_cst_10, val_main_cst_11, val_main_v77]

/-- Rounding changes nothing over the extended reals. -/
theorem rounded_ref (R : Fin 8192) (j : Fin 1024) : rounded m c (ix2 R j) = normed m c (ix2 R j) := by
  pointwise [val_main_v78]

/-- The router's logits in the reference. -/
theorem logits_ref (R : Fin 8192) (j : Fin 128) :
    logits m c (ix2 R j) = ∑ k : Fin 1024, normed m c (ix2 R k) * m ((c : Thread nD τ).loc main_arg12) (ix2 k j) := by
  pointwise [val_main_v80, val_main_v79]

end Cert.Kernel5Ideal.Merge
-- ==== Proof.LatentValue.lean ====
/- The latent stream's merge, end to end: what the kernel leaves in its three output arrays is what the reference computes. -/
module

public import proofs.«01_k».proof.Proof.LatentReference

@[expose] public section

set_option maxRecDepth 16384

noncomputable section

open Idealize.ShloMosaic Idealize.ShloMosaic.TcCoe Idealize.SL.Sem

namespace Cert.Kernel5Ideal.Merge
open Cert.Kernel5Ideal Cert.Kernel5Ideal.Gen Cert.Segments Cert.Reference5Ideal.Read
open Cert.Kernel4Ideal.Merge (lanes mixed_ref memory_row merged_row squares_row normed_row logits_row)

variable (m : (ℓ : Loc nD τ sig) → Buf (Elt Ideal) ℓ) (c : Dev nD)

/-- Grid point `t` works on rows `512 t` to `512 t + 511`; of the matrix memory's arguments it takes the fourth quarter of the
    columns, the output gate's. The tables and weights are whole at every point. -/
theorem idx : ∀ t : Fin cfg0.N, win0_0.index t = ![t.val, 0] ∧ win0_1.index t = ![t.val, 0]
    ∧ win0_2.index t = ![t.val, 3] ∧ win0_3.index t = ![t.val, 0] ∧ win0_4.index t = ![t.val, 0] ∧ win0_5.index t = ![t.val, 0]
    ∧ win0_6.index t = ![t.val, 0] ∧ win0_7.index t = ![0, 0] ∧ win0_8.index t = ![0, 0] ∧ win0_9.index t = ![0, 0]
    ∧ win0_10.index t = ![0, 0] ∧ win0_11.index t = ![0, 0] ∧ win0_12.index t = ![0, 0]
    ∧ win0_13.index t = ![t.val, 0] ∧ win0_14.index t = ![t.val, 0] ∧ win0_15.index t = ![t.val, 0] :=
  (by decide +kernel : ∀ t : Fin grid0.N, _)

/-- The three modulation vectors are read from the request's row of the table; a request takes four points. -/
theorem offsets : ∀ t : Fin cfg0.N, k0_off1 (grid0.coords t) = ![1 + t.val / 4, 2048] ∧ k0_off2 (grid0.coords t) = ![1 + t.val / 4, 4096]
    ∧ k0_off3 (grid0.coords t) = ![1 + t.val / 4, 3072] :=
  (by decide +kernel : ∀ t : Fin grid0.N, _)

/-- There are sixteen grid points. -/
theorem point_lt (t : Fin cfg0.N) : t.val < 16 := t.isLt

/-- The modulation table's entry read at offset `o` of the request's row. -/
theorem modulation_read (t : Fin cfg0.N) (f : Fin 2 → ℕ) (o : ℕ) (hf : f = ![1 + t.val / 4, o]) (ho : o + 1024 ≤ 6144) (h) (j : Fin 1024)
    (r : Fin 512) (R : Fin 8192) (hR : R.val = t.val * 512 + r.val) :
    View.ld (iblk m c 7 t) (Rect.unit (s := S8x6144) f ![1, 1024] h) (ix2 0 j) = modulation m c R ⟨o + j.val, by omega⟩ := by
  have ht := point_lt t
  have e : (⟨1 + R.val / 2048, by omega⟩ : Fin 8) = ⟨1 + t.val / 4, by omega⟩ := Fin.ext (by dsimp only; omega)
  unfold modulation
  rw [e]
  subst hf
  pointwise []
  blk_point [iblk, V, idx t]

/-- A row of the blocks of the arguments that come in rows. -/
theorem rows (t : Fin cfg0.N) (r : Fin 512) (R : Fin 8192) (hR : R.val = t.val * 512 + r.val) (q : Fin 256) (j : Fin 1024) :
    iblk m c 0 t (ix2 r q) = m ((c : Thread nD τ).loc main_arg0) (ix2 R q)
    ∧ iblk m c 1 t (ix2 r q) = m ((c : Thread nD τ).loc main_arg1) (ix2 R q)
    ∧ iblk m c 2 t (ix2 r q) = m ((c : Thread nD τ).loc main_arg2) (ix2 R ⟨768 + q.val, by omega⟩)
    ∧ iblk m c 3 t (ix2 r q) = m ((c : Thread nD τ).loc main_arg3) (ix2 R q)
    ∧ iblk m c 4 t (ix2 r q) = m ((c : Thread nD τ).loc main_arg4) (ix2 R q)
    ∧ iblk m c 5 t (ix2 r q) = m ((c : Thread nD τ).loc main_arg5) (ix2 R q)
    ∧ iblk m c 6 t (ix2 r j) = m ((c : Thread nD τ).loc main_arg6) (ix2 R j) := by
  obtain ⟨R, hlt⟩ := R
  dsimp only at hR
  subst hR
  refine ⟨?_, ?_, ?_, ?_, ?_, ?_, ?_⟩ <;> blk_ext [iblk, V, idx t]

/-- The blocks of the gains and of the weights are the arguments. -/
theorem wholes (t : Fin cfg0.N) (k j : Fin 1024) (q : Fin 256) (i : Fin 128) :
    iblk m c 8 t (ix2 0 q) = m ((c : Thread nD τ).loc main_arg8) (ix2 0 q)
    ∧ iblk m c 9 t (ix2 0 q) = m ((c : Thread nD τ).loc main_arg9) (ix2 0 q)
    ∧ iblk m c 10 t (ix2 k j) = m ((c : Thread nD τ).loc main_arg10) (ix2 k j)
    ∧ iblk m c 11 t (ix2 0 j) = m ((c : Thread nD τ).loc main_arg11) (ix2 0 j)
    ∧ iblk m c 12 t (ix2 k i) = m ((c : Thread nD τ).loc main_arg12) (ix2 k i) := by
  refine ⟨?_, ?_, ?_, ?_, ?_⟩ <;> blk_ext [iblk, V, idx t]

/-- The kernel's arithmetic is that of the context's merge. -/
theorem same : @k0_pay1 Ideal _ = @Cert.Kernel4Ideal.Gen.k0_pay1 Ideal _
    ∧ @k0_pay2 Ideal _ = @Cert.Kernel4Ideal.Gen.k0_pay2 Ideal _
    ∧ @k0_pay3 Ideal _ = @Cert.Kernel4Ideal.Gen.k0_pay3 Ideal _
    ∧ @k0_pay4 Ideal _ = @Cert.Kernel4Ideal.Gen.k0_pay4 Ideal _
    ∧ @k0_pay5 Ideal _ = @Cert.Kernel4Ideal.Gen.k0_pay5 Ideal _
    ∧ k0_pay6 = Cert.Kernel4Ideal.Gen.k0_pay6
    ∧ @k0_pay7 Ideal _ = @Cert.Kernel4Ideal.Gen.k0_pay7 Ideal _
    ∧ @k0_pay8 Ideal _ = @Cert.Kernel4Ideal.Gen.k0_pay8 Ideal _
    ∧ @k0_pay9 Ideal _ = @Cert.Kernel4Ideal.Gen.k0_pay9 Ideal _
    ∧ k0_pay10 = Cert.Kernel4Ideal.Gen.k0_pay10
    ∧ @k0_pay11 Ideal _ = @Cert.Kernel4Ideal.Gen.k0_pay11 Ideal _
    ∧ @k0_pay12 Ideal _ = @Cert.Kernel4Ideal.Gen.k0_pay12 Ideal _ :=
  ⟨rfl, rfl, rfl, rfl, rfl, rfl, rfl, rfl, rfl, rfl, rfl, rfl⟩

/-- The matrix memory's lanes as the kernel holds them. -/
abbrev blockMemory (t : Fin cfg0.N) : FVec Ideal S512x256 .f32 :=
  Cert.Kernel4Ideal.Gen.k0_pay7 (Cert.Kernel4Ideal.Gen.k0_pay3 (iblk m c 0 t) (iblk m c 1 t)) (iblk m c 8 t) lanes (Cert.Kernel4Ideal.Gen.k0_pay4 (iblk m c 0 t) (iblk m c 1 t))
    (Cert.Kernel4Ideal.Gen.k0_pay5 (iblk m c 0 t) (iblk m c 1 t)) Cert.Kernel4Ideal.Gen.k0_pay6 (iblk m c 2 t)

/-- The residual stream's rows after the merge as the kernel holds them. -/
abbrev blockMerged (t : Fin cfg0.N) : FVec Ideal S512x1024 .f32 :=
  Cert.Kernel4Ideal.Gen.k0_pay11 (blockMemory m c t) (iblk m c 5 t) (iblk m c 9 t) lanes (Cert.Kernel4Ideal.Gen.k0_pay8 (iblk m c 5 t)) (Cert.Kernel4Ideal.Gen.k0_pay9 (iblk m c 5 t)) Cert.Kernel4Ideal.Gen.k0_pay10
    (iblk m c 3 t) (iblk m c 4 t) (iblk m c 10 t) (iblk m c 6 t)
    (View.ld (iblk m c 7 t) (Rect.unit (s := S8x6144) (k0_off1 (grid0.coords t)) ![1, 1024] (k0_off1_inb _)))

/-- The sums of the squares of those rows. -/
abbrev blockSquares (t : Fin cfg0.N) : FVec Ideal S512x1 .f32 :=
  Cert.Kernel4Ideal.Gen.k0_pay12 (blockMemory m c t) (iblk m c 5 t) (iblk m c 9 t) lanes (Cert.Kernel4Ideal.Gen.k0_pay8 (iblk m c 5 t)) (Cert.Kernel4Ideal.Gen.k0_pay9 (iblk m c 5 t)) Cert.Kernel4Ideal.Gen.k0_pay10
    (iblk m c 3 t) (iblk m c 4 t) (iblk m c 10 t) (iblk m c 6 t)
    (View.ld (iblk m c 7 t) (Rect.unit (s := S8x6144) (k0_off1 (grid0.coords t)) ![1, 1024] (k0_off1_inb _)))

/-- The normalised, modulated rows as the kernel holds them. -/
abbrev blockNormed (t : Fin cfg0.N) : FVec Ideal S512x1024 .bf16 :=
  Cert.Kernel4Ideal.Gen.k0_pay1 (blockMerged m c t) (blockSquares m c t) (iblk m c 11 t)
    (View.ld (iblk m c 7 t) (Rect.unit (s := S8x6144) (k0_off2 (grid0.coords t)) ![1, 1024] (k0_off2_inb _)))
    (View.ld (iblk m c 7 t) (Rect.unit (s := S8x6144) (k0_off3 (grid0.coords t)) ![1, 1024] (k0_off3_inb _)))

/-- A merged row of the kernel is the reference's. -/
theorem merged_eq (t : Fin cfg0.N) (r : Fin 512) (R : Fin 8192) (hR : R.val = t.val * 512 + r.val) (j : Fin 1024) :
    blockMerged m c t (ix2 r j) = merged m c (ix2 R j) := by
  have a := fun q => rows m c t r R hR q j
  have w := fun k q => wholes m c t k j q 0
  refine (merged_row _ _ _ _ _ _ _ _ _ _).trans ?_
  simp only [merged_ref, memory_row]
  rw [modulation_read m c t _ 2048 (offsets t).1 (by omega) _ _ r R hR]
  simp only [fun q => (a q).1, fun q => (a q).2.1, fun q => (a q).2.2.1, fun q => (a q).2.2.2.1, fun q => (a q).2.2.2.2.1,
    fun q => (a q).2.2.2.2.2.1, (a 0).2.2.2.2.2.2, fun q => (w 0 q).1, fun q => (w 0 q).2.1, fun k => (w k 0).2.2.1]
  exact congrArg (fun s => residual m c R j + modulation m c R ⟨2048 + j.val, by omega⟩ * s)
    (Finset.sum_congr rfl fun k _ => congrArg (· * _) (mixed_ref _ _ _ _ _ _ _ _ R k).symm)

/-- A normalised, modulated row of the kernel is the reference's. -/
theorem normed_eq (t : Fin cfg0.N) (r : Fin 512) (R : Fin 8192) (hR : R.val = t.val * 512 + r.val) (j : Fin 1024) :
    blockNormed m c t (ix2 r j) = normed m c (ix2 R j) := by
  refine (normed_row _ _ _ _ _ _ _).trans ?_
  unfold blockSquares
  rw [squares_row, normed_ref, modulation_read m c t _ 4096 (offsets t).2.1 (by omega) _ _ r R hR, modulation_read m c t _ 3072 (offsets t).2.2 (by omega) _ _ r R hR,
    (wholes m c t 0 j 0 0).2.2.2.1]
  have e := fun k => merged_eq m c t r R hR k
  unfold blockMerged at e
  simp only [e]

/-- The router's logits of a row of the kernel are the reference's. -/
theorem logits_eq (t : Fin cfg0.N) (r : Fin 512) (R : Fin 8192) (hR : R.val = t.val * 512 + r.val) (i : Fin 128) :
    Cert.Kernel4Ideal.Gen.k0_pay2 (blockMerged m c t) (blockSquares m c t) (iblk m c 11 t)
      (View.ld (iblk m c 7 t) (Rect.unit (s := S8x6144) (k0_off2 (grid0.coords t)) ![1, 1024] (k0_off2_inb _)))
      (View.ld (iblk m c 7 t) (Rect.unit (s := S8x6144) (k0_off3 (grid0.coords t)) ![1, 1024] (k0_off3_inb _))) (iblk m c 12 t) (ix2 r i)
      = logits m c (ix2 R i) := by
  refine (logits_row _ _ _ _ _ _ _ _).trans ?_
  rw [logits_ref]
  exact Finset.sum_congr rfl fun k _ => congrArg₂ (· * ·) (normed_eq m c t r R hR k) (wholes m c t k 0 0 i).2.2.2.2

/-- What one grid point computes of the residual stream. -/
theorem point13 (t : Fin cfg0.N) (y : S512x1024.Idx) :
    (outsAt0 m c t).1 y = merged m c (((cfg0.win 13).blk t).view.emb y) := by
  unfold outsAt0
  dsimp only
  frame_out
  obtain ⟨s1, s2, s3, s4, s5, s6, s7, s8, s9, s10, s11, s12⟩ := same
  simp only [s1, s2, s3, s4, s5, s6, s7, s8, s9, s10, s11, s12]
  obtain ⟨r, j, rfl⟩ : ∃ (r : Fin 512) (j : Fin 1024), y = ix2 r j := ⟨y 0, y 1, eq_ix2 y⟩
  have ht := point_lt t
  refine (merged_eq m c t r ⟨t.val * 512 + r.val, by omega⟩ rfl j).trans (congrArg _ ?_)
  blk_ext [idx t]

/-- What one grid point computes of the experts' rows. -/
theorem point14 (t : Fin cfg0.N) (y : S512x1024.Idx) :
    (outsAt0 m c t).2.1 y = rounded m c (((cfg0.win 14).blk t).view.emb y) := by
  unfold outsAt0
  dsimp only
  frame_out
  obtain ⟨s1, s2, s3, s4, s5, s6, s7, s8, s9, s10, s11, s12⟩ := same
  simp only [s1, s2, s3, s4, s5, s6, s7, s8, s9, s10, s11, s12]
  obtain ⟨r, j, rfl⟩ : ∃ (r : Fin 512) (j : Fin 1024), y = ix2 r j := ⟨y 0, y 1, eq_ix2 y⟩
  have ht := point_lt t
  refine ((normed_eq m c t r ⟨t.val * 512 + r.val, by omega⟩ rfl j).trans (rounded_ref m c _ j).symm).trans (congrArg _ ?_)
  blk_ext [idx t]

/-- What one grid point computes of the router's logits. -/
theorem point15 (t : Fin cfg0.N) (y : S512x128.Idx) :
    (outsAt0 m c t).2.2 y = logits m c (((cfg0.win 15).blk t).view.emb y) := by
  unfold outsAt0
  dsimp only
  frame_out
  obtain ⟨s1, s2, s3, s4, s5, s6, s7, s8, s9, s10, s11, s12⟩ := same
  simp only [s1, s2, s3, s4, s5, s6, s7, s8, s9, s10, s11, s12]
  obtain ⟨r, j, rfl⟩ : ∃ (r : Fin 512) (j : Fin 128), y = ix2 r j := ⟨y 0, y 1, eq_ix2 y⟩
  have ht := point_lt t
  refine (logits_eq m c t r ⟨t.val * 512 + r.val, by omega⟩ rfl j).trans (congrArg _ ?_)
  blk_ext [idx t]

/-- The array of the residual stream after the run. -/
theorem final13 : (dats m 0 c).arrAt 13 (cfgs 0).N = merged m c := by
  refine (dats m 0 c).arrAt_eq_of_covers 13 _ (by decide +kernel) fun t _ y => ?_
  blk_simp
  rw [after0_13]
  exact point13 m c t y

/-- The array of the experts' rows after the run. -/
theorem final14 : (dats m 0 c).arrAt 14 (cfgs 0).N = rounded m c := by
  refine (dats m 0 c).arrAt_eq_of_covers 14 _ (by decide +kernel) fun t _ y => ?_
  blk_simp
  rw [after0_14]
  exact point14 m c t y

/-- The array of the router's logits after the run. -/
theorem final15 : (dats m 0 c).arrAt 15 (cfgs 0).N = logits m c := by
  refine (dats m 0 c).arrAt_eq_of_covers 15 _ (by decide +kernel) fun t _ y => ?_
  blk_simp
  rw [after0_15]
  exact point15 m c t y

end Cert.Kernel5Ideal.Merge
-- ==== Proof.LatentClaim.lean ====
/- The latent stream's merge: the algebraic claim, kernel against reference. -/
module

public import proofs.«01_k».proof.Defs
public import proofs.«01_k».proof.Proof.LatentValue
public import proofs.«01_k».proof.Proof.Gen.Reference5Ideal.Run
public import proofs.«01_k».proof.Proof.Gen.Reference5Ideal.Read
public import Idealize.ShloMosaic.Lib.Claim

@[expose] public section

set_option maxRecDepth 16384

noncomputable section

open Idealize.ShloMosaic Idealize.ShloMosaic.TcCoe Idealize.SL.Sem

namespace Cert.Proof

set_option maxHeartbeats 4000000 in
/-- From equal arguments the idealized kernel and the idealized reference end with three equal results: the residual stream, the
    experts' rows and the router's logits, whatever the arguments hold. -/
theorem latent_merge_algebraic : Cert.algebraic_Kernel5Ideal_Reference5Ideal (hKernel5Ideal := Cert.Kernel5Ideal.Gen.facts)
    (hReference5Ideal := Cert.Reference5Ideal.Gen.facts) := by
  pair_intro
  · run_from Cert.Kernel5Ideal.Gen.run_main m g
  · run_from Cert.Reference5Ideal.Value.run m' g'
    all_goals obtain ⟨e0, e1, e2, e3, e4, e5, e6, e7, e8, e9, e10, e11, e12⟩ := hagree c
    · refine (Cert.Reference5Ideal.Read.val_main_v77_eq _ _ _ _ _ _ _ _ _ _ _).trans ?_
      rw [e4, e5, e8, e9]
      exact (Cert.Kernel5Ideal.Merge.final13 m c).symm
    · refine (Cert.Reference5Ideal.Read.val_main_v78_eq m' c).trans ?_
      rw [e0, e1, e2, e3, e4, e5, e6, e7, e8, e9, e10, e11]
      exact (Cert.Kernel5Ideal.Merge.final14 m c).symm
    · refine (Cert.Reference5Ideal.Read.val_main_v80_eq m' c).trans ?_
      rw [e0, e1, e2, e3, e4, e5, e6, e7, e8, e9, e10, e11, e12]
      exact (Cert.Kernel5Ideal.Merge.final15 m c).symm

end Cert.Proof
-- ==== Proof.LatentProjReference.lean ====
/- The latent stream's input projection. The reference's five results, entry by entry, as functions of the projected rows
   `projected` of the normalised latent tokens; every request of 2048 tokens has its own row of the modulation table, and the
   differential attention's queries and keys are turned by the tables of cosines and sines. -/
module

public import proofs.«01_k».proof.Proof.ProjStored
public import proofs.«01_k».proof.Proof.Gen.Kernel6Ideal.Frame
public import proofs.«01_k».proof.Proof.Gen.Reference6Ideal.Read

@[expose] public section

set_option maxRecDepth 16384

noncomputable section

open Idealize.ShloMosaic Idealize.ShloMosaic.TcCoe Idealize.SL.Sem

namespace Cert.Kernel6Ideal.Proj
open Cert.Kernel6Ideal Cert.Kernel6Ideal.Gen Cert.Segments Cert.Reference6Ideal.Read
open Cert.Kernel3Ideal.Proj (logSigmoid)

variable (m : (ℓ : Loc nD τ sig) → Buf (Elt Ideal) ℓ) (c : Dev nD)

/-- The latent tokens. -/
abbrev tokens (R : Fin 8192) (j : Fin 1024) : EReal := m ((c : Thread nD τ).loc main_arg0) (ix2 R j)

/-- The modulation table's row for token `R`: row 0 is the context's, row 1 the first request's. -/
abbrev modulation (R : Fin 8192) (j : Fin 6144) : EReal := m ((c : Thread nD τ).loc main_arg1) (ix2 ⟨1 + R.val / 2048, by omega⟩ j)

/-- The cosines for token `R`. -/
abbrev cosine (R : Fin 8192) (n : Fin 256) : EReal := m ((c : Thread nD τ).loc main_arg6) (ix2 ⟨R.val % 2048, by omega⟩ n)

/-- The sines for token `R`, with the sign of the turn. -/
abbrev sine (R : Fin 8192) (n : Fin 256) : EReal := m ((c : Thread nD τ).loc main_arg7) (ix2 ⟨R.val % 2048, by omega⟩ n)

/-- The lane that lane `n` is turned with: its place in the other half of its group of sixteen. -/
abbrev partner (n : Fin 256) : Fin 256 := ⟨if n.val % 16 < 8 then n.val + 8 else n.val - 8, by split <;> omega⟩

/-- The reference's normalised, modulated rows. -/
abbrev hidden : (⟨Cert.Reference6Ideal.S8192x1024, .f32⟩ : BufTy).Contents (Elt Ideal) :=
  val_main_v23 (F := Ideal) (m ((c : Thread nD τ).loc main_arg0)) (m ((c : Thread nD τ).loc main_arg1)) (m ((c : Thread nD τ).loc main_arg2))

/-- The reference's projection. -/
abbrev projected : (⟨Cert.Reference6Ideal.S8192x3200, .f32⟩ : BufTy).Contents (Elt Ideal) :=
  val_main_v25 (F := Ideal) (m ((c : Thread nD τ).loc main_arg0)) (m ((c : Thread nD τ).loc main_arg1)) (m ((c : Thread nD τ).loc main_arg2)) (m ((c : Thread nD τ).loc main_arg3))

/-- The reference's matrix memory's input. -/
abbrev memory : (⟨Cert.Reference6Ideal.S8192x1024, .f32⟩ : BufTy).Contents (Elt Ideal) :=
  val_main_v44 (F := Ideal) (m ((c : Thread nD τ).loc main_arg0)) (m ((c : Thread nD τ).loc main_arg1)) (m ((c : Thread nD τ).loc main_arg2)) (m ((c : Thread nD τ).loc main_arg3))

/-- The reference's gates' logits. -/
abbrev gates : (⟨Cert.Reference6Ideal.S8192x128, .f32⟩ : BufTy).Contents (Elt Ideal) :=
  val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The reference's neighbourhood attention's queries, keys and values. -/
abbrev na : (⟨Cert.Reference6Ideal.S8192x768, .f32⟩ : BufTy).Contents (Elt Ideal) :=
  val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg5))

/-- The reference's gated recurrence's input. -/
abbrev recurrence : (⟨Cert.Reference6Ideal.S8192x512, .f32⟩ : BufTy).Contents (Elt Ideal) :=
  val_main_v125 (F := Ideal) (m ((c : Thread nD τ).loc main_arg0)) (m ((c : Thread nD τ).loc main_arg1)) (m ((c : Thread nD τ).loc main_arg2)) (m ((c : Thread nD τ).loc main_arg3))

/-- The reference's differential attention's queries, keys and values. -/
abbrev df : (⟨Cert.Reference6Ideal.S8192x768, .f32⟩ : BufTy).Contents (Elt Ideal) :=
  val_main_v189 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7))

/-- The reference's neighbourhood attention's queries. -/
abbrev naQ : (⟨Cert.Reference6Ideal.S8192x256, .f32⟩ : BufTy).Contents (Elt Ideal) :=
  val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg5))

/-- The reference's neighbourhood attention's keys. -/
abbrev naK : (⟨Cert.Reference6Ideal.S8192x256, .f32⟩ : BufTy).Contents (Elt Ideal) :=
  val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg5))

/-- The reference's differential attention's queries before they are turned. -/
abbrev dfQ : (⟨Cert.Reference6Ideal.S8192x256, .f32⟩ : BufTy).Contents (Elt Ideal) :=
  val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg5))

/-- The reference's differential attention's keys before they are turned. -/
abbrev dfK : (⟨Cert.Reference6Ideal.S8192x256, .f32⟩ : BufTy).Contents (Elt Ideal) :=
  val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg5))

/-- The reference's differential attention's queries, turned. -/
abbrev turnedQ : (⟨Cert.Reference6Ideal.S8192x256, .f32⟩ : BufTy).Contents (Elt Ideal) :=
  val_main_v156 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7))

/-- The reference's differential attention's keys, turned. -/
abbrev turnedK : (⟨Cert.Reference6Ideal.S8192x256, .f32⟩ : BufTy).Contents (Elt Ideal) :=
  val_main_v187 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7))

/-- A normalised, modulated row. -/
theorem hidden_ref (R : Fin 8192) (k : Fin 1024) :
    hidden m c (ix2 R k) = tokens m c R k
        * Ideal.rsqrt (Ideal.div (∑ x : Fin 1024, tokens m c R x * tokens m c R x) (Ideal.ofBits FTy.f32 1149239296#32) + Ideal.ofBits FTy.f32 897988541#32)
        * m ((c : Thread nD τ).loc main_arg2) (ix2 0 k) * (Ideal.ofBits FTy.f32 1065353216#32 + modulation m c R ⟨1024 + k.val, by omega⟩)
        + modulation m c R ⟨k.val, by omega⟩ := by
  unfold hidden
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

/-- The reference's projection, entry by entry. -/
theorem projected_eq (R : Fin 8192) (J : Fin 3200) :
    projected m c (ix2 R J) = ∑ k : Fin 1024, hidden m c (ix2 R k) * m ((c : Thread nD τ).loc main_arg3) (ix2 k J) := by
  unfold projected hidden
  pointwise [val_main_v25, val_main_v24]

/-- The gated recurrence's input. -/
theorem rg_ref (R : Fin 8192) (q : Fin 512) :
    recurrence m c (ix2 R q) = projected m c (ix2 R ⟨1792 + q.val, by omega⟩) := by
  unfold recurrence
  pointwise [val_main_v125]

/-- The matrix memory's input: its keys, lanes 256 to 511, are scaled by an eighth. -/
theorem ml_ref (R : Fin 8192) (q : Fin 1024) :
    memory m c (ix2 R q) = if 256 ≤ q.val ∧ q.val < 512 then projected m c (ix2 R ⟨q.val, by omega⟩) * Ideal.ofBits FTy.f32 1040187392#32
        else projected m c (ix2 R ⟨q.val, by omega⟩) := by
  unfold memory
  pointwise [val_main_v44, val_main_v43, val_main_v42, val_main_v41, val_main_v40, val_main_v39, val_main_cst_3]
  by_cases h1 : q.val < 256
  · rw [dif_pos h1, if_neg (show ¬ (256 ≤ q.val ∧ q.val < 512) by omega)]
  · by_cases h2 : q.val < 512
    · rw [dif_neg h1, dif_pos (show q.val - 256 < 256 by omega), if_pos (show 256 ≤ q.val ∧ q.val < 512 by omega)]
      exact congrArg (fun k => projected m c (ix2 R k) * _) (Fin.ext (by dsimp only; omega))
    · rw [dif_neg h1, dif_neg (show ¬ q.val - 256 < 256 by omega), if_neg (show ¬ (256 ≤ q.val ∧ q.val < 512) by omega)]
      exact congrArg (fun k => projected m c (ix2 R k)) (Fin.ext (by dsimp only; omega))

/-- The gates' logits: of the eight lanes of a head, four hold the input gates' and four the forget gates' logarithms. -/
theorem gates_ref (R : Fin 8192) (q : Fin 128) (z : EReal)
    (hz : projected m c (ix2 R ⟨3072 + q.val, by omega⟩) + m ((c : Thread nD τ).loc main_arg4) (ix2 0 q) = z) :
    gates m c (ix2 R q) = if q.val / 4 % 2 < 1 then z else logSigmoid z := by
  subst hz
  unfold gates
  pointwise [val_main_v38, val_main_v37, val_main_v36, val_main_v35, val_main_v34, val_main_v33, val_main_v32, val_main_v31, val_main_v30, val_main_v29, val_main_v28, val_main_v27, val_main_v26, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_v0, val_main_call0_call0_cst]
  by_cases h : q.val / 4 % 2 < 1
  · rw [dif_pos h, if_pos h]
    exact congrArg₂ (· + ·) (congrArg (fun k => projected m c (ix2 R k)) (Fin.ext (by dsimp only; omega)))
      (congrArg (fun k => m ((c : Thread nD τ).loc main_arg4) (ix2 0 k)) (Fin.ext (by dsimp only; omega)))
  · rw [dif_neg h, if_neg h, if_neg (fun g => g rfl)]
    exact congrArg logSigmoid (congrArg₂ (· + ·) (congrArg (fun k => projected m c (ix2 R k)) (Fin.ext (by dsimp only; omega)))
      (congrArg (fun k => m ((c : Thread nD τ).loc main_arg4) (ix2 0 k)) (Fin.ext (by dsimp only; omega))))

/-- The neighbourhood attention's queries. -/
theorem na_q_ref (R : Fin 8192) (q : Fin 256) :
    naQ m c (ix2 R q) = rms64 (fun k => projected m c (ix2 R ⟨1024 + k.val, by omega⟩)) (m ((c : Thread nD τ).loc main_arg5) (ix2 0 q)) q := by
  rw [← quotient64]
  have e : ∀ h, (⟨q.val / 64 * 64 + q.val % 64, h⟩ : Fin 256) = q := fun h => Fin.ext (by dsimp only; omega)
  have e' : ∀ h, (⟨1024 + (q.val / 64 * 64 + q.val % 64), h⟩ : Fin 3200) = ⟨1024 + q.val, by omega⟩ := fun h => Fin.ext (by dsimp only; omega)
  unfold naQ
  pointwise [val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_cst_4, val_main_cst_5, val_main_cst_6]

/-- The neighbourhood attention's keys. -/
theorem na_k_ref (R : Fin 8192) (q : Fin 256) :
    naK m c (ix2 R q) = rms64 (fun k => projected m c (ix2 R ⟨1280 + k.val, by omega⟩)) (m ((c : Thread nD τ).loc main_arg5) (ix2 1 q)) q := by
  rw [← quotient64]
  have e : ∀ h, (⟨q.val / 64 * 64 + q.val % 64, h⟩ : Fin 256) = q := fun h => Fin.ext (by dsimp only; omega)
  have e' : ∀ h, (⟨1280 + (q.val / 64 * 64 + q.val % 64), h⟩ : Fin 3200) = ⟨1280 + q.val, by omega⟩ := fun h => Fin.ext (by dsimp only; omega)
  unfold naK
  pointwise [val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_cst_7, val_main_cst_8, val_main_cst_9]

/-- The differential attention's queries before they are turned. -/
theorem df_q_ref (R : Fin 8192) (q : Fin 256) :
    dfQ m c (ix2 R q) = rms32 (fun k => projected m c (ix2 R ⟨2304 + k.val, by omega⟩)) (m ((c : Thread nD τ).loc main_arg5) (ix2 2 q)) q := by
  rw [← quotient32]
  have e : ∀ h, (⟨q.val / 32 * 32 + q.val % 32, h⟩ : Fin 256) = q := fun h => Fin.ext (by dsimp only; omega)
  have e' : ∀ h, (⟨2304 + (q.val / 32 * 32 + q.val % 32), h⟩ : Fin 3200) = ⟨2304 + q.val, by omega⟩ := fun h => Fin.ext (by dsimp only; omega)
  unfold dfQ
  pointwise [val_main_v101, val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_cst_10, val_main_cst_11, val_main_cst_12]

/-- The differential attention's keys before they are turned. -/
theorem df_k_ref (R : Fin 8192) (q : Fin 256) :
    dfK m c (ix2 R q) = rms32 (fun k => projected m c (ix2 R ⟨2560 + k.val, by omega⟩)) (m ((c : Thread nD τ).loc main_arg5) (ix2 3 q)) q := by
  rw [← quotient32]
  have e : ∀ h, (⟨q.val / 32 * 32 + q.val % 32, h⟩ : Fin 256) = q := fun h => Fin.ext (by dsimp only; omega)
  have e' : ∀ h, (⟨2560 + (q.val / 32 * 32 + q.val % 32), h⟩ : Fin 3200) = ⟨2560 + q.val, by omega⟩ := fun h => Fin.ext (by dsimp only; omega)
  unfold dfK
  pointwise [val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_cst_13, val_main_cst_14, val_main_cst_15]

/-- The neighbourhood attention's queries, keys and values lie side by side. -/
theorem na_ref (R : Fin 8192) (q : Fin 256) : na m c (ix2 R ⟨q.val, by omega⟩) = naQ m c (ix2 R q)
    ∧ na m c (ix2 R ⟨256 + q.val, by omega⟩) = naK m c (ix2 R q)
    ∧ na m c (ix2 R ⟨512 + q.val, by omega⟩) = projected m c (ix2 R ⟨1536 + q.val, by omega⟩) := by
  unfold na
  refine ⟨?_, ?_, ?_⟩ <;> pointwise [val_main_v124, val_main_v123]
  rw [dif_neg (show ¬ 512 + q.val < 256 by omega), dif_neg (show ¬ 512 + q.val - 256 < 256 by omega)]
  exact congrArg (fun k => projected m c (ix2 R k)) (Fin.ext (by dsimp only; omega))

/-- The differential attention's turned queries, turned keys, and values lie side by side. -/
theorem df_ref (R : Fin 8192) (q : Fin 256) : df m c (ix2 R ⟨q.val, by omega⟩) = turnedQ m c (ix2 R q)
    ∧ df m c (ix2 R ⟨256 + q.val, by omega⟩) = turnedK m c (ix2 R q)
    ∧ df m c (ix2 R ⟨512 + q.val, by omega⟩) = projected m c (ix2 R ⟨2816 + q.val, by omega⟩) := by
  unfold df
  refine ⟨?_, ?_, ?_⟩ <;> pointwise [val_main_v189, val_main_v188]
  rw [dif_neg (show ¬ 512 + q.val < 256 by omega), dif_neg (show ¬ 512 + q.val - 256 < 256 by omega)]
  exact congrArg (fun k => projected m c (ix2 R k)) (Fin.ext (by dsimp only; omega))

/-- A lane of a group of sixteen, taken from the halves the group is turned by, is the lane times its cosine and its partner times
    the sine. -/
theorem turned_halves (Z C S : Fin 256 → EReal) (n : Fin 256) :
    (if h : n.val / 8 % 2 < 1 then
        Z ⟨n.val / 16 * 16 + n.val % 8, by omega⟩ * C ⟨n.val / 16 * 16 + n.val % 8, by omega⟩
          + Z ⟨n.val / 16 * 16 + 8 + n.val % 8, by omega⟩ * S ⟨n.val / 16 * 16 + n.val % 8, by omega⟩
      else
        Z ⟨n.val / 16 * 16 + n.val % 8, by omega⟩ * S ⟨n.val / 16 * 16 + 8 + n.val % 8, by omega⟩
          + Z ⟨n.val / 16 * 16 + 8 + n.val % 8, by omega⟩ * C ⟨n.val / 16 * 16 + 8 + n.val % 8, by omega⟩)
      = Z n * C n + Z (partner n) * S n := by
  by_cases h : n.val / 8 % 2 < 1
  · rw [dif_pos h]
    have a : ∀ p, (⟨n.val / 16 * 16 + n.val % 8, p⟩ : Fin 256) = n := fun p => Fin.ext (by dsimp only; omega)
    have b : ∀ p, (⟨n.val / 16 * 16 + 8 + n.val % 8, p⟩ : Fin 256) = partner n :=
      fun p => Fin.ext (by dsimp only [partner]; rw [if_pos (by omega)]; omega)
    rw [a, b]
  · rw [dif_neg h, add_comm]
    have a : ∀ p, (⟨n.val / 16 * 16 + n.val % 8, p⟩ : Fin 256) = partner n :=
      fun p => Fin.ext (by dsimp only [partner]; rw [if_neg (by omega)]; omega)
    have b : ∀ p, (⟨n.val / 16 * 16 + 8 + n.val % 8, p⟩ : Fin 256) = n := fun p => Fin.ext (by dsimp only; omega)
    rw [a, b]

/-- The turned queries: each lane times its cosine, and its partner's times the sine. -/
theorem turned_q_ref (R : Fin 8192) (n : Fin 256) :
    turnedQ m c (ix2 R n) = dfQ m c (ix2 R n) * cosine m c R n + dfQ m c (ix2 R (partner n)) * sine m c R n := by
  unfold turnedQ
  pointwise [val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v122, val_main_v121]
  exact turned_halves (fun k => dfQ m c (ix2 R k)) (cosine m c R) (sine m c R) n

/-- The turned keys: each lane times its cosine, and its partner's times the sine. -/
theorem turned_k_ref (R : Fin 8192) (n : Fin 256) :
    turnedK m c (ix2 R n) = dfK m c (ix2 R n) * cosine m c R n + dfK m c (ix2 R (partner n)) * sine m c R n := by
  unfold turnedK
  pointwise [val_main_v187, val_main_v186, val_main_v185, val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v122, val_main_v121]
  exact turned_halves (fun k => dfK m c (ix2 R k)) (cosine m c R) (sine m c R) n

end Cert.Kernel6Ideal.Proj
-- ==== Proof.LatentProjColumns.lean ====
/- The latent stream's projection: what each stored piece of the kernel is, as a function of the normalised rows and of the
   weights it loads. The arithmetic is that of the context's projection, cut into other pieces in the lower half; the differential
   attention's queries and keys are turned besides. -/
module

public import proofs.«01_k».proof.Proof.LatentProjReference

@[expose] public section

set_option maxRecDepth 16384

noncomputable section

open Idealize.ShloMosaic Idealize.ShloMosaic.TcCoe Idealize.SL.Sem

namespace Cert.Kernel6Ideal.Proj
open Cert.Kernel6Ideal Cert.Kernel6Ideal.Gen Cert.Segments Cert.Reference6Ideal.Read
open Cert.Kernel3Ideal.Proj (logSigmoid logSigmoid_eq forget_select dot lanes)

section arithmetic
variable (H : FVec Ideal S256x1024 .bf16) (W : Vec Ideal S1024x768 .bf16) (G : Vec Ideal S1x256 .f32) (Z C S : FVec Ideal S256x256 .f32)
  (r n : Fin 256)

/-- The neighbourhood attention's queries, upper half. -/
theorem na_q_upper : k0_pay18 (k0_pay13 H W) G lanes (k0_pay14 H W) (k0_pay15 H W) k0_pay16 k0_pay17 (ix2 r n)
    = rms64 (fun k => dot H W r ⟨0 + k.val, by omega⟩) (G (ix2 0 n)) n := by
  have e : ∀ k, k0_pay13 H W (ix2 r k) = dot H W r ⟨0 + k.val, by omega⟩ := by
    intro k
    unfold k0_pay13 k0_pay12
    pointwise []
  simp only [← e]
  unfold k0_pay18 k0_pay17 k0_pay16 k0_pay15 k0_pay14
  generalize k0_pay13 H W = Z
  pointwise []
  exact congrArg (fun s => Z (ix2 r n) * Ideal.rsqrt (s * _ + _) * G (ix2 0 n)) (nested64 (fun k => Z (ix2 r k) * Z (ix2 r k)) n)

/-- The neighbourhood attention's queries, lower half. -/
theorem na_q_lower : k0_pay56 (k0_pay51 H W) G lanes (k0_pay52 H W) k0_pay53 k0_pay54 (k0_pay55 H W) (ix2 r n)
    = rms64 (fun k => dot H W r ⟨0 + k.val, by omega⟩) (G (ix2 0 n)) n := by
  have e : ∀ k, k0_pay51 H W (ix2 r k) = dot H W r ⟨0 + k.val, by omega⟩ := by
    intro k
    unfold k0_pay51 k0_pay50
    pointwise []
  simp only [← e]
  unfold k0_pay56 k0_pay55 k0_pay54 k0_pay53 k0_pay52
  generalize k0_pay51 H W = Z
  pointwise []
  exact congrArg (fun s => Z (ix2 r n) * Ideal.rsqrt (s * _ + _) * G (ix2 0 n)) (nested64 (fun k => Z (ix2 r k) * Z (ix2 r k)) n)

/-- The neighbourhood attention's keys, upper half. -/
theorem na_k_upper : k0_pay22 (k0_pay19 (k0_pay12 H W)) G lanes (k0_pay20 (k0_pay12 H W)) (k0_pay21 (k0_pay12 H W)) (ix2 r n)
    = rms64 (fun k => dot H W r ⟨256 + k.val, by omega⟩) (G (ix2 0 n)) n := by
  have e : ∀ k, k0_pay19 (k0_pay12 H W) (ix2 r k) = dot H W r ⟨256 + k.val, by omega⟩ := by
    intro k
    unfold k0_pay19 k0_pay12
    pointwise []
  simp only [← e]
  unfold k0_pay22 k0_pay21 k0_pay20
  generalize k0_pay19 (k0_pay12 H W) = Z
  pointwise []
  exact congrArg (fun s => Z (ix2 r n) * Ideal.rsqrt (s * _ + _) * G (ix2 0 n)) (nested64 (fun k => Z (ix2 r k) * Z (ix2 r k)) n)

/-- The neighbourhood attention's keys, lower half. -/
theorem na_k_lower : k0_pay61 (k0_pay57 (k0_pay50 H W)) G lanes (k0_pay58 (k0_pay50 H W)) (k0_pay59 (k0_pay50 H W)) k0_pay60 256#32 (ix2 r n)
    = rms64 (fun k => dot H W r ⟨256 + k.val, by omega⟩) (G (ix2 0 n)) n := by
  have e : ∀ k, k0_pay57 (k0_pay50 H W) (ix2 r k) = dot H W r ⟨256 + k.val, by omega⟩ := by
    intro k
    unfold k0_pay57 k0_pay50
    pointwise []
  simp only [← e]
  unfold k0_pay61 k0_pay60 k0_pay59 k0_pay58
  generalize k0_pay57 (k0_pay50 H W) = Z
  pointwise []
  exact congrArg (fun s => Z (ix2 r n) * Ideal.rsqrt (s * _ + _) * G (ix2 0 n)) (nested64 (fun k => Z (ix2 r k) * Z (ix2 r k)) n)

/-- The differential attention's queries, upper half. -/
theorem df_q_upper : k0_pay30 (k0_pay24 H W) G lanes (k0_pay25 H W) (k0_pay27 lanes (k0_pay25 H W) (k0_pay26 H W) 96#32) (k0_pay28 lanes) (k0_pay29 lanes (k0_pay25 H W)) (ix2 r n)
    = rms32 (fun k => dot H W r ⟨0 + k.val, by omega⟩) (G (ix2 0 n)) n := by
  have e : ∀ k, k0_pay24 H W (ix2 r k) = dot H W r ⟨0 + k.val, by omega⟩ := by
    intro k
    unfold k0_pay24 k0_pay23
    pointwise []
  simp only [← e]
  unfold k0_pay30 k0_pay29 k0_pay28 k0_pay27 k0_pay26 k0_pay25
  generalize k0_pay24 H W = Z
  pointwise []
  exact congrArg (fun s => Z (ix2 r n) * Ideal.rsqrt (s * _ + _) * G (ix2 0 n)) (nested32 (fun k => Z (ix2 r k) * Z (ix2 r k)) n)

/-- The differential attention's queries, lower half. -/
theorem df_q_lower : k0_pay71 (k0_pay63 H W) G lanes (k0_pay64 H W) (k0_pay68 lanes (k0_pay64 H W) (k0_pay65 H W) k0_pay66 k0_pay67) (k0_pay69 lanes) k0_pay70 (ix2 r n)
    = rms32 (fun k => dot H W r ⟨0 + k.val, by omega⟩) (G (ix2 0 n)) n := by
  have e : ∀ k, k0_pay63 H W (ix2 r k) = dot H W r ⟨0 + k.val, by omega⟩ := by
    intro k
    unfold k0_pay63 k0_pay62
    pointwise []
  simp only [← e]
  unfold k0_pay71 k0_pay70 k0_pay69 k0_pay68 k0_pay67 k0_pay66 k0_pay65 k0_pay64
  generalize k0_pay63 H W = Z
  pointwise []
  exact congrArg (fun s => Z (ix2 r n) * Ideal.rsqrt (s * _ + _) * G (ix2 0 n)) (nested32 (fun k => Z (ix2 r k) * Z (ix2 r k)) n)

/-- The differential attention's keys, upper half. -/
theorem df_k_upper : k0_pay37 (k0_pay31 (k0_pay23 H W)) G lanes (k0_pay32 (k0_pay23 H W)) (k0_pay35 lanes (k0_pay32 (k0_pay23 H W)) (k0_pay33 (k0_pay23 H W)) k0_pay34) (k0_pay36 lanes) (ix2 r n)
    = rms32 (fun k => dot H W r ⟨256 + k.val, by omega⟩) (G (ix2 0 n)) n := by
  have e : ∀ k, k0_pay31 (k0_pay23 H W) (ix2 r k) = dot H W r ⟨256 + k.val, by omega⟩ := by
    intro k
    unfold k0_pay31 k0_pay23
    pointwise []
  simp only [← e]
  unfold k0_pay37 k0_pay36 k0_pay35 k0_pay34 k0_pay33 k0_pay32
  generalize k0_pay31 (k0_pay23 H W) = Z
  pointwise []
  exact congrArg (fun s => Z (ix2 r n) * Ideal.rsqrt (s * _ + _) * G (ix2 0 n)) (nested32 (fun k => Z (ix2 r k) * Z (ix2 r k)) n)

/-- The differential attention's keys, lower half. -/
theorem df_k_lower : k0_pay79 (k0_pay72 (k0_pay62 H W)) G (k0_pay73 (k0_pay62 H W)) (k0_pay77 lanes (k0_pay73 (k0_pay62 H W)) (k0_pay74 lanes (k0_pay73 (k0_pay62 H W)) (Scalar.ofBits .f32 0x00000000#32)) (k0_pay75 lanes) (k0_pay76 lanes (k0_pay73 (k0_pay62 H W)))) (k0_pay78 lanes) (ix2 r n)
    = rms32 (fun k => dot H W r ⟨256 + k.val, by omega⟩) (G (ix2 0 n)) n := by
  have e : ∀ k, k0_pay72 (k0_pay62 H W) (ix2 r k) = dot H W r ⟨256 + k.val, by omega⟩ := by
    intro k
    unfold k0_pay72 k0_pay62
    pointwise []
  simp only [← e]
  unfold k0_pay79 k0_pay78 k0_pay77 k0_pay76 k0_pay75 k0_pay74 k0_pay73
  generalize k0_pay72 (k0_pay62 H W) = Z
  pointwise []
  exact congrArg (fun s => Z (ix2 r n) * Ideal.rsqrt (s * _ + _) * G (ix2 0 n)) (nested32 (fun k => Z (ix2 r k) * Z (ix2 r k)) n)

/-- The lower four bits of a lane's number tell the first half of a group of sixteen from the second. -/
theorem half_word (n : Fin 256) :
    IntOp.cmpi CmpIPredicate.slt (IntOp.andi (BitVec.ofNat 32 n.val) 15#32) 8#32 = if n.val % 16 < 8 then 1#1 else 0#1 := by
  revert n
  decide +kernel

/-- The select on the half's word. -/
theorem half_select (n : Fin 256) (a b : EReal) :
    Scalar.select (IntOp.cmpi CmpIPredicate.slt (IntOp.andi (BitVec.ofNat 32 n.val) 15#32) 8#32) a b = if n.val % 16 < 8 then a else b := by
  rw [half_word]
  by_cases g : n.val % 16 < 8
  · rw [if_pos g, if_pos g]; rfl
  · rw [if_neg g, if_neg g]; rfl

/-- The kernel's turn, as a block's upper half's queries go through it: the rows rolled by 248 lanes hold at a lane what stood 8 lanes
    further, and rolled by 8 lanes what stood 8 lanes before; a lane takes the one that holds its partner. -/
theorem turned : k0_pay39 Z C S (ix2 r n) = Z (ix2 r n) * C (ix2 r n) + Z (ix2 r (partner n)) * S (ix2 r n) := by
  unfold k0_pay39
  pointwise []
  rw [half_select]
  refine congrArg (fun z : EReal => Z (ix2 r n) * C (ix2 r n) + z * S (ix2 r n)) ?_
  by_cases g : n.val % 16 < 8
  · rw [if_pos g]
    refine congrArg (fun k => Z (ix2 r k)) (Fin.ext ?_)
    show (n.val + 256 - 248) % 256 = if n.val % 16 < 8 then n.val + 8 else n.val - 8
    rw [if_pos g]
    omega
  · rw [if_neg g]
    refine congrArg (fun k => Z (ix2 r k)) (Fin.ext ?_)
    show (n.val + 256 - 8) % 256 = if n.val % 16 < 8 then n.val + 8 else n.val - 8
    rw [if_neg g]
    omega

/-- The other three turns are the same. -/
theorem same_turn : @k0_pay40 Ideal _ = @k0_pay39 Ideal _ ∧ @k0_pay81 Ideal _ = @k0_pay39 Ideal _
    ∧ (fun Z C S => @k0_pay1 Ideal _ Z C S lanes k0_pay82) = @k0_pay39 Ideal _ := ⟨rfl, rfl, rfl⟩

end arithmetic

section columns
variable (A B : FVec Ideal S256x1024 .f32) (P Q : Vec Ideal S1x1024 .f32) (X : Vec Ideal S256x1024 .f32) (F : Vec Ideal S1x1024 .f32)
  (H : FVec Ideal S256x1024 .bf16) (W : Vec Ideal S1024x1024 .bf16) (Y : Vec Ideal S1024x512 .bf16) (U : Vec Ideal S1024x768 .bf16)
  (T : Vec Ideal S1024x128 .bf16) (b : Vec Ideal S1x128 .f32) (r n : Fin 256) (k : Fin 512) (i : Fin 128)

/-- The matrix memory's queries, upper half. -/
theorem memory_q_upper : k0_pay7 A B W (ix2 r n) = dot (k0_pay5 A B) W r ⟨0 + n.val, by omega⟩ := by
  unfold k0_pay7 k0_pay6
  generalize k0_pay5 A B = H
  pointwise []

/-- The matrix memory's keys, upper half: scaled by an eighth. -/
theorem memory_k_upper : k0_pay8 A B W (ix2 r n) = dot (k0_pay5 A B) W r ⟨256 + n.val, by omega⟩ * Ideal.ofBits FTy.f32 1040187392#32 := by
  unfold k0_pay8 k0_pay6
  generalize k0_pay5 A B = H
  pointwise []

/-- The matrix memory's values and output gates, upper half. -/
theorem memory_v_upper : k0_pay9 A B W (ix2 r k) = dot (k0_pay5 A B) W r ⟨512 + k.val, by omega⟩ := by
  unfold k0_pay9 k0_pay6
  generalize k0_pay5 A B = H
  pointwise []

/-- The matrix memory's queries, lower half. -/
theorem memory_q_lower : k0_pay44 P Q X F W (ix2 r n) = dot (k0_pay42 P Q X F) W r ⟨0 + n.val, by omega⟩ := by
  unfold k0_pay44 k0_pay43
  generalize k0_pay42 P Q X F = H
  pointwise []

/-- The matrix memory's keys, lower half: scaled by an eighth. -/
theorem memory_k_lower : k0_pay45 P Q X F W (ix2 r n) = dot (k0_pay42 P Q X F) W r ⟨256 + n.val, by omega⟩ * Ideal.ofBits FTy.f32 1040187392#32 := by
  unfold k0_pay45 k0_pay43
  generalize k0_pay42 P Q X F = H
  pointwise []

/-- The matrix memory's values and output gates, lower half. -/
theorem memory_v_lower : k0_pay46 P Q X F W (ix2 r k) = dot (k0_pay42 P Q X F) W r ⟨512 + k.val, by omega⟩ := by
  unfold k0_pay46 k0_pay43
  generalize k0_pay42 P Q X F = H
  pointwise []

/-- The gates of the upper half's rows. -/
theorem gates_upper : k0_pay10 A B T b (ix2 r i)
    = if i.val / 4 % 2 < 1 then dot (k0_pay5 A B) T r i + b (ix2 0 i) else logSigmoid (dot (k0_pay5 A B) T r i + b (ix2 0 i)) := by
  unfold k0_pay10
  generalize k0_pay5 A B = H
  pointwise []
  rw [forget_select, logSigmoid_eq]

/-- The gates of the lower half's rows. -/
theorem gates_lower : k0_pay48 (k0_pay47 P Q X F T b) (iota .tc S256x128 32 [1] iota_S256x128_d1_w32) (ix2 r i)
    = if i.val / 4 % 2 < 1 then dot (k0_pay42 P Q X F) T r i + b (ix2 0 i) else logSigmoid (dot (k0_pay42 P Q X F) T r i + b (ix2 0 i)) := by
  unfold k0_pay48 k0_pay47
  generalize k0_pay42 P Q X F = H
  pointwise []
  rw [forget_select, logSigmoid_eq]

/-- The gated recurrence's input, upper half. -/
theorem recurrence_upper : k0_pay11 H Y (ix2 r k) = dot H Y r k := by
  unfold k0_pay11
  pointwise []

/-- The gated recurrence's input, lower half. -/
theorem recurrence_lower : k0_pay49 H Y (ix2 r k) = dot H Y r k := by
  unfold k0_pay49
  pointwise []

/-- The neighbourhood attention's values, upper half. -/
theorem na_v_upper : k0_pay38 (k0_pay12 H U) (ix2 r n) = dot H U r ⟨512 + n.val, by omega⟩ := by
  unfold k0_pay38 k0_pay12
  pointwise []

/-- The neighbourhood attention's values, lower half. -/
theorem na_v_lower : k0_pay80 (k0_pay50 H U) (ix2 r n) = dot H U r ⟨512 + n.val, by omega⟩ := by
  unfold k0_pay80 k0_pay50
  pointwise []

/-- The differential attention's values, upper half. -/
theorem df_v_upper : k0_pay41 (k0_pay23 H U) (ix2 r n) = dot H U r ⟨512 + n.val, by omega⟩ := by
  unfold k0_pay41 k0_pay23
  pointwise []

/-- The differential attention's values, lower half. -/
theorem df_v_lower : k0_pay2 (k0_pay62 H U) (ix2 r n) = dot H U r ⟨512 + n.val, by omega⟩ := by
  unfold k0_pay2 k0_pay62
  pointwise []

end columns

end Cert.Kernel6Ideal.Proj
-- ==== Proof.LatentProjStored.lean ====
/- The latent stream's projection, row by row: the kernel's two halves of 256 normalised rows are the reference's rows, and for any
   rows that are the reference's, what the kernel stores of them is what the reference holds. -/
module

public import proofs.«01_k».proof.Proof.LatentProjColumns

@[expose] public section

set_option maxRecDepth 16384

noncomputable section

open Idealize.ShloMosaic Idealize.ShloMosaic.TcCoe Idealize.SL.Sem

namespace Cert.Kernel6Ideal.Proj
open Cert.Kernel6Ideal Cert.Kernel6Ideal.Gen Cert.Segments Cert.Reference6Ideal.Read
open Cert.Kernel3Ideal.Proj (dot lanes)

variable (m : (ℓ : Loc nD τ sig) → Buf (Elt Ideal) ℓ) (c : Dev nD)

/-- Grid point `t` works on rows `512 t` to `512 t + 511`; a request of 2048 rows takes four points, which read the four quarters of
    the turn's tables. The modulation, gains, weights and biases are whole at every point. -/
theorem idx : ∀ t : Fin cfg0.N, win0_0.index t = ![t.val, 0] ∧ win0_1.index t = ![0, 0]
    ∧ win0_2.index t = ![0, 0] ∧ win0_3.index t = ![0, 0]
    ∧ win0_4.index t = ![0, 0] ∧ win0_5.index t = ![0, 0] ∧ win0_6.index t = ![t.val % 4, 0]
    ∧ win0_7.index t = ![t.val % 4, 0] ∧ win0_8.index t = ![t.val, 0] ∧ win0_9.index t = ![t.val, 0] ∧ win0_10.index t = ![t.val, 0]
    ∧ win0_11.index t = ![t.val, 0] ∧ win0_12.index t = ![t.val, 0] :=
  (by decide +kernel : ∀ t : Fin grid0.N, _)

/-- The shift and the scale are read from the request's row of the modulation table. -/
theorem offsets : ∀ t : Fin cfg0.N, k0_off1 (grid0.coords t) = ![1 + t.val / 4, 0] ∧ k0_off2 (grid0.coords t) = ![1 + t.val / 4, 1024] :=
  (by decide +kernel : ∀ t : Fin grid0.N, _)

/-- There are sixteen grid points. -/
theorem point_lt (t : Fin cfg0.N) : t.val < 16 := t.isLt

/-- The modulation table's entry read at offset `o` of the request's row. -/
theorem modulation_read (t : Fin cfg0.N) (f : Fin 2 → ℕ) (o : ℕ) (hf : f = ![1 + t.val / 4, o]) (ho : o + 1024 ≤ 6144) (h) (j : Fin 1024)
    (p : ℕ) (hp : p < 512) (R : Fin 8192) (hR : R.val = t.val * 512 + p) :
    View.ld (iblk m c 1 t) (Rect.unit (s := S8x6144) f ![1, 1024] h) (ix2 0 j) = modulation m c R ⟨o + j.val, by omega⟩ := by
  have ht := point_lt t
  have e : (⟨1 + R.val / 2048, by omega⟩ : Fin 8) = ⟨1 + t.val / 4, by omega⟩ := Fin.ext (by dsimp only; omega)
  unfold modulation
  rw [e]
  subst hf
  pointwise []
  blk_point [iblk, V, idx t]

/-- The columns of the weights that a rectangle of whole columns reads. -/
theorem columns (t : Fin cfg0.N) (o w : ℕ) (h) (k : Fin 1024) (j : Fin w) (hj : o + j.val < 3200) :
    View.ld (iblk m c 3 t) (Rect.unit (s := S1024x3200) ![0, o] ![1024, w] h) (ix2 k j)
      = m ((c : Thread nD τ).loc main_arg3) (ix2 k ⟨o + j.val, hj⟩) := by
  pointwise []
  blk_point [iblk, V, idx t]

/-- The gains of one row of the table of gains. -/
theorem gains (t : Fin cfg0.N) (o : ℕ) (ho : o < 4) (h) (n : Fin 256) :
    View.ld (iblk m c 5 t) (Rect.unit (s := S4x256) ![o, 0] ![1, 256] h) (ix2 0 n) = m ((c : Thread nD τ).loc main_arg5) (ix2 ⟨o, ho⟩ n) := by
  pointwise []
  blk_point [iblk, V, idx t]

/-- The gates' biases, and the first normalisation's gains. -/
theorem wholes (t : Fin cfg0.N) (n : Fin 128) (k : Fin 1024) : iblk m c 4 t (ix2 0 n) = m ((c : Thread nD τ).loc main_arg4) (ix2 0 n)
    ∧ iblk m c 2 t (ix2 0 k) = m ((c : Thread nD τ).loc main_arg2) (ix2 0 k) := by
  refine ⟨?_, ?_⟩ <;> blk_ext [iblk, V, idx t]

/-- A row of a grid point's block of the tokens. -/
theorem row (t : Fin cfg0.N) (p : Fin 512) (k : Fin 1024) (R : Fin 8192) (hR : R.val = t.val * 512 + p.val) :
    iblk m c 0 t (ix2 p k) = tokens m c R k := by
  obtain ⟨R, hlt⟩ := R
  dsimp only at hR
  subst hR
  blk_ext [iblk, V, idx t]

/-- A row of a half of a grid point's blocks of the turn's tables. -/
theorem tables (t : Fin cfg0.N) (o : ℕ) (ho : o + 256 ≤ 512) (h) (r n : Fin 256) (R : Fin 8192) (hR : R.val = t.val * 512 + (o + r.val)) :
    View.ld (iblk m c 6 t) (Rect.unit (s := S512x256) ![o, 0] ![256, 256] h) (ix2 r n) = cosine m c R n
    ∧ View.ld (iblk m c 7 t) (Rect.unit (s := S512x256) ![o, 0] ![256, 256] h) (ix2 r n) = sine m c R n := by
  have ht := point_lt t
  have e : (⟨R.val % 2048, by omega⟩ : Fin 2048) = ⟨t.val % 4 * 512 + (o + r.val), by omega⟩ := Fin.ext (by dsimp only; omega)
  unfold cosine sine
  rw [e]
  refine ⟨?_, ?_⟩ <;> (pointwise []; blk_point [iblk, V, idx t])

/-- The upper half's rows as the kernel holds them. -/
abbrev upper (t : Fin cfg0.N) : FVec Ideal S256x1024 .bf16 :=
  k0_pay5
    (k0_pay3 (View.ld (iblk m c 1 t) (Rect.unit (s := S8x6144) (k0_off2 (grid0.coords t)) ![1, 1024] (k0_off2_inb _)))
      (View.ld (iblk m c 0 t) (Rect.unit ![0, 0] ![256, 1024] inb_S512x1024_S256x1024_0_0)) (iblk m c 2 t))
    (k0_pay4 (View.ld (iblk m c 1 t) (Rect.unit (s := S8x6144) (k0_off1 (grid0.coords t)) ![1, 1024] (k0_off1_inb _))))

/-- The lower half's rows as the kernel holds them. -/
abbrev lower (t : Fin cfg0.N) : FVec Ideal S256x1024 .bf16 :=
  k0_pay42 (View.ld (iblk m c 1 t) (Rect.unit (s := S8x6144) (k0_off1 (grid0.coords t)) ![1, 1024] (k0_off1_inb _)))
    (View.ld (iblk m c 1 t) (Rect.unit (s := S8x6144) (k0_off2 (grid0.coords t)) ![1, 1024] (k0_off2_inb _)))
    (View.ld (iblk m c 0 t) (Rect.unit ![256, 0] ![256, 1024] inb_S512x1024_S256x1024_256_0)) (iblk m c 2 t)

/-- A row of the upper half is the reference's row. -/
theorem upper_eq (t : Fin cfg0.N) (r : Fin 256) (k : Fin 1024) (R : Fin 8192) (hR : R.val = t.val * 512 + r.val) :
    upper m c t (ix2 r k) = hidden m c (ix2 R k) := by
  have e1 := modulation_read m c t _ 0 (offsets t).1 (by omega) (k0_off1_inb _) k (r.val) (by omega) R hR
  have e2 := modulation_read m c t _ 1024 (offsets t).2 (by omega) (k0_off2_inb _) k (r.val) (by omega) R hR
  rw [hidden_ref]
  unfold upper
  generalize View.ld (iblk m c 1 t) (Rect.unit (s := S8x6144) (k0_off1 (grid0.coords t)) ![1, 1024] (k0_off1_inb _)) = A at e1 ⊢
  generalize View.ld (iblk m c 1 t) (Rect.unit (s := S8x6144) (k0_off2 (grid0.coords t)) ![1, 1024] (k0_off2_inb _)) = B at e2 ⊢
  open_payloads
  pointwise []
  have e3 : ∀ x, iblk m c 0 t (ix2 ⟨r.val, by omega⟩ x) = tokens m c R x := fun x => row m c t _ x R hR
  rw [e1, e2, (wholes m c t 0 k).2]
  simp only [e3]
  have e4 : (⟨0 + k.val, by omega⟩ : Fin 6144) = ⟨k.val, by omega⟩ := Fin.ext (Nat.zero_add _)
  rw [e4]

/-- A row of the lower half is the reference's row. -/
theorem lower_eq (t : Fin cfg0.N) (r : Fin 256) (k : Fin 1024) (R : Fin 8192) (hR : R.val = t.val * 512 + (256 + r.val)) :
    lower m c t (ix2 r k) = hidden m c (ix2 R k) := by
  have e1 := modulation_read m c t _ 0 (offsets t).1 (by omega) (k0_off1_inb _) k (256 + r.val) (by omega) R hR
  have e2 := modulation_read m c t _ 1024 (offsets t).2 (by omega) (k0_off2_inb _) k (256 + r.val) (by omega) R hR
  rw [hidden_ref]
  unfold lower
  generalize View.ld (iblk m c 1 t) (Rect.unit (s := S8x6144) (k0_off1 (grid0.coords t)) ![1, 1024] (k0_off1_inb _)) = A at e1 ⊢
  generalize View.ld (iblk m c 1 t) (Rect.unit (s := S8x6144) (k0_off2 (grid0.coords t)) ![1, 1024] (k0_off2_inb _)) = B at e2 ⊢
  open_payloads
  pointwise []
  have e3 : ∀ x, iblk m c 0 t (ix2 ⟨256 + r.val, by omega⟩ x) = tokens m c R x := fun x => row m c t _ x R hR
  rw [e1, e2, (wholes m c t 0 k).2]
  simp only [e3]
  have e4 : (⟨0 + k.val, by omega⟩ : Fin 6144) = ⟨k.val, by omega⟩ := Fin.ext (Nat.zero_add _)
  rw [e4]

section rows
variable (t : Fin cfg0.N) (H : FVec Ideal S256x1024 .bf16) (r : Fin 256) (R : Fin 8192) (hH : ∀ k : Fin 1024, H (ix2 r k) = hidden m c (ix2 R k))
include hH

/-- A row times columns of the weights is the reference's projection of the row in those columns. -/
theorem dot_at (o w : ℕ) (h) (j : Fin w) (J : Fin 3200) (hJ : J.val = o + j.val) :
    dot H (View.ld (iblk m c 3 t) (Rect.unit (s := S1024x3200) ![0, o] ![1024, w] h)) r j = projected m c (ix2 R J) := by
  obtain ⟨J, hlt⟩ := J
  dsimp only at hJ
  subst hJ
  rw [projected_eq]
  exact Finset.sum_congr rfl fun k _ => by rw [hH k, columns m c t o w h k j hlt]

/-- A row of the matrix memory's queries, keys, values and output gates. -/
theorem memory_at (h) (n : Fin 256) (k : Fin 512) :
    dot H (View.ld (iblk m c 3 t) (Rect.unit (s := S1024x3200) ![0, 0] ![1024, 1024] h)) r ⟨0 + n.val, by omega⟩
      = memory m c (ix2 R ⟨n.val, by omega⟩)
    ∧ dot H (View.ld (iblk m c 3 t) (Rect.unit (s := S1024x3200) ![0, 0] ![1024, 1024] h)) r ⟨256 + n.val, by omega⟩ * Ideal.ofBits FTy.f32 1040187392#32
      = memory m c (ix2 R ⟨256 + n.val, by omega⟩)
    ∧ dot H (View.ld (iblk m c 3 t) (Rect.unit (s := S1024x3200) ![0, 0] ![1024, 1024] h)) r ⟨512 + k.val, by omega⟩
      = memory m c (ix2 R ⟨512 + k.val, by omega⟩) := by
  simp only [ml_ref]
  rw [if_neg (by omega), if_pos (by omega), if_neg (by omega)]
  exact ⟨dot_at m c t H r R hH 0 1024 _ _ _ (by dsimp only; omega),
    congrArg (· * _) (dot_at m c t H r R hH 0 1024 _ _ _ (by dsimp only; omega)),
    dot_at m c t H r R hH 0 1024 _ _ _ (by dsimp only; omega)⟩

/-- A row of the gates' logits. -/
theorem gates_at (h) (n : Fin 128) (z : EReal)
    (hz : dot H (View.ld (iblk m c 3 t) (Rect.unit (s := S1024x3200) ![0, 3072] ![1024, 128] h)) r n + iblk m c 4 t (ix2 0 n) = z) :
    (if n.val / 4 % 2 < 1 then z else Cert.Kernel3Ideal.Proj.logSigmoid z) = gates m c (ix2 R n) := by
  refine (gates_ref m c R n z ?_).symm
  rw [← hz, (wholes m c t n 0).1, dot_at m c t H r R hH 3072 128 h n ⟨3072 + n.val, by omega⟩ rfl]

/-- A row of the gated recurrence's input. -/
theorem recurrence_at (h) (n : Fin 512) :
    dot H (View.ld (iblk m c 3 t) (Rect.unit (s := S1024x3200) ![0, 1792] ![1024, 512] h)) r n = recurrence m c (ix2 R n) := by
  rw [rg_ref]
  exact dot_at m c t H r R hH 1792 512 _ _ _ rfl

/-- A row of the neighbourhood attention's queries. -/
theorem na_q_at (h h') (n : Fin 256) :
    rms64 (fun k => dot H (View.ld (iblk m c 3 t) (Rect.unit (s := S1024x3200) ![0, 1024] ![1024, 768] h)) r ⟨0 + k.val, by omega⟩)
      (View.ld (iblk m c 5 t) (Rect.unit (s := S4x256) ![0, 0] ![1, 256] h') (ix2 0 n)) n = naQ m c (ix2 R n) := by
  rw [na_q_ref]
  exact congrArg₂ (fun z g => rms64 z g n)
    (funext fun k => dot_at m c t H r R hH 1024 768 _ _ _ (by dsimp only; omega)) (gains m c t 0 (by omega) _ n)

/-- A row of the neighbourhood attention's keys. -/
theorem na_k_at (h h') (n : Fin 256) :
    rms64 (fun k => dot H (View.ld (iblk m c 3 t) (Rect.unit (s := S1024x3200) ![0, 1024] ![1024, 768] h)) r ⟨256 + k.val, by omega⟩)
      (View.ld (iblk m c 5 t) (Rect.unit (s := S4x256) ![1, 0] ![1, 256] h') (ix2 0 n)) n = naK m c (ix2 R n) := by
  rw [na_k_ref]
  exact congrArg₂ (fun z g => rms64 z g n)
    (funext fun k => dot_at m c t H r R hH 1024 768 _ _ _ (by dsimp only; omega)) (gains m c t 1 (by omega) _ n)

/-- A row of the differential attention's queries before the turn. -/
theorem df_q_at (h h') (n : Fin 256) :
    rms32 (fun k => dot H (View.ld (iblk m c 3 t) (Rect.unit (s := S1024x3200) ![0, 2304] ![1024, 768] h)) r ⟨0 + k.val, by omega⟩)
      (View.ld (iblk m c 5 t) (Rect.unit (s := S4x256) ![2, 0] ![1, 256] h') (ix2 0 n)) n = dfQ m c (ix2 R n) := by
  rw [df_q_ref]
  exact congrArg₂ (fun z g => rms32 z g n)
    (funext fun k => dot_at m c t H r R hH 2304 768 _ _ _ (by dsimp only; omega)) (gains m c t 2 (by omega) _ n)

/-- A row of the differential attention's keys before the turn. -/
theorem df_k_at (h h') (n : Fin 256) :
    rms32 (fun k => dot H (View.ld (iblk m c 3 t) (Rect.unit (s := S1024x3200) ![0, 2304] ![1024, 768] h)) r ⟨256 + k.val, by omega⟩)
      (View.ld (iblk m c 5 t) (Rect.unit (s := S4x256) ![3, 0] ![1, 256] h') (ix2 0 n)) n = dfK m c (ix2 R n) := by
  rw [df_k_ref]
  exact congrArg₂ (fun z g => rms32 z g n)
    (funext fun k => dot_at m c t H r R hH 2304 768 _ _ _ (by dsimp only; omega)) (gains m c t 3 (by omega) _ n)

end rows

/-- A turned row of the differential attention's queries, given the row before the turn. -/
theorem turned_q_at (t : Fin cfg0.N) (Z : FVec Ideal S256x256 .f32) (r n : Fin 256) (o : ℕ) (ho : o + 256 ≤ 512) (h) (R : Fin 8192)
    (hR : R.val = t.val * 512 + (o + r.val)) (hZ : ∀ k, Z (ix2 r k) = dfQ m c (ix2 R k)) :
    k0_pay39 Z (View.ld (iblk m c 6 t) (Rect.unit (s := S512x256) ![o, 0] ![256, 256] h))
      (View.ld (iblk m c 7 t) (Rect.unit (s := S512x256) ![o, 0] ![256, 256] h)) (ix2 r n) = turnedQ m c (ix2 R n) := by
  rw [turned, turned_q_ref, hZ, hZ, (tables m c t o ho h r n R hR).1, (tables m c t o ho h r n R hR).2]

/-- A turned row of the differential attention's keys, given the row before the turn. -/
theorem turned_k_at (t : Fin cfg0.N) (Z : FVec Ideal S256x256 .f32) (r n : Fin 256) (o : ℕ) (ho : o + 256 ≤ 512) (h) (R : Fin 8192)
    (hR : R.val = t.val * 512 + (o + r.val)) (hZ : ∀ k, Z (ix2 r k) = dfK m c (ix2 R k)) :
    k0_pay39 Z (View.ld (iblk m c 6 t) (Rect.unit (s := S512x256) ![o, 0] ![256, 256] h))
      (View.ld (iblk m c 7 t) (Rect.unit (s := S512x256) ![o, 0] ![256, 256] h)) (ix2 r n) = turnedK m c (ix2 R n) := by
  rw [turned, turned_k_ref, hZ, hZ, (tables m c t o ho h r n R hR).1, (tables m c t o ho h r n R hR).2]

end Cert.Kernel6Ideal.Proj
-- ==== Proof.LatentProjValue.lean ====
/- The latent stream's projection, end to end: what the kernel leaves in its five output arrays is what the reference computes. -/
module

public import proofs.«01_k».proof.Proof.LatentProjStored
public import Idealize.ShloMosaic.Lib.Ring

@[expose] public section

set_option maxRecDepth 16384

noncomputable section

open Idealize.ShloMosaic Idealize.ShloMosaic.TcCoe Idealize.SL.Sem
open Idealize.ShloMosaic.Pipeline (Dat)

namespace Cert.Kernel6Ideal.Proj
open Cert.Kernel6Ideal Cert.Kernel6Ideal.Gen

variable (m : (ℓ : Loc nD τ sig) → Buf (Elt Ideal) ℓ) (c : Dev nD)

/-- Row `p`, lane `n` of grid point `t`'s block of the matrix memory's input is an entry of row `512 t + p`. -/
theorem place8 (t : Fin cfg0.N) (y : S512x1024.Idx) (p : ℕ) (n : Fin 1024) (h0 : (y 0).val = p) (h1 : (y 1).val = n.val) :
    ∃ R : Fin 8192, R.val = t.val * 512 + p ∧ ((cfg0.win 8).blk t).view.emb y = ix2 R n := by
  have ht := point_lt t
  have hy : (y 0).val < 512 := (y 0).isLt
  obtain ⟨n, hn⟩ := n
  dsimp only at h1
  subst h0 h1
  exact ⟨⟨t.val * 512 + (y 0).val, by omega⟩, rfl, by blk_ext [idx t]⟩

/-- What one grid point computes of the matrix memory's input. -/
theorem point8 (t : Fin cfg0.N) (y : S512x1024.Idx) :
    (outsAt0 m c t).1 y = memory m c (((cfg0.win 8).blk t).view.emb y) := by
  unfold outsAt0
  dsimp only
  frame_out
  canon_tiles x h using View.cover_of_tiledBy _ ![256, 256] (by sl_kernel_rfl) y
  · obtain ⟨r, n, rfl⟩ : ∃ (r : Fin 256) (n : Fin 512), x = ix2 r n := ⟨x 0, x 1, eq_ix2 x⟩
    obtain ⟨R, hR, e⟩ := place8 t y (256 + r.val) ⟨512 + n.val, by omega⟩ h0 h1
    exact (memory_v_lower _ _ _ _ _ r n).trans ((memory_at m c t _ r R (fun k => lower_eq m c t r k R hR) _ 0 n).2.2.trans (congrArg _ e.symm))
  · obtain ⟨r, n, rfl⟩ : ∃ (r : Fin 256) (n : Fin 256), x = ix2 r n := ⟨x 0, x 1, eq_ix2 x⟩
    obtain ⟨R, hR, e⟩ := place8 t y (256 + r.val) ⟨256 + n.val, by omega⟩ h0 h1
    exact (memory_k_lower _ _ _ _ _ r n).trans ((memory_at m c t _ r R (fun k => lower_eq m c t r k R hR) _ n 0).2.1.trans (congrArg _ e.symm))
  · obtain ⟨r, n, rfl⟩ : ∃ (r : Fin 256) (n : Fin 256), x = ix2 r n := ⟨x 0, x 1, eq_ix2 x⟩
    obtain ⟨R, hR, e⟩ := place8 t y (256 + r.val) ⟨n.val, by omega⟩ h0 h1
    exact (memory_q_lower _ _ _ _ _ r n).trans ((memory_at m c t _ r R (fun k => lower_eq m c t r k R hR) _ n 0).1.trans (congrArg _ e.symm))
  · obtain ⟨r, n, rfl⟩ : ∃ (r : Fin 256) (n : Fin 512), x = ix2 r n := ⟨x 0, x 1, eq_ix2 x⟩
    obtain ⟨R, hR, e⟩ := place8 t y (r.val) ⟨512 + n.val, by omega⟩ h0 h1
    exact (memory_v_upper _ _ _ r n).trans ((memory_at m c t _ r R (fun k => upper_eq m c t r k R hR) _ 0 n).2.2.trans (congrArg _ e.symm))
  · obtain ⟨r, n, rfl⟩ : ∃ (r : Fin 256) (n : Fin 256), x = ix2 r n := ⟨x 0, x 1, eq_ix2 x⟩
    obtain ⟨R, hR, e⟩ := place8 t y (r.val) ⟨256 + n.val, by omega⟩ h0 h1
    exact (memory_k_upper _ _ _ r n).trans ((memory_at m c t _ r R (fun k => upper_eq m c t r k R hR) _ n 0).2.1.trans (congrArg _ e.symm))
  · obtain ⟨r, n, rfl⟩ : ∃ (r : Fin 256) (n : Fin 256), x = ix2 r n := ⟨x 0, x 1, eq_ix2 x⟩
    obtain ⟨R, hR, e⟩ := place8 t y (r.val) ⟨n.val, by omega⟩ h0 h1
    exact (memory_q_upper _ _ _ r n).trans ((memory_at m c t _ r R (fun k => upper_eq m c t r k R hR) _ n 0).1.trans (congrArg _ e.symm))

/-- The array of the matrix memory's input after the run. -/
theorem final8 : (dats m 0 c).arrAt 8 (cfgs 0).N = memory m c := by
  refine (dats m 0 c).arrAt_eq_of_covers 8 _ (by decide +kernel) fun t _ y => ?_
  blk_simp
  rw [after0_8]
  exact point8 m c t y

/-- Row `p`, lane `n` of grid point `t`'s block of the gates' logits is an entry of row `512 t + p`. -/
theorem place9 (t : Fin cfg0.N) (y : S512x128.Idx) (p : ℕ) (n : Fin 128) (h0 : (y 0).val = p) (h1 : (y 1).val = n.val) :
    ∃ R : Fin 8192, R.val = t.val * 512 + p ∧ ((cfg0.win 9).blk t).view.emb y = ix2 R n := by
  have ht := point_lt t
  have hy : (y 0).val < 512 := (y 0).isLt
  obtain ⟨n, hn⟩ := n
  dsimp only at h1
  subst h0 h1
  exact ⟨⟨t.val * 512 + (y 0).val, by omega⟩, rfl, by blk_ext [idx t]⟩

/-- What one grid point computes of the gates' logits. -/
theorem point9 (t : Fin cfg0.N) (y : S512x128.Idx) :
    (outsAt0 m c t).2.1 y = gates m c (((cfg0.win 9).blk t).view.emb y) := by
  unfold outsAt0
  dsimp only
  frame_out
  canon_tiles x h
  · obtain ⟨r, n, rfl⟩ : ∃ (r : Fin 256) (n : Fin 128), x = ix2 r n := ⟨x 0, x 1, eq_ix2 x⟩
    obtain ⟨R, hR, e⟩ := place9 t y (256 + r.val) n h0 h1
    exact (gates_lower _ _ _ _ _ _ r n).trans ((gates_at m c t _ r R (fun k => lower_eq m c t r k R hR) _ n _ rfl).trans (congrArg _ e.symm))
  · obtain ⟨r, n, rfl⟩ : ∃ (r : Fin 256) (n : Fin 128), x = ix2 r n := ⟨x 0, x 1, eq_ix2 x⟩
    obtain ⟨R, hR, e⟩ := place9 t y (r.val) n h0 h1
    exact (gates_upper _ _ _ _ r n).trans ((gates_at m c t _ r R (fun k => upper_eq m c t r k R hR) _ n _ rfl).trans (congrArg _ e.symm))

/-- The array of the gates' logits after the run. -/
theorem final9 : (dats m 0 c).arrAt 9 (cfgs 0).N = gates m c := by
  refine (dats m 0 c).arrAt_eq_of_covers 9 _ (by decide +kernel) fun t _ y => ?_
  blk_simp
  rw [after0_9]
  exact point9 m c t y

/-- Row `p`, lane `n` of grid point `t`'s block of the neighbourhood attention's queries, keys and values is an entry of row `512 t + p`. -/
theorem place10 (t : Fin cfg0.N) (y : S512x768.Idx) (p : ℕ) (n : Fin 768) (h0 : (y 0).val = p) (h1 : (y 1).val = n.val) :
    ∃ R : Fin 8192, R.val = t.val * 512 + p ∧ ((cfg0.win 10).blk t).view.emb y = ix2 R n := by
  have ht := point_lt t
  have hy : (y 0).val < 512 := (y 0).isLt
  obtain ⟨n, hn⟩ := n
  dsimp only at h1
  subst h0 h1
  exact ⟨⟨t.val * 512 + (y 0).val, by omega⟩, rfl, by blk_ext [idx t]⟩

/-- What one grid point computes of the neighbourhood attention's queries, keys and values. -/
theorem point10 (t : Fin cfg0.N) (y : S512x768.Idx) :
    (outsAt0 m c t).2.2.1 y = na m c (((cfg0.win 10).blk t).view.emb y) := by
  unfold outsAt0
  dsimp only
  frame_out
  canon_tiles x h
  · obtain ⟨r, n, rfl⟩ : ∃ (r : Fin 256) (n : Fin 256), x = ix2 r n := ⟨x 0, x 1, eq_ix2 x⟩
    obtain ⟨R, hR, e⟩ := place10 t y (256 + r.val) ⟨512 + n.val, by omega⟩ h0 h1
    exact (na_v_lower _ _ r n).trans ((dot_at m c t _ r R (fun k => lower_eq m c t r k R hR) 1024 768 _ _ _ (by dsimp only; omega)).trans ((na_ref m c R n).2.2.symm.trans (congrArg _ e.symm)))
  · obtain ⟨r, n, rfl⟩ : ∃ (r : Fin 256) (n : Fin 256), x = ix2 r n := ⟨x 0, x 1, eq_ix2 x⟩
    obtain ⟨R, hR, e⟩ := place10 t y (256 + r.val) ⟨256 + n.val, by omega⟩ h0 h1
    exact (na_k_lower _ _ _ r n).trans ((na_k_at m c t _ r R (fun k => lower_eq m c t r k R hR) _ _ n).trans ((na_ref m c R n).2.1.symm.trans (congrArg _ e.symm)))
  · obtain ⟨r, n, rfl⟩ : ∃ (r : Fin 256) (n : Fin 256), x = ix2 r n := ⟨x 0, x 1, eq_ix2 x⟩
    obtain ⟨R, hR, e⟩ := place10 t y (256 + r.val) ⟨n.val, by omega⟩ h0 h1
    exact (na_q_lower _ _ _ r n).trans ((na_q_at m c t _ r R (fun k => lower_eq m c t r k R hR) _ _ n).trans ((na_ref m c R n).1.symm.trans (congrArg _ e.symm)))
  · obtain ⟨r, n, rfl⟩ : ∃ (r : Fin 256) (n : Fin 256), x = ix2 r n := ⟨x 0, x 1, eq_ix2 x⟩
    obtain ⟨R, hR, e⟩ := place10 t y (r.val) ⟨512 + n.val, by omega⟩ h0 h1
    exact (na_v_upper _ _ r n).trans ((dot_at m c t _ r R (fun k => upper_eq m c t r k R hR) 1024 768 _ _ _ (by dsimp only; omega)).trans ((na_ref m c R n).2.2.symm.trans (congrArg _ e.symm)))
  · obtain ⟨r, n, rfl⟩ : ∃ (r : Fin 256) (n : Fin 256), x = ix2 r n := ⟨x 0, x 1, eq_ix2 x⟩
    obtain ⟨R, hR, e⟩ := place10 t y (r.val) ⟨256 + n.val, by omega⟩ h0 h1
    exact (na_k_upper _ _ _ r n).trans ((na_k_at m c t _ r R (fun k => upper_eq m c t r k R hR) _ _ n).trans ((na_ref m c R n).2.1.symm.trans (congrArg _ e.symm)))
  · obtain ⟨r, n, rfl⟩ : ∃ (r : Fin 256) (n : Fin 256), x = ix2 r n := ⟨x 0, x 1, eq_ix2 x⟩
    obtain ⟨R, hR, e⟩ := place10 t y (r.val) ⟨n.val, by omega⟩ h0 h1
    exact (na_q_upper _ _ _ r n).trans ((na_q_at m c t _ r R (fun k => upper_eq m c t r k R hR) _ _ n).trans ((na_ref m c R n).1.symm.trans (congrArg _ e.symm)))

/-- The array of the neighbourhood attention's queries, keys and values after the run. -/
theorem final10 : (dats m 0 c).arrAt 10 (cfgs 0).N = na m c := by
  refine (dats m 0 c).arrAt_eq_of_covers 10 _ (by decide +kernel) fun t _ y => ?_
  blk_simp
  rw [after0_10]
  exact point10 m c t y

/-- Row `p`, lane `n` of grid point `t`'s block of the gated recurrence's input is an entry of row `512 t + p`. -/
theorem place11 (t : Fin cfg0.N) (y : S512x512.Idx) (p : ℕ) (n : Fin 512) (h0 : (y 0).val = p) (h1 : (y 1).val = n.val) :
    ∃ R : Fin 8192, R.val = t.val * 512 + p ∧ ((cfg0.win 11).blk t).view.emb y = ix2 R n := by
  have ht := point_lt t
  have hy : (y 0).val < 512 := (y 0).isLt
  obtain ⟨n, hn⟩ := n
  dsimp only at h1
  subst h0 h1
  exact ⟨⟨t.val * 512 + (y 0).val, by omega⟩, rfl, by blk_ext [idx t]⟩

/-- What one grid point computes of the gated recurrence's input. -/
theorem point11 (t : Fin cfg0.N) (y : S512x512.Idx) :
    (outsAt0 m c t).2.2.2.1 y = recurrence m c (((cfg0.win 11).blk t).view.emb y) := by
  unfold outsAt0
  dsimp only
  frame_out
  canon_tiles x h
  · obtain ⟨r, n, rfl⟩ : ∃ (r : Fin 256) (n : Fin 512), x = ix2 r n := ⟨x 0, x 1, eq_ix2 x⟩
    obtain ⟨R, hR, e⟩ := place11 t y (256 + r.val) n h0 h1
    exact (recurrence_lower _ _ r n).trans ((recurrence_at m c t _ r R (fun k => lower_eq m c t r k R hR) _ n).trans (congrArg _ e.symm))
  · obtain ⟨r, n, rfl⟩ : ∃ (r : Fin 256) (n : Fin 512), x = ix2 r n := ⟨x 0, x 1, eq_ix2 x⟩
    obtain ⟨R, hR, e⟩ := place11 t y (r.val) n h0 h1
    exact (recurrence_upper _ _ r n).trans ((recurrence_at m c t _ r R (fun k => upper_eq m c t r k R hR) _ n).trans (congrArg _ e.symm))

/-- The array of the gated recurrence's input after the run. -/
theorem final11 : (dats m 0 c).arrAt 11 (cfgs 0).N = recurrence m c := by
  refine (dats m 0 c).arrAt_eq_of_covers 11 _ (by decide +kernel) fun t _ y => ?_
  blk_simp
  rw [after0_11]
  exact point11 m c t y

/-- Row `p`, lane `n` of grid point `t`'s block of the differential attention's queries, keys and values is an entry of row `512 t + p`. -/
theorem place12 (t : Fin cfg0.N) (y : S512x768.Idx) (p : ℕ) (n : Fin 768) (h0 : (y 0).val = p) (h1 : (y 1).val = n.val) :
    ∃ R : Fin 8192, R.val = t.val * 512 + p ∧ ((cfg0.win 12).blk t).view.emb y = ix2 R n := by
  have ht := point_lt t
  have hy : (y 0).val < 512 := (y 0).isLt
  obtain ⟨n, hn⟩ := n
  dsimp only at h1
  subst h0 h1
  exact ⟨⟨t.val * 512 + (y 0).val, by omega⟩, rfl, by blk_ext [idx t]⟩

/-- What one grid point computes of the differential attention's queries, keys and values. -/
theorem point12 (t : Fin cfg0.N) (y : S512x768.Idx) :
    (outsAt0 m c t).2.2.2.2 y = df m c (((cfg0.win 12).blk t).view.emb y) := by
  unfold outsAt0
  dsimp only
  frame_out
  canon_tiles x h
  · obtain ⟨r, n, rfl⟩ : ∃ (r : Fin 256) (n : Fin 256), x = ix2 r n := ⟨x 0, x 1, eq_ix2 x⟩
    obtain ⟨R, hR, e⟩ := place12 t y (256 + r.val) ⟨512 + n.val, by omega⟩ h0 h1
    exact (df_v_lower _ _ r n).trans ((dot_at m c t _ r R (fun k => lower_eq m c t r k R hR) 2304 768 _ _ _ (by dsimp only; omega)).trans ((df_ref m c R n).2.2.symm.trans (congrArg _ e.symm)))
  · obtain ⟨r, n, rfl⟩ : ∃ (r : Fin 256) (n : Fin 256), x = ix2 r n := ⟨x 0, x 1, eq_ix2 x⟩
    obtain ⟨R, hR, e⟩ := place12 t y (256 + r.val) ⟨256 + n.val, by omega⟩ h0 h1
    exact (turned_k_at m c t _ r n 256 (by omega) _ R (by omega)
      (fun k => (df_k_lower _ _ _ r k).trans (df_k_at m c t _ r R (fun k => lower_eq m c t r k R hR) _ _ k))).trans ((df_ref m c R n).2.1.symm.trans (congrArg _ e.symm))
  · obtain ⟨r, n, rfl⟩ : ∃ (r : Fin 256) (n : Fin 256), x = ix2 r n := ⟨x 0, x 1, eq_ix2 x⟩
    obtain ⟨R, hR, e⟩ := place12 t y (256 + r.val) ⟨n.val, by omega⟩ h0 h1
    exact (turned_q_at m c t _ r n 256 (by omega) _ R (by omega)
      (fun k => (df_q_lower _ _ _ r k).trans (df_q_at m c t _ r R (fun k => lower_eq m c t r k R hR) _ _ k))).trans ((df_ref m c R n).1.symm.trans (congrArg _ e.symm))
  · obtain ⟨r, n, rfl⟩ : ∃ (r : Fin 256) (n : Fin 256), x = ix2 r n := ⟨x 0, x 1, eq_ix2 x⟩
    obtain ⟨R, hR, e⟩ := place12 t y (r.val) ⟨512 + n.val, by omega⟩ h0 h1
    exact (df_v_upper _ _ r n).trans ((dot_at m c t _ r R (fun k => upper_eq m c t r k R hR) 2304 768 _ _ _ (by dsimp only; omega)).trans ((df_ref m c R n).2.2.symm.trans (congrArg _ e.symm)))
  · obtain ⟨r, n, rfl⟩ : ∃ (r : Fin 256) (n : Fin 256), x = ix2 r n := ⟨x 0, x 1, eq_ix2 x⟩
    obtain ⟨R, hR, e⟩ := place12 t y (r.val) ⟨256 + n.val, by omega⟩ h0 h1
    exact (turned_k_at m c t _ r n 0 (by omega) _ R (by omega)
      (fun k => (df_k_upper _ _ _ r k).trans (df_k_at m c t _ r R (fun k => upper_eq m c t r k R hR) _ _ k))).trans ((df_ref m c R n).2.1.symm.trans (congrArg _ e.symm))
  · obtain ⟨r, n, rfl⟩ : ∃ (r : Fin 256) (n : Fin 256), x = ix2 r n := ⟨x 0, x 1, eq_ix2 x⟩
    obtain ⟨R, hR, e⟩ := place12 t y (r.val) ⟨n.val, by omega⟩ h0 h1
    exact (turned_q_at m c t _ r n 0 (by omega) _ R (by omega)
      (fun k => (df_q_upper _ _ _ r k).trans (df_q_at m c t _ r R (fun k => upper_eq m c t r k R hR) _ _ k))).trans ((df_ref m c R n).1.symm.trans (congrArg _ e.symm))

/-- The array of the differential attention's queries, keys and values after the run. -/
theorem final12 : (dats m 0 c).arrAt 12 (cfgs 0).N = df m c := by
  refine (dats m 0 c).arrAt_eq_of_covers 12 _ (by decide +kernel) fun t _ y => ?_
  blk_simp
  rw [after0_12]
  exact point12 m c t y

end Cert.Kernel6Ideal.Proj
-- ==== Proof.LatentProjClaim.lean ====
/- The latent stream's input projection: the algebraic claim, kernel against reference. -/
module

public import proofs.«01_k».proof.Defs
public import proofs.«01_k».proof.Proof.LatentProjValue
public import proofs.«01_k».proof.Proof.Gen.Reference6Ideal.Run
public import proofs.«01_k».proof.Proof.Gen.Reference6Ideal.Read
public import Idealize.ShloMosaic.Lib.Claim

@[expose] public section

set_option maxRecDepth 16384

noncomputable section

open Idealize.ShloMosaic Idealize.ShloMosaic.TcCoe Idealize.SL.Sem

namespace Cert.Proof

set_option maxHeartbeats 4000000 in
/-- From equal arguments the idealized kernel and the idealized reference end with five equal results: the recurrences' inputs, the
    gates' logits and the two attentions' queries, keys and values, whatever the arguments hold. -/
theorem latent_projection_algebraic : Cert.algebraic_Kernel6Ideal_Reference6Ideal (hKernel6Ideal := Cert.Kernel6Ideal.Gen.facts)
    (hReference6Ideal := Cert.Reference6Ideal.Gen.facts) := by
  pair_intro
  · run_from Cert.Kernel6Ideal.Gen.run_main m g
  · run_from Cert.Reference6Ideal.Value.run m' g'
    all_goals obtain ⟨e0, e1, e2, e3, e4, e5, e6, e7⟩ := hagree c
    all_goals replace e0 : StableHlo.launchContents m' c (Proc.devRef .tc Cert.Reference6Ideal.main_arg0) = _ := e0
    all_goals replace e1 : StableHlo.launchContents m' c (Proc.devRef .tc Cert.Reference6Ideal.main_arg1) = _ := e1
    all_goals replace e2 : StableHlo.launchContents m' c (Proc.devRef .tc Cert.Reference6Ideal.main_arg2) = _ := e2
    all_goals replace e3 : StableHlo.launchContents m' c (Proc.devRef .tc Cert.Reference6Ideal.main_arg3) = _ := e3
    all_goals replace e4 : StableHlo.launchContents m' c (Proc.devRef .tc Cert.Reference6Ideal.main_arg4) = _ := e4
    all_goals replace e5 : StableHlo.launchContents m' c (Proc.devRef .tc Cert.Reference6Ideal.main_arg5) = _ := e5
    all_goals replace e6 : StableHlo.launchContents m' c (Proc.devRef .tc Cert.Reference6Ideal.main_arg6) = _ := e6
    all_goals replace e7 : StableHlo.launchContents m' c (Proc.devRef .tc Cert.Reference6Ideal.main_arg7) = _ := e7
    · refine (Cert.Reference6Ideal.Read.val_main_v44_eq _).trans ?_
      rw [e0, e1, e2, e3]
      exact (Cert.Kernel6Ideal.Proj.final8 m c).symm
    · refine (Cert.Reference6Ideal.Read.val_main_v38_eq _).trans ?_
      rw [e0, e1, e2, e3, e4]
      exact (Cert.Kernel6Ideal.Proj.final9 m c).symm
    · refine (Cert.Reference6Ideal.Read.val_main_v124_eq _).trans ?_
      rw [e0, e1, e2, e3, e5]
      exact (Cert.Kernel6Ideal.Proj.final10 m c).symm
    · refine (Cert.Reference6Ideal.Read.val_main_v125_eq _).trans ?_
      rw [e0, e1, e2, e3]
      exact (Cert.Kernel6Ideal.Proj.final11 m c).symm
    · refine (Cert.Reference6Ideal.Read.val_main_v189_eq _).trans ?_
      rw [e0, e1, e2, e3, e5, e6, e7]
      exact (Cert.Kernel6Ideal.Proj.final12 m c).symm

end Cert.Proof
-- ==== Proof.CtxPre.lean ====
/- The precondition of the context's two attentions, decoded: every entry of the seven arguments is a real number. -/
module

public import proofs.«01_k».proof.Proof.Gen.Pre_finite7
public import proofs.«01_k».proof.Proof.DfPre

@[expose] public section

set_option maxRecDepth 16384

noncomputable section

open Idealize.ShloMosaic

namespace Cert.Pre_finite7.Attn
open Cert.Pre_finite7 Cert.Pre_finite7.Gen
open Cert.Pre_finite.Df (both inf_word real_of_abs)

instance : Subsingleton S_.Idx := ⟨fun a b => funext fun i => i.elim0⟩

/-- Where the precondition holds, no entry of any argument is infinite. -/
theorem entries [Facts] (x0 x1 : S8192x256.Idx → EReal) (x2 x3 x4 x5 : S32x2x256x256.Idx → EReal) (x6 : S4x32.Idx → EReal)
    (h : Cert.Pre_finite7.fn (F := Ideal) x0 x1 x2 x3 x4 x5 x6 = fun _ => 1#1) :
    (∀ y, x0 y ≠ ⊤ ∧ x0 y ≠ ⊥) ∧ (∀ y, x1 y ≠ ⊤ ∧ x1 y ≠ ⊥) ∧ (∀ y, x2 y ≠ ⊤ ∧ x2 y ≠ ⊥) ∧ (∀ y, x3 y ≠ ⊤ ∧ x3 y ≠ ⊥)
      ∧ (∀ y, x4 y ≠ ⊤ ∧ x4 y ≠ ⊥) ∧ (∀ y, x5 y ≠ ⊤ ∧ x5 y ≠ ⊥) ∧ (∀ y, x6 y ≠ ⊤ ∧ x6 y ≠ ⊥) := by
  have e := congrFun h (Shape.Idx.first Facts.h_S_)
  unfold Cert.Pre_finite7.fn Cert.Pre_finite7.fn_part1 at e
  obtain ⟨e, e6⟩ := both _ _ e
  obtain ⟨e, e5⟩ := both _ _ e
  obtain ⟨e, e4⟩ := both _ _ e
  obtain ⟨e, e3⟩ := both _ _ e
  obtain ⟨e, e2⟩ := both _ _ e
  obtain ⟨e0, e1⟩ := both _ _ e
  have k0 := Host.reduce_andi_all _ _ _ _ _ e0
  have k1 := Host.reduce_andi_all _ _ _ _ _ e1
  have k2 := Host.reduce_andi_all _ _ _ _ _ e2
  have k3 := Host.reduce_andi_all _ _ _ _ _ e3
  have k4 := Host.reduce_andi_all _ _ _ _ _ e4
  have k5 := Host.reduce_andi_all _ _ _ _ _ e5
  have k6 := Host.reduce_andi_all _ _ _ _ _ e6
  refine ⟨fun y => real_of_abs _ ?_, fun y => real_of_abs _ ?_, fun y => real_of_abs _ ?_, fun y => real_of_abs _ ?_,
    fun y => real_of_abs _ ?_, fun y => real_of_abs _ ?_, fun y => real_of_abs _ ?_⟩ <;> rw [← inf_word]
  · exact k0 y
  · exact k1 y
  · exact k2 y
  · exact k3 y
  · exact k4 y
  · exact k5 y
  · exact k6 y

/-- Two stacks of matrices of real numbers, read by natural numbers. -/
theorem table4 {a b d e : ℕ} (ha : 0 < a) (hb : 0 < b) (hd : 0 < d) (he : 0 < e) (x : (⟨4, ![a, b, d, e]⟩ : Shape).Idx → EReal)
    (h : ∀ y, x y ≠ ⊤ ∧ x y ≠ ⊥) : ∃ X : ℕ → ℕ → ℕ → ℕ → ℝ, ∀ y, x y = ((X (y 0) (y 1) (y 2) (y 3) : ℝ) : EReal) := by
  obtain ⟨g, hg⟩ := Cert.Softmax.lift_real x h
  refine ⟨fun i j k l => g (ix4 ⟨i % a, Nat.mod_lt _ ha⟩ ⟨j % b, Nat.mod_lt _ hb⟩ ⟨k % d, Nat.mod_lt _ hd⟩ ⟨l % e, Nat.mod_lt _ he⟩), fun y => ?_⟩
  rw [hg]
  refine congrArg _ (congrArg g ?_)
  rw [eq_ix4 y]
  congr 1
  · exact Fin.ext (Nat.mod_eq_of_lt (y 0).isLt).symm
  · exact Fin.ext (Nat.mod_eq_of_lt (y 1).isLt).symm
  · exact Fin.ext (Nat.mod_eq_of_lt (y 2).isLt).symm
  · exact Fin.ext (Nat.mod_eq_of_lt (y 3).isLt).symm

end Cert.Pre_finite7.Attn
-- ==== Proof.CtxReals.lean ====
/- The context's two attentions as real mathematics: softmax-weighted sums over one list of keys. -/
module

public import proofs.«01_k».proof.Proof.AttnReal

@[expose] public section

noncomputable section

open Idealize.ShloMosaic

namespace Cert.Softmax

/-- The quotient over one list does not change when one number is subtracted from every score. -/
theorem attn1_shift {ι : Type} [Fintype ι] (s v : ι → ℝ) (M : ℝ) : attn1 (fun i => s i - M) v = attn1 s v := by
  unfold attn1
  simp only [Real.exp_sub, div_mul_eq_mul_div]
  rw [← Finset.sum_div, ← Finset.sum_div]
  exact div_div_div_cancel_right₀ (Real.exp_pos M).ne' _ _

/-- Powers of two of the scores less a finite number, against the values and against ones: the softmax-weighted sum of the
    scores read in base `e`. -/
theorem one_group {ι : Type} [Fintype ι] [Nonempty ι] (s v : ι → ℝ) (M : ℝ) :
    Ideal.div (∑ i, Ideal.exp2 ((s i : EReal) - (M : EReal)) * (v i : EReal)) (∑ i, Ideal.exp2 ((s i : EReal) - (M : EReal)))
      = ((attn1 (fun i => s i * Real.log 2) v : ℝ) : EReal) := by
  rw [← attn1_shift _ _ (M * Real.log 2)]
  simp only [← EReal.coe_sub, exp2_coe, ← EReal.coe_mul, sum_coe, sub_mul]
  have hp : 0 < ∑ i, Real.exp (s i * Real.log 2 - M * Real.log 2) :=
    Finset.sum_pos (fun i _ => Real.exp_pos _) Finset.univ_nonempty
  rw [div_coe _ _ hp.ne']
  rfl

/-- One head of the kernel over one list of keys: scores of a scaled query, their maximum, and the quotient of the two sums,
    is the softmax-weighted sum of the scores scaled by `c · log 2`. -/
theorem component1 (w n : ℕ) [NeZero n] (c : ℝ) (q : Fin w → ℝ) (k : Fin n → Fin w → ℝ) (v : Fin n → ℝ) :
    Ideal.div
      (∑ x, Ideal.exp2 (∑ i, (q i : EReal) * (c : EReal) * (k x i : EReal)
          - Finset.fold max ⊥ (fun x => ∑ i, (q i : EReal) * (c : EReal) * (k x i : EReal)) Finset.univ) * (v x : EReal))
      (∑ x, Ideal.exp2 (∑ i, (q i : EReal) * (c : EReal) * (k x i : EReal)
          - Finset.fold max ⊥ (fun x => ∑ i, (q i : EReal) * (c : EReal) * (k x i : EReal)) Finset.univ))
      = ((attn1 (fun x => (∑ i, q i * k x i) * (c * Real.log 2)) v : ℝ) : EReal) := by
  simp only [← EReal.coe_mul, sum_coe]
  obtain ⟨M, hM⟩ := max_real fun x => ∑ i, q i * c * k x i
  rw [hM, one_group]
  have e : ∀ (z : Fin w → ℝ), (∑ i, q i * c * z i) * Real.log 2 = (∑ i, q i * z i) * (c * Real.log 2) := fun z => by
    rw [← mul_assoc, Finset.sum_mul (f := fun i => q i * z i)]
    exact congrArg (· * Real.log 2) (Finset.sum_congr rfl fun i _ => by ring)
  simp only [e]

/-- One softmax weight over a list, times the values: the sum over the list. -/
theorem weighted {ι : Type} [Fintype ι] (s v : ι → ℝ) : ∑ i, v i * (Real.exp (s i) / ∑ k, Real.exp (s k)) = attn1 s v := by
  unfold attn1
  rw [Finset.sum_div]
  exact Finset.sum_congr rfl fun i _ => by ring

/-- The score of row `row` of the queries `X`, in the `w` lanes from `o` on, against key `j` of the row's request (256 rows
    each) in the first layer's cache `K`, scaled by one over the root of `w`. -/
def ctxScore (X : ℕ → ℕ → ℝ) (K : ℕ → ℕ → ℕ → ℕ → ℝ) (w row o j : ℕ) : ℝ :=
  (∑ i : Fin w, X row (o + i) * K (row / 256) 0 j (o + i)) * (Real.sqrt w)⁻¹

/-- The softmax over the request's 256 keys of these scores, applied to lane `col` of the first layer's cached values `V`. -/
def ctxHead (X : ℕ → ℕ → ℝ) (K V : ℕ → ℕ → ℕ → ℕ → ℝ) (w row o col : ℕ) : ℝ :=
  attn1 (fun j : Fin 256 => ctxScore X K w row o j) fun j => V (row / 256) 0 j col

/-- The context's softmax attention at row `row` and lane `col`: heads of 64 lanes. -/
def ctxDense (X : ℕ → ℕ → ℝ) (K V : ℕ → ℕ → ℕ → ℕ → ℝ) (row col : ℕ) : ℝ :=
  ctxHead X K V 64 row (col / 64 * 64) col

/-- The context's differential attention: of a head's two components of 32 lanes the first, less `l` times the second. -/
def ctxDiff (X : ℕ → ℕ → ℝ) (K V : ℕ → ℕ → ℕ → ℕ → ℝ) (l : ℝ) (row col : ℕ) : ℝ :=
  ctxHead X K V 32 row (col / 64 * 64) col - l * ctxHead X K V 32 row (col / 64 * 64 + 32) col

end Cert.Softmax
-- ==== Proof.CtxValue.lean ====
/- The context's two attentions, kernel side: what one grid point reads and stores, and what the two result arrays hold after
   the run. -/
module

public import proofs.«01_k».proof.Proof.Gen.Kernel7Ideal.Frame
public import proofs.«01_k».proof.Proof.CtxReals
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open Cert.Softmax

namespace Cert.Kernel7Ideal.Attn
open Cert.Kernel7Ideal Cert.Kernel7Ideal.Gen

/-- Grid point `t` reads the 256 queries of request `t`, in the first layer's half of the caches that request's keys and
    values, and writes the request's rows of both results. -/
theorem idx : ∀ t : Fin cfg0.N, win0_0.index t = ![t.val, 0] ∧ win0_1.index t = ![t.val, 0, 0, 0]
    ∧ win0_2.index t = ![t.val, 0, 0, 0] ∧ win0_3.index t = ![t.val, 0] ∧ win0_4.index t = ![t.val, 0, 0, 0]
    ∧ win0_5.index t = ![t.val, 0, 0, 0] ∧ win0_6.index t = ![0, 0] ∧ win0_7.index t = ![t.val, 0]
    ∧ win0_8.index t = ![t.val, 0] :=
  (by decide +kernel : ∀ t : Fin grid0.N, _)

/-- The arguments are the real arrays `X` and `Y` (queries of the two attentions), `KA`, `VA` and `KB`, `VB` (their caches). -/
structure Args (m : (ℓ : Loc nD τ sig) → Buf (Elt Ideal) ℓ) (c : Dev nD) (X Y : ℕ → ℕ → ℝ) (KA VA KB VB : ℕ → ℕ → ℕ → ℕ → ℝ) : Prop where
  x : ∀ y, m ((c : Thread nD τ).loc main_arg0) y = ((X (y 0) (y 1) : ℝ) : EReal)
  y : ∀ y, m ((c : Thread nD τ).loc main_arg1) y = ((Y (y 0) (y 1) : ℝ) : EReal)
  k : ∀ y, m ((c : Thread nD τ).loc main_arg2) y = ((KA (y 0) (y 1) (y 2) (y 3) : ℝ) : EReal)
  v : ∀ y, m ((c : Thread nD τ).loc main_arg3) y = ((VA (y 0) (y 1) (y 2) (y 3) : ℝ) : EReal)
  k' : ∀ y, m ((c : Thread nD τ).loc main_arg4) y = ((KB (y 0) (y 1) (y 2) (y 3) : ℝ) : EReal)
  v' : ∀ y, m ((c : Thread nD τ).loc main_arg5) y = ((VB (y 0) (y 1) (y 2) (y 3) : ℝ) : EReal)

/-- The blocks a grid point of number `n` reads for one attention: queries `q`, keys `k`, values `v`. -/
structure Reads (q : Vec Ideal S256x256 .f32) (k v : Vec Ideal S1x1x256x256 .f32) (X : ℕ → ℕ → ℝ) (KA VA : ℕ → ℕ → ℕ → ℕ → ℝ)
    (n : ℕ) : Prop where
  q : ∀ i j : Fin 256, q (ix2 i j) = ((X (n * 256 + i) j : ℝ) : EReal)
  k : ∀ i j : Fin 256, k (ix4 0 0 i j) = ((KA n 0 i j : ℝ) : EReal)
  v : ∀ i j : Fin 256, v (ix4 0 0 i j) = ((VA n 0 i j : ℝ) : EReal)

variable {m : (ℓ : Loc nD τ sig) → Buf (Elt Ideal) ℓ} {c : Dev nD} {X Y : ℕ → ℕ → ℝ} {KA VA KB VB : ℕ → ℕ → ℕ → ℕ → ℝ} {l : ℝ}

/-- What grid point `t` reads for the softmax attention. -/
theorem reads_dense (H : Args m c X Y KA VA KB VB) (t : Fin cfg0.N) : Reads (iblk m c 0 t) (iblk m c 1 t) (iblk m c 2 t) X KA VA t.val where
  q i j := by
    rw [iblk]; simp only [V]
    blk_simp
    rw [H.x]
    blk_simp [idx t]
  k i j := by
    rw [iblk]; simp only [V]
    blk_simp
    rw [H.k]
    blk_simp [idx t]
    rfl
  v i j := by
    rw [iblk]; simp only [V]
    blk_simp
    rw [H.v]
    blk_simp [idx t]
    rfl

/-- What grid point `t` reads for the differential attention. -/
theorem reads_diff (H : Args m c X Y KA VA KB VB) (t : Fin cfg0.N) : Reads (iblk m c 3 t) (iblk m c 4 t) (iblk m c 5 t) Y KB VB t.val where
  q i j := by
    rw [iblk]; simp only [V]
    blk_simp
    rw [H.y]
    blk_simp [idx t]
  k i j := by
    rw [iblk]; simp only [V]
    blk_simp
    rw [H.k']
    blk_simp [idx t]
    rfl
  v i j := by
    rw [iblk]; simp only [V]
    blk_simp
    rw [H.v']
    blk_simp [idx t]
    rfl

end Cert.Kernel7Ideal.Attn
-- ==== Proof.CtxStored.lean ====
/- The context's two attentions: what one grid point stores, head by head. -/
module

public import proofs.«01_k».proof.Proof.CtxValue

@[expose] public section

set_option maxRecDepth 16384

noncomputable section

open Idealize.ShloMosaic Idealize.ShloMosaic.TcCoe Idealize.SL.Sem
open Cert.Softmax

namespace Cert.Kernel7Ideal.Attn
open Cert.Kernel7Ideal Cert.Kernel7Ideal.Gen

variable {X Y : ℕ → ℕ → ℝ} {KA VA KB VB : ℕ → ℕ → ℕ → ℕ → ℝ} {l : ℝ}

/-- The softmax attention's named constant is one over the root of 64 times one over the logarithm of 2. -/
theorem scale_dense : (Named.named (F := Ideal) (φ := .f32) κ "na_qs" 0x3E38AA3B#32 : EReal) = (((Real.sqrt 64)⁻¹ * (Real.log 2)⁻¹ : ℝ) : EReal) :=
  IdealRules.named_const.ideal_named_scalar _ _ _ _ rfl

/-- The differential attention's is one over the root of 32 times one over the logarithm of 2. -/
theorem scale_diff : (Named.named (F := Ideal) (φ := .f32) κ "df_qs" 0x3E8293EE#32 : EReal) = (((Real.sqrt 32)⁻¹ * (Real.log 2)⁻¹ : ℝ) : EReal) :=
  IdealRules.named_const.ideal_named_scalar _ _ _ _ rfl

/-- Such a constant's logarithm of 2 cancels against the base of the exponential. -/
theorem scale_log (a : ℝ) : a * (Real.log 2)⁻¹ * Real.log 2 = a := by
  rw [mul_assoc, inv_mul_cancel₀ (Real.log_pos one_lt_two).ne', mul_one]

/-- A lane of 256 lies in one of four heads of 64; with the head's first lane. -/
theorem lane_cases (q : Fin 256) : (q.val / 64 * 64 = 0 ∧ ∃ d : Fin 64, q = ⟨d.val, by omega⟩)
    ∨ (q.val / 64 * 64 = 64 ∧ ∃ d : Fin 64, q = ⟨64 + d.val, by omega⟩)
    ∨ (q.val / 64 * 64 = 128 ∧ ∃ d : Fin 64, q = ⟨128 + d.val, by omega⟩)
    ∨ (q.val / 64 * 64 = 192 ∧ ∃ d : Fin 64, q = ⟨192 + d.val, by omega⟩) := by
  have hq := q.isLt
  rcases (by omega : q.val < 64 ∨ (64 ≤ q.val ∧ q.val < 128) ∨ (128 ≤ q.val ∧ q.val < 192) ∨ 192 ≤ q.val) with h | h | h | h
  · exact .inl ⟨by omega, ⟨q.val, h⟩, rfl⟩
  · exact .inr (.inl ⟨by omega, ⟨q.val - 64, by omega⟩, Fin.ext (by simp only; omega)⟩)
  · exact .inr (.inr (.inl ⟨by omega, ⟨q.val - 128, by omega⟩, Fin.ext (by simp only; omega)⟩))
  · exact .inr (.inr (.inr ⟨by omega, ⟨q.val - 192, by omega⟩, Fin.ext (by simp only; omega)⟩))

/-- A lane past the first head, the second and the third, less a head. -/
theorem past (d : Fin 64) : 192 + d.val - 64 = 128 + d.val ∧ 128 + d.val - 64 = 64 + d.val ∧ 64 + d.val - 64 = d.val
    ∧ ¬ 192 + d.val < 64 ∧ ¬ 128 + d.val < 64 ∧ ¬ 64 + d.val < 64 ∧ d.val < 64 :=
  ⟨by omega, by omega, by omega, by omega, by omega, by omega, d.isLt⟩

set_option maxHeartbeats 40000000 in
/-- What one grid point stores of the softmax attention, in every row of its block and every lane; one head after the other. -/
theorem dense_eq {x0 x3 : Vec Ideal S256x256 .f32} {x1 x2 x4 x5 : Vec Ideal S1x1x256x256 .f32} {x6 : Vec Ideal S4x32 .f32} {n : ℕ}
    (H : Reads x0 x1 x2 X KA VA n) (r q : Fin 256) :
    out0_7 x0 x1 x2 x3 x4 x5 x6 (ix2 r q) = ((ctxDense X KA VA (n * 256 + r) q : ℝ) : EReal) := by
  obtain ⟨e0, e1, e2⟩ := H
  have b : (n * 256 + r.val) / 256 = n := by omega
  unfold_out out0_7
  canon_tiles x h
  obtain rfl : x = ix2 r q := (eq_ix2 x).trans (congrArg₂ ix2 (Fin.ext h0.symm) (Fin.ext h1.symm))
  clear h0 h1
  rcases lane_cases q with ⟨o, d, rfl⟩ | ⟨o, d, rfl⟩ | ⟨o, d, rfl⟩ | ⟨o, d, rfl⟩
  all_goals
    dsimp only at o
    obtain ⟨p1, p2, p3, p4, p5, p6, p7⟩ := past d
    open_payloads
    pointwise []
    simp only [e0, e1, e2, scale_dense, negInf, exp2_def, p1, p2, p3, p4, p5, p6, p7, ↓reduceDIte]
    rw [component1, scale_log]
    unfold ctxDense ctxHead ctxScore
    simp only [ix2_0, ix2_1, b, o, zero_add, Nat.reduceAdd, Nat.cast_ofNat]

set_option maxHeartbeats 40000000 in
/-- What one grid point stores of the differential attention, likewise; `l` is the second softmax's weight. -/
theorem diff_eq {x0 x3 : Vec Ideal S256x256 .f32} {x1 x2 x4 x5 : Vec Ideal S1x1x256x256 .f32} {x6 : Vec Ideal S4x32 .f32} {n : ℕ}
    (H : Reads x3 x4 x5 Y KB VB n) (hl : k0_pay3 (View.ld x6 r0_0) (ix2 0 0) = (l : EReal)) (r q : Fin 256) :
    out0_8 x0 x1 x2 x3 x4 x5 x6 (ix2 r q) = ((ctxDiff Y KB VB l (n * 256 + r) q : ℝ) : EReal) := by
  obtain ⟨e0, e1, e2⟩ := H
  have b : (n * 256 + r.val) / 256 = n := by omega
  unfold_out out0_8
  generalize k0_pay3 (View.ld x6 r0_0) = L at hl ⊢
  canon_tiles x h
  obtain rfl : x = ix2 r q := (eq_ix2 x).trans (congrArg₂ ix2 (Fin.ext h0.symm) (Fin.ext h1.symm))
  clear h0 h1
  rcases lane_cases q with ⟨o, d, rfl⟩ | ⟨o, d, rfl⟩ | ⟨o, d, rfl⟩ | ⟨o, d, rfl⟩
  all_goals
    dsimp only at o
    obtain ⟨p1, p2, p3, p4, p5, p6, p7⟩ := past d
    open_payloads
    pointwise []
    simp only [e0, e1, e2, hl, scale_diff, negInf, exp2_def, p1, p2, p3, p4, p5, p6, p7, ↓reduceDIte]
    rw [component1, component1, ← EReal.coe_mul, ← EReal.coe_sub, scale_log]
    unfold ctxDiff ctxHead ctxScore
    simp only [ix2_0, ix2_1, b, o, zero_add, Nat.reduceAdd, Nat.cast_ofNat]

end Cert.Kernel7Ideal.Attn
-- ==== Proof.CtxDenseReference.lean ====
/- The context's softmax attention, reference side: one entry of the reference's result, from real arguments. -/
module

public import proofs.«01_k».proof.Proof.Gen.Reference7Ideal.Read
public import proofs.«01_k».proof.Proof.CtxReals
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.Softmax

namespace Cert.Reference7Ideal.Attn
open Cert.Reference7Ideal Cert.Reference7Ideal.Gen Cert.Reference7Ideal.Read

/-- The arguments of one attention are the real arrays `X` (queries), `K` and `W` (both layers' keys and values). -/
structure Args (x : S8192x256.Idx → EReal) (k v : S32x2x256x256.Idx → EReal) (X : ℕ → ℕ → ℝ) (K W : ℕ → ℕ → ℕ → ℕ → ℝ) : Prop where
  x : ∀ y, x y = ((X (y 0) (y 1) : ℝ) : EReal)
  k : ∀ y, k y = ((K (y 0) (y 1) (y 2) (y 3) : ℝ) : EReal)
  v : ∀ y, v y = ((W (y 0) (y 1) (y 2) (y 3) : ℝ) : EReal)

/-- Four equal indices name one entry. -/
theorem entry (K : ℕ → ℕ → ℕ → ℕ → ℝ) {a a' b b' c c' d d' : ℕ} (ha : a = a') (hb : b = b') (hc : c = c') (hd : d = d') :
    ((K a b c d : ℝ) : EReal) = ((K a' b' c' d' : ℝ) : EReal) := by
  subst ha hb hc hd
  rfl

/-- Row `r` of request `b` belongs to that request. -/
theorem request (b : ℕ) (r : Fin 256) : (b * 256 + r.val) / 256 = b := by omega

variable {x : S8192x256.Idx → EReal} {k v : S32x2x256x256.Idx → EReal} {X : ℕ → ℕ → ℝ} {K W : ℕ → ℕ → ℕ → ℕ → ℝ}

/-- The queries, split into heads. -/
theorem queries (H : Args x k v X K W) (i : S32x256x4x64.Idx) :
    val_main_v0 (F := Ideal) x i = ((X (i 0 * 256 + i 1) (i 2 * 64 + i 3) : ℝ) : EReal) := by
  rw [val_main_v0_apply, H.x]
  have h0 : (i 0).val < 32 := (i 0).isLt
  have h1 : (i 1).val < 256 := (i 1).isLt
  have h2 : (i 2).val < 4 := (i 2).isLt
  have h3 : (i 3).val < 64 := (i 3).isLt
  refine congrArg _ (congrArg₂ X ?_ ?_)
  · change ((((i 0).val * 256 + (i 1).val) * 4 + (i 2).val) * 64 + (i 3).val) / 256 = _
    omega
  · change ((((i 0).val * 256 + (i 1).val) * 4 + (i 2).val) * 64 + (i 3).val) % 256 = _
    omega

/-- The first layer's keys, split into heads. -/
theorem keys (H : Args x k v X K W) (i : S32x256x4x64.Idx) :
    val_main_v3 (F := Ideal) k i = ((K (i 0) 0 (i 1) (i 2 * 64 + i 3) : ℝ) : EReal) := by
  rw [val_main_v3_apply, val_main_v2_apply, val_main_v1_apply, H.k]
  have h0 : (i 0).val < 32 := (i 0).isLt
  have h1 : (i 1).val < 256 := (i 1).isLt
  have h2 : (i 2).val < 4 := (i 2).isLt
  have h3 : (i 3).val < 64 := (i 3).isLt
  refine entry K ?_ rfl ?_ ?_
  all_goals
    dsimp only [idx_main_v1, idx_main_v2, idx_main_v3]
    omega

/-- The first layer's values, split into heads. -/
theorem values (H : Args x k v X K W) (i : S32x256x4x64.Idx) :
    val_main_v6 (F := Ideal) v i = ((W (i 0) 0 (i 1) (i 2 * 64 + i 3) : ℝ) : EReal) := by
  rw [val_main_v6_apply, val_main_v5_apply, val_main_v4_apply, H.v]
  have h0 : (i 0).val < 32 := (i 0).isLt
  have h1 : (i 1).val < 256 := (i 1).isLt
  have h2 : (i 2).val < 4 := (i 2).isLt
  have h3 : (i 3).val < 64 := (i 3).isLt
  refine entry W ?_ rfl ?_ ?_
  all_goals
    dsimp only [idx_main_v4, idx_main_v5, idx_main_v6]
    omega

/-- The scale of a head of 64 lanes is one over the root of 64. -/
theorem scale (i : S32x4x256x256.Idx) : val_main_v8 (F := Ideal) i = (((Real.sqrt (64 : ℕ))⁻¹ : ℝ) : EReal) := by
  have e : Ideal.ofBits .f32 0x3E000000#32 = ((8⁻¹ : ℝ) : EReal) := by
    simp [Ideal.ofBits, Ideal.ieee, -EReal.coe_mul]; norm_num
  rw [val_main_v8_apply, val_main_cst_apply]
  refine Eq.trans e ?_
  rw [show ((64 : ℕ) : ℝ) = 8 ^ 2 by norm_num, Real.sqrt_sq (by norm_num)]

/-- The reference's scores. -/
theorem scores (H : Args x k v X K W) (b : Fin 32) (h : Fin 4) (r j : Fin 256) :
    val_main_v9 (F := Ideal) x k (ix4 b h r j) = ((ctxScore X K 64 (b * 256 + r) (h * 64) j : ℝ) : EReal) := by
  rw [val_main_v9_apply, val_main_v7_apply, scale]
  simp only [queries H, keys H, ← EReal.coe_mul, sum_coe, Ideal.mulf_def]
  unfold ctxScore
  rw [request]
  rfl

/-- The number the reference subtracts from a query's scores is a real. -/
theorem maxima (H : Args x k v X K W) (b : Fin 32) (h : Fin 4) (r : Fin 256) :
    ∃ M : ℝ, val_main_v12 (F := Ideal) x k (ix3 b h r) = (M : EReal) := by
  rw [val_main_v12_apply, val_main_v11_apply, val_main_cst_1_apply]
  pointwise [val_main_v10, val_main_cst_0]
  simp only [scores H, negInf]
  obtain ⟨M, hM⟩ := max_real fun j : Fin 256 => ctxScore X K 64 (b * 256 + r) (h * 64) j
  exact ⟨M, (max_eq_right bot_le).trans hM⟩

/-- The reference's softmax weights: the exponential of a score over the sum of the exponentials of all of them. -/
theorem weights (H : Args x k v X K W) (b : Fin 32) (h : Fin 4) (r j : Fin 256) :
    val_main_v20 (F := Ideal) x k (ix4 b h r j) = ((Real.exp (ctxScore X K 64 (b * 256 + r) (h * 64) j)
      / ∑ j : Fin 256, Real.exp (ctxScore X K 64 (b * 256 + r) (h * 64) j) : ℝ) : EReal) := by
  obtain ⟨M, hM⟩ := maxima H b h r
  have u : ∀ j : Fin 256, idx_main_v13 (idx_main_v14 (ix4 b h r j)) = ix3 b h r := fun j => by
    funext a
    fin_cases a <;> rfl
  have e : ∀ j : Fin 256, val_main_v16 (F := Ideal) x k (ix4 b h r j)
      = Ideal.exp ((ctxScore X K 64 (b * 256 + r) (h * 64) j : EReal) - (M : EReal)) := fun j => by
    rw [val_main_v16_apply, val_main_v15_apply, val_main_v14_apply, val_main_v13_apply, u j, hM, scores H,
      Ideal.hostUnary_exp_def, Ideal.subf_def]
  have z : val_main_cst_2 (F := Ideal) (Shape.Idx.first h_S_) = (0 : EReal) := by
    rw [val_main_cst_2_apply]
    change Ideal.ofBits .f32 0x00000000#32 = 0
    simp [Ideal.ofBits, Ideal.ieee]
  have w : ∀ i : Fin 256, idx_main_v17 (idx_main_v18 (idx_main_v19 (ix4 b h r j))) i = ix4 b h r i := fun i => by
    funext a
    fin_cases a <;> rfl
  refine Eq.trans ?_ (weight (fun i : Fin 256 => ctxScore X K 64 (b * 256 + r) (h * 64) i) M j)
  rw [val_main_v20_apply, val_main_v19_apply, val_main_v18_apply, val_main_v17_apply, z, zero_add, Ideal.hostDivf_def]
  simp only [w, e]

/-- One entry of the reference's softmax attention: row `r` of request `b`, lane `d` of head `h`. -/
theorem dense_head (H : Args x k v X K W) (b : Fin 32) (h : Fin 4) (d : Fin 64) (r : Fin 256) :
    val_main_v21 (F := Ideal) x k v (ix4 b h d r) = ((ctxHead X K W 64 (b * 256 + r) (h * 64) (h * 64 + d) : ℝ) : EReal) := by
  have p : ∀ j : Fin 256, ridx_main_v21 (ix4 b h d r) j = ix4 b h r j := fun j => by
    funext a
    fin_cases a <;> rfl
  rw [val_main_v21_apply]
  simp only [p, weights H, values H, ← EReal.coe_mul, sum_coe]
  unfold ctxHead
  rw [← weighted, request]
  rfl

/-- Request, head, lane and row of an entry of the result. -/
theorem place (i : S8192x256.Idx) : idx_main_v22 (idx_main_v23 i)
    = ix4 ⟨(i 0).val / 256, by have := (i 0).isLt; change (i 0).val < 8192 at this; omega⟩
        ⟨(i 1).val / 64, by have := (i 1).isLt; change (i 1).val < 256 at this; omega⟩
        ⟨(i 1).val % 64, by omega⟩ ⟨(i 0).val % 256, by omega⟩ := by
  have h0 : (i 0).val < 8192 := (i 0).isLt
  have h1 : (i 1).val < 256 := (i 1).isLt
  funext a
  refine Fin.ext ?_
  fin_cases a
  · change ((i 0).val * 256 + (i 1).val) / 65536 = (i 0).val / 256
    omega
  · change ((i 0).val * 256 + (i 1).val) / 64 % 4 = (i 1).val / 64
    omega
  · change ((i 0).val * 256 + (i 1).val) % 64 = (i 1).val % 64
    omega
  · change ((i 0).val * 256 + (i 1).val) / 256 % 256 = (i 0).val % 256
    omega

/-- One entry of the reference's softmax attention, from real arguments. -/
theorem dense (H : Args x k v X K W) (i : S8192x256.Idx) :
    val_main_v72 (F := Ideal) x k v i = ((ctxDense X K W (i 0) (i 1) : ℝ) : EReal) := by
  rw [val_main_v72_apply, val_main_v23_apply, val_main_v22_apply, place, dense_head H]
  have b0 : (i 0).val / 256 * 256 + (i 0).val % 256 = (i 0).val := by omega
  have b1 : (i 1).val / 64 * 64 + (i 1).val % 64 = (i 1).val := by omega
  dsimp only
  rw [b0, b1]
  rfl

end Cert.Reference7Ideal.Attn
-- ==== Proof.CtxDiffReference.lean ====
/- The context's differential attention, reference side: one entry of the reference's result, from real arguments. -/
module

public import proofs.«01_k».proof.Proof.CtxDenseReference

@[expose] public section

set_option maxRecDepth 16384

noncomputable section

open Idealize.ShloMosaic Idealize.ShloMosaic.TcCoe Idealize.SL.Sem
open Cert.Softmax

namespace Cert.Reference7Ideal.Attn
open Cert.Reference7Ideal Cert.Reference7Ideal.Gen Cert.Reference7Ideal.Read

variable {x : S8192x256.Idx → EReal} {k v : S32x2x256x256.Idx → EReal} {X : ℕ → ℕ → ℝ} {K W : ℕ → ℕ → ℕ → ℕ → ℝ} {l : ℝ}

/-- The queries, split into heads and components. -/
theorem diff_queries (H : Args x k v X K W) (i : S32x256x4x2x32.Idx) :
    val_main_v24 (F := Ideal) x i = ((X (i 0 * 256 + i 1) (i 2 * 64 + i 3 * 32 + i 4) : ℝ) : EReal) := by
  rw [val_main_v24_apply, H.x]
  have h0 : (i 0).val < 32 := (i 0).isLt
  have h1 : (i 1).val < 256 := (i 1).isLt
  have h2 : (i 2).val < 4 := (i 2).isLt
  have h3 : (i 3).val < 2 := (i 3).isLt
  have h4 : (i 4).val < 32 := (i 4).isLt
  refine congrArg _ (congrArg₂ X ?_ ?_)
  · change (((((i 0).val * 256 + (i 1).val) * 4 + (i 2).val) * 2 + (i 3).val) * 32 + (i 4).val) / 256 = _
    omega
  · change (((((i 0).val * 256 + (i 1).val) * 4 + (i 2).val) * 2 + (i 3).val) * 32 + (i 4).val) % 256 = _
    omega

/-- The first layer's keys, split into heads and components. -/
theorem diff_keys (H : Args x k v X K W) (i : S32x256x4x2x32.Idx) :
    val_main_v27 (F := Ideal) k i = ((K (i 0) 0 (i 1) (i 2 * 64 + i 3 * 32 + i 4) : ℝ) : EReal) := by
  rw [val_main_v27_apply, val_main_v26_apply, val_main_v25_apply, H.k]
  have h0 : (i 0).val < 32 := (i 0).isLt
  have h1 : (i 1).val < 256 := (i 1).isLt
  have h2 : (i 2).val < 4 := (i 2).isLt
  have h3 : (i 3).val < 2 := (i 3).isLt
  have h4 : (i 4).val < 32 := (i 4).isLt
  refine entry K ?_ rfl ?_ ?_
  all_goals
    dsimp only [idx_main_v25, idx_main_v26, idx_main_v27]
    omega

/-- The first layer's values, split into heads. -/
theorem diff_values (H : Args x k v X K W) (i : S32x256x4x64.Idx) :
    val_main_v30 (F := Ideal) v i = ((W (i 0) 0 (i 1) (i 2 * 64 + i 3) : ℝ) : EReal) := by
  rw [val_main_v30_apply, val_main_v29_apply, val_main_v28_apply, H.v]
  have h0 : (i 0).val < 32 := (i 0).isLt
  have h1 : (i 1).val < 256 := (i 1).isLt
  have h2 : (i 2).val < 4 := (i 2).isLt
  have h3 : (i 3).val < 64 := (i 3).isLt
  refine entry W ?_ rfl ?_ ?_
  all_goals
    dsimp only [idx_main_v28, idx_main_v29, idx_main_v30]
    omega

/-- The scale, one over the root of 32. -/
theorem diff_scale (i : S32x4x2x256x256.Idx) : val_main_v49 (F := Ideal) i = (((Real.sqrt (32 : ℕ))⁻¹ : ℝ) : EReal) := by
  have e : Ideal.ofBits .f32 0x42000000#32 = ((32 : ℝ) : EReal) := by
    simp [Ideal.ofBits, Ideal.ieee, -EReal.coe_mul]; norm_num
  rw [val_main_v49_apply, val_main_v48_apply, val_main_cst_6_apply]
  change Ideal.rsqrt (Ideal.ofBits .f32 0x42000000#32) = _
  rw [e, Ideal.rsqrt_coe]
  norm_num

/-- The reference's scores, in component `s` of head `h`. -/
theorem diff_scores (H : Args x k v X K W) (b : Fin 32) (h : Fin 4) (s : Fin 2) (r j : Fin 256) :
    val_main_v50 (F := Ideal) x k (ix5 b h s r j) = ((ctxScore X K 32 (b * 256 + r) (h * 64 + s * 32) j : ℝ) : EReal) := by
  rw [val_main_v50_apply, val_main_v47_apply, diff_scale]
  simp only [diff_queries H, diff_keys H, ← EReal.coe_mul, sum_coe, Ideal.mulf_def]
  unfold ctxScore
  rw [request]
  rfl

/-- The number the reference subtracts from a query's scores is a real. -/
theorem diff_maxima (H : Args x k v X K W) (b : Fin 32) (h : Fin 4) (s : Fin 2) (r : Fin 256) :
    ∃ M : ℝ, val_main_v53 (F := Ideal) x k (ix4 b h s r) = (M : EReal) := by
  rw [val_main_v53_apply, val_main_v52_apply, val_main_cst_8_apply]
  pointwise [val_main_v51, val_main_cst_7]
  simp only [diff_scores H, negInf]
  obtain ⟨M, hM⟩ := max_real fun j : Fin 256 => ctxScore X K 32 (b * 256 + r) (h * 64 + s * 32) j
  exact ⟨M, (max_eq_right bot_le).trans hM⟩

/-- The weight of key `j` for row `r` of request `b`, in component `s` of head `h`. -/
def ctxSoft (X : ℕ → ℕ → ℝ) (K : ℕ → ℕ → ℕ → ℕ → ℝ) (b h s r : ℕ) (j : Fin 256) : ℝ :=
  Real.exp (ctxScore X K 32 (b * 256 + r) (h * 64 + s * 32) j)
    / ∑ j : Fin 256, Real.exp (ctxScore X K 32 (b * 256 + r) (h * 64 + s * 32) j)

/-- The reference's softmax weights. -/
theorem diff_weights (H : Args x k v X K W) (b : Fin 32) (h : Fin 4) (s : Fin 2) (r j : Fin 256) :
    val_main_v61 (F := Ideal) x k (ix5 b h s r j) = ((ctxSoft X K b h s r j : ℝ) : EReal) := by
  obtain ⟨M, hM⟩ := diff_maxima H b h s r
  have u : ∀ j : Fin 256, idx_main_v54 (idx_main_v55 (ix5 b h s r j)) = ix4 b h s r := fun j => by
    funext a
    fin_cases a <;> rfl
  have e : ∀ j : Fin 256, val_main_v57 (F := Ideal) x k (ix5 b h s r j)
      = Ideal.exp ((ctxScore X K 32 (b * 256 + r) (h * 64 + s * 32) j : EReal) - (M : EReal)) := fun j => by
    rw [val_main_v57_apply, val_main_v56_apply, val_main_v55_apply, val_main_v54_apply, u j, hM, diff_scores H,
      Ideal.hostUnary_exp_def, Ideal.subf_def]
  have z : val_main_cst_9 (F := Ideal) (Shape.Idx.first h_S_) = (0 : EReal) := by
    rw [val_main_cst_9_apply]
    change Ideal.ofBits .f32 0x00000000#32 = 0
    simp [Ideal.ofBits, Ideal.ieee]
  have w : ∀ i : Fin 256, idx_main_v58 (idx_main_v59 (idx_main_v60 (ix5 b h s r j))) i = ix5 b h s r i := fun i => by
    funext a
    fin_cases a <;> rfl
  refine Eq.trans ?_ (weight (fun i : Fin 256 => ctxScore X K 32 (b * 256 + r) (h * 64 + s * 32) i) M j)
  rw [val_main_v61_apply, val_main_v60_apply, val_main_v59_apply, val_main_v58_apply, z, zero_add, Ideal.hostDivf_def]
  simp only [w, e]

/-- The first component's weights. -/
theorem first (H : Args x k v X K W) (b : Fin 32) (h : Fin 4) (r j : Fin 256) :
    val_main_v63 (F := Ideal) x k (ix4 b h r j) = ((ctxSoft X K b h 0 r j : ℝ) : EReal) := by
  unfold val_main_v63
  refine (shapeCast_apply _ shapeCasts_S32x4x1x256x256_S32x4x256x256 (ix4 b h r j) (ix5 b h 0 r j) ?_).trans ?_
  · rw [Shape.rowMajor_val_five, Shape.rowMajor_val_four]
    show ((((b.val * 4 + h.val) * 1 + 0) * 256 + r.val) * 256 + j.val) = _
    rw [mul_one, add_zero]
    rfl
  · have w : idx_main_v62 (ix5 b h 0 r j) = ix5 b h 0 r j := by
      funext a
      fin_cases a <;> rfl
    rw [val_main_v62_apply, w, diff_weights H]
    rfl

/-- The second component's weights. -/
theorem second (H : Args x k v X K W) (b : Fin 32) (h : Fin 4) (r j : Fin 256) :
    val_main_v65 (F := Ideal) x k (ix4 b h r j) = ((ctxSoft X K b h 1 r j : ℝ) : EReal) := by
  unfold val_main_v65
  refine (shapeCast_apply _ shapeCasts_S32x4x1x256x256_S32x4x256x256 (ix4 b h r j) (ix5 b h 0 r j) ?_).trans ?_
  · rw [Shape.rowMajor_val_five, Shape.rowMajor_val_four]
    show ((((b.val * 4 + h.val) * 1 + 0) * 256 + r.val) * 256 + j.val) = _
    rw [mul_one, add_zero]
    rfl
  · have w : idx_main_v64 (ix5 b h 0 r j) = ix5 b h 1 r j := by
      funext a
      fin_cases a <;> rfl
    rw [val_main_v64_apply, w, diff_weights H]
    rfl

/-- The sum of weighted values over all keys, by components. -/
theorem collect (X : ℕ → ℕ → ℝ) (K : ℕ → ℕ → ℕ → ℕ → ℝ) (l : ℝ) (b h r : ℕ) (w : Fin 256 → ℝ) :
    ∑ j, w j * (ctxSoft X K b h 0 r j - l * ctxSoft X K b h 1 r j)
      = attn1 (fun j : Fin 256 => ctxScore X K 32 (b * 256 + r) (h * 64) j) w
        - l * attn1 (fun j : Fin 256 => ctxScore X K 32 (b * 256 + r) (h * 64 + 32) j) w := by
  rw [← weighted, ← weighted, Finset.mul_sum, ← Finset.sum_sub_distrib]
  refine Finset.sum_congr rfl fun j _ => ?_
  unfold ctxSoft
  simp only [zero_mul, add_zero, one_mul]
  ring

/-- One entry of the reference's differential attention: row `r` of request `b`, lane `d` of head `h`. -/
theorem diff_head (H : Args x k v X K W) (y : S4x32.Idx → EReal) (hl : ∀ j, val_main_v46 (F := Ideal) y j = (l : EReal))
    (b : Fin 32) (h : Fin 4) (d : Fin 64) (r : Fin 256) :
    val_main_v69 (F := Ideal) x k v y (ix4 b h d r)
      = ((ctxHead X K W 32 (b * 256 + r) (h * 64) (h * 64 + d) - l * ctxHead X K W 32 (b * 256 + r) (h * 64 + 32) (h * 64 + d) : ℝ) : EReal) := by
  have p : ∀ j : Fin 256, ridx_main_v69 (ix4 b h d r) j = ix4 b h r j := fun j => by
    funext a
    fin_cases a <;> rfl
  have e : ∀ j : Fin 256, val_main_v68 (F := Ideal) x k y (ix4 b h r j)
      = ((ctxSoft X K b h 0 r j - l * ctxSoft X K b h 1 r j : ℝ) : EReal) := fun j => by
    rw [val_main_v68_apply, val_main_v67_apply, val_main_v66_apply, first H, second H, hl, Ideal.mulf_def, Ideal.subf_def,
      EReal.coe_sub, EReal.coe_mul]
  rw [val_main_v69_apply]
  simp only [p, e, diff_values H, ← EReal.coe_mul, sum_coe]
  rw [collect]
  unfold ctxHead
  rw [request]
  rfl

/-- Request, head, lane and row of an entry of the result. -/
theorem diff_place (i : S8192x256.Idx) : idx_main_v70 (idx_main_v71 i)
    = ix4 ⟨(i 0).val / 256, by have := (i 0).isLt; change (i 0).val < 8192 at this; omega⟩
        ⟨(i 1).val / 64, by have := (i 1).isLt; change (i 1).val < 256 at this; omega⟩
        ⟨(i 1).val % 64, by omega⟩ ⟨(i 0).val % 256, by omega⟩ := place i

/-- One entry of the reference's differential attention, from real arguments. -/
theorem diff (H : Args x k v X K W) (y : S4x32.Idx → EReal) (hl : ∀ j, val_main_v46 (F := Ideal) y j = (l : EReal))
    (i : S8192x256.Idx) : val_main_v71 (F := Ideal) x k v y i = ((ctxDiff X K W l (i 0) (i 1) : ℝ) : EReal) := by
  rw [val_main_v71_apply, val_main_v70_apply, diff_place, diff_head H y hl]
  have b0 : (i 0).val / 256 * 256 + (i 0).val % 256 = (i 0).val := by omega
  have b1 : (i 1).val / 64 * 64 + (i 1).val % 64 = (i 1).val := by omega
  dsimp only
  rw [b0, b1]
  rfl

end Cert.Reference7Ideal.Attn
-- ==== Proof.CtxLambda.lean ====
/- The context's differential attention: the weight of the second softmax on both sides, and the two result arrays after the
   run. -/
module

public import proofs.«01_k».proof.Proof.CtxStored
public import proofs.«01_k».proof.Proof.CtxDiffReference
public import proofs.«01_k».proof.Proof.DfLambda

@[expose] public section

set_option maxRecDepth 16384

noncomputable section

open Idealize.ShloMosaic Idealize.ShloMosaic.TcCoe Idealize.SL.Sem
open Idealize.ShloMosaic.Pipeline (Dat)
open Cert.Softmax

namespace Cert.Kernel7Ideal.Attn
open Cert.Kernel7Ideal Cert.Kernel7Ideal.Gen

variable {m : (ℓ : Loc nD τ sig) → Buf (Elt Ideal) ℓ} {c : Dev nD} {X Y : ℕ → ℕ → ℝ} {KA VA KB VB : ℕ → ℕ → ℕ → ℕ → ℝ} {l : ℝ}

/-- The kernel's weight, at every grid point. -/
theorem lambda {L : ℕ → ℕ → ℝ} {r : ℝ} (hr : Ideal.ofBits .f32 1045220557#32 = (r : EReal))
    (hL : ∀ y, m ((c : Thread nD τ).loc main_arg6) y = ((L (y 0) (y 1) : ℝ) : EReal)) (t : Fin cfg0.N) :
    k0_pay3 (View.ld (iblk m c 6 t) r0_0) (ix2 0 0) = ((lam L r : ℝ) : EReal) := by
  have e : ∀ y, iblk m c 6 t y = ((L (y 0) (y 1) : ℝ) : EReal) := fun y => by
    rw [iblk]; simp only [V]
    blk_simp
    rw [hL]
    blk_simp [idx t]
  open_payloads
  pointwise [hr]
  simp only [e, ← EReal.coe_mul, sum_coe, exp_coe, ← EReal.coe_sub, ← EReal.coe_add]
  rfl

/-- The softmax attention's result array after the run. -/
theorem final7 (H : Args m c X Y KA VA KB VB) :
    (dats m 0 c).arrAt 7 (cfgs 0).N = fun i => ((ctxDense X KA VA (i 0) (i 1) : ℝ) : EReal) := by
  refine (dats m 0 c).arrAt_eq_of_covers 7 _ (by decide +kernel) fun t _ y => ?_
  obtain ⟨r, q, rfl⟩ : ∃ (r : Fin 256) (q : Fin 256), y = ix2 r q := ⟨y 0, y 1, eq_ix2 y⟩
  blk_simp
  rw [after0_7, dense_eq (reads_dense H t)]
  refine congrArg _ (congrArg₂ (ctxDense X KA VA) ?_ ?_)
  all_goals
    blk_simp [idx t]

/-- The differential attention's result array after the run. -/
theorem final8 (H : Args m c X Y KA VA KB VB) (hl : ∀ t, k0_pay3 (View.ld (iblk m c 6 t) r0_0) (ix2 0 0) = (l : EReal)) :
    (dats m 0 c).arrAt 8 (cfgs 0).N = fun i => ((ctxDiff Y KB VB l (i 0) (i 1) : ℝ) : EReal) := by
  refine (dats m 0 c).arrAt_eq_of_covers 8 _ (by decide +kernel) fun t _ y => ?_
  obtain ⟨r, q, rfl⟩ : ∃ (r : Fin 256) (q : Fin 256), y = ix2 r q := ⟨y 0, y 1, eq_ix2 y⟩
  blk_simp
  rw [after0_8, diff_eq (reads_diff H t) (hl t)]
  refine congrArg _ (congrArg₂ (ctxDiff Y KB VB l) ?_ ?_)
  all_goals
    blk_simp [idx t]

end Cert.Kernel7Ideal.Attn

namespace Cert.Reference7Ideal.Attn
open Cert.Reference7Ideal Cert.Reference7Ideal.Gen Cert.Reference7Ideal.Read

/-- The reference's weight. -/
theorem lambda {x : S4x32.Idx → EReal} {L : ℕ → ℕ → ℝ} {r : ℝ} (hr : Ideal.ofBits .f32 1045220557#32 = (r : EReal))
    (hL : ∀ y, x y = ((L (y 0) (y 1) : ℝ) : EReal)) (j : S_.Idx) :
    val_main_v46 (F := Ideal) x j = ((lam L r : ℝ) : EReal) := by
  have a : ∀ i, val_main_v35 (F := Ideal) x i = ((L 0 (i 0) * L 1 (i 0) : ℝ) : EReal) := fun i => by
    rw [val_main_v35_apply, val_main_v32_apply, val_main_v31_apply, val_main_v34_apply, val_main_v33_apply, hL, hL,
      Ideal.mulf_def, ← EReal.coe_mul]
    have h : (i 0).val % 32 = (i 0).val := Nat.mod_eq_of_lt (i 0).isLt
    exact congrArg _ (congrArg₂ _ (congrArg (L _) h) (congrArg (L _) h))
  have b : ∀ i, val_main_v42 (F := Ideal) x i = ((L 2 (i 0) * L 3 (i 0) : ℝ) : EReal) := fun i => by
    rw [val_main_v42_apply, val_main_v39_apply, val_main_v38_apply, val_main_v41_apply, val_main_v40_apply, hL, hL,
      Ideal.mulf_def, ← EReal.coe_mul]
    have h : (i 0).val % 32 = (i 0).val := Nat.mod_eq_of_lt (i 0).isLt
    exact congrArg _ (congrArg₂ _ (congrArg (L _) h) (congrArg (L _) h))
  pointwise [val_main_v46, val_main_v45, val_main_v44, val_main_v43, val_main_v37, val_main_v36, val_main_cst_3, val_main_cst_4,
    val_main_cst_5, a, b, hr]
  simp only [sum_coe, exp_coe, ← EReal.coe_sub, ← EReal.coe_add]
  rfl

end Cert.Reference7Ideal.Attn
-- ==== Proof.CtxClaim.lean ====
/- The context's two attentions: the algebraic claim, kernel against reference. -/
module

public import proofs.«01_k».proof.Defs
public import proofs.«01_k».proof.Proof.CtxPre
public import proofs.«01_k».proof.Proof.CtxLambda
public import proofs.«01_k».proof.Proof.Gen.Reference7Ideal.Run
public import Idealize.ShloMosaic.Lib.Claim

@[expose] public section

set_option maxRecDepth 16384

noncomputable section

open Idealize.ShloMosaic Idealize.ShloMosaic.TcCoe Idealize.SL.Sem
open Cert.Softmax

namespace Cert.Proof
open Cert.Kernel7Ideal in
/-- From real arguments, what the kernel's two result arrays hold after the run is what the reference computes. -/
theorem context_attention_values (m : (ℓ : Loc nD τ sig) → Buf (Elt Ideal) ℓ) (c : Dev nD)
    (h : Cert.Pre_Kernel7Ideal_finite7 (hPre_finite7 := Cert.Pre_finite7.Gen.facts) m) :
    (Gen.dats m 0 c).arrAt 7 (cfgs 0).N = Cert.Reference7Ideal.Read.val_main_v72 (F := Ideal)
        (m ((c : Thread nD τ).loc main_arg0)) (m ((c : Thread nD τ).loc main_arg2)) (m ((c : Thread nD τ).loc main_arg3))
    ∧ (Gen.dats m 0 c).arrAt 8 (cfgs 0).N = Cert.Reference7Ideal.Read.val_main_v71 (F := Ideal)
        (m ((c : Thread nD τ).loc main_arg1)) (m ((c : Thread nD τ).loc main_arg4)) (m ((c : Thread nD τ).loc main_arg5))
        (m ((c : Thread nD τ).loc main_arg6)) := by
  obtain ⟨h0, h1, h2, h3, h4, h5, h6⟩ := Cert.Pre_finite7.Attn.entries _ _ _ _ _ _ _ (h c)
  obtain ⟨X, hX⟩ := Cert.Pre_finite.Df.table2 (by norm_num) (by norm_num) _ h0
  obtain ⟨Y, hY⟩ := Cert.Pre_finite.Df.table2 (by norm_num) (by norm_num) _ h1
  obtain ⟨KA, hKA⟩ := Cert.Pre_finite7.Attn.table4 (by norm_num) (by norm_num) (by norm_num) (by norm_num) _ h2
  obtain ⟨VA, hVA⟩ := Cert.Pre_finite7.Attn.table4 (by norm_num) (by norm_num) (by norm_num) (by norm_num) _ h3
  obtain ⟨KB, hKB⟩ := Cert.Pre_finite7.Attn.table4 (by norm_num) (by norm_num) (by norm_num) (by norm_num) _ h4
  obtain ⟨VB, hVB⟩ := Cert.Pre_finite7.Attn.table4 (by norm_num) (by norm_num) (by norm_num) (by norm_num) _ h5
  obtain ⟨L, hL⟩ := Cert.Pre_finite.Df.table2 (by norm_num) (by norm_num) _ h6
  obtain ⟨r, hr⟩ := point2_real
  rw [Attn.final7 ⟨hX, hY, hKA, hVA, hKB, hVB⟩, Attn.final8 ⟨hX, hY, hKA, hVA, hKB, hVB⟩ (Attn.lambda hr hL)]
  exact ⟨funext fun i => (Cert.Reference7Ideal.Attn.dense ⟨hX, hKA, hVA⟩ i).symm,
    funext fun i => (Cert.Reference7Ideal.Attn.diff ⟨hY, hKB, hVB⟩ _ (Cert.Reference7Ideal.Attn.lambda hr hL) i).symm⟩

set_option maxHeartbeats 4000000 in
/-- From equal real arguments the idealized kernel and the idealized reference end with two equal results. -/
theorem context_attention_algebraic : Cert.algebraic_Kernel7Ideal_Reference7Ideal_pre_finite7
    (hKernel7Ideal := Cert.Kernel7Ideal.Gen.facts) (hReference7Ideal := Cert.Reference7Ideal.Gen.facts)
    (hPre_finite7 := Cert.Pre_finite7.Gen.facts) := by
  pair_intro
  · run_from Cert.Kernel7Ideal.Gen.run_main m g
  · hlo_run
    · exact (context_attention_values m c ‹_›).1.symm
    · exact (context_attention_values m c ‹_›).2.symm

end Cert.Proof
-- ==== Proof.ModulationClaim.lean ====
/- The modulation table: what the idealized kernel leaves in its result array is what the reference computes, and the claim. -/
module

public import proofs.«01_k».proof.Defs
public import proofs.«01_k».proof.Proof.Gen.Kernel8Ideal.Frame
public import proofs.«01_k».proof.Proof.Gen.Reference8Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel8Ideal.Modulation
open Cert.Kernel8Ideal Cert.Kernel8Ideal.Gen

variable (m : (ℓ : Loc nD τ sig) → Buf (Elt Ideal) ℓ) (c : Dev nD)

/-- Grid point `t` works on a quarter of a layer's columns: columns `1536 (t % 4)` and on of layer `t / 4`. -/
theorem idx : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] :=
  (by decide +kernel : ∀ t : Fin grid0.N, _)

/-- The bias as the call is given it, with an axis of size one between layer and column. -/
theorem bias (i : S2x1x6144.Idx) (j : S2x6144.Idx) (h0 : (j 0).val = (i 0).val) (h1 : (j 1).val = (i 2).val) :
    V m c main_v0 i = m ((c : Thread nD τ).loc main_arg2) j := by
  have e : V m c main_v0 = shapeCast S2x1x6144 (m ((c : Thread nD τ).loc main_arg2)) shapeCasts_S2x6144_S2x1x6144 := by
    unfold V hostOps0
    rw [StableHlo.after_cons, StableHlo.after_nil]
    exact StableHlo.reshape_result' (sig := sig) _ _ _ _ _
  have h : (i 1).val < 1 := (i 1).isLt
  rw [e]
  refine shapeCast_apply _ shapeCasts_S2x6144_S2x1x6144 i j ?_
  rw [Shape.rowMajor_val_two, Shape.rowMajor_val_three]
  change (j 0).val * 6144 + (j 1).val = ((i 0).val * 1 + (i 1).val) * 6144 + (i 2).val
  omega

open Cert.Reference8Ideal.Read in
/-- What one grid point computes is the reference's table at those columns. -/
theorem point (t : Fin cfg0.N) (y : S1x8x1536.Idx) :
    out0_3 (iblk m c 0 t) (iblk m c 1 t) (iblk m c 2 t) y
    = val_main_v5 (F := Ideal) (m ((c : Thread nD τ).loc main_arg0)) (m ((c : Thread nD τ).loc main_arg1))
        (m ((c : Thread nD τ).loc main_arg2)) (((cfg0.win 3).blk t).view.emb y) := by
  unfold out0_3
  canon_tiles x h
  all_goals
    open_payloads
    pointwise [val_main_v5, val_main_v4, val_main_v3, val_main_v2, val_main_v1, val_main_v0, val_main_call0_v5, val_main_call0_v4,
      val_main_call0_v3, val_main_call0_v2, val_main_call0_v1, val_main_call0_v0, val_main_call0_cst, val_main_call0_cst_0]
    simp only [Ideal.logistic]
    refine congrArg₂ (· + ·) (Finset.sum_congr rfl fun k _ => (mul_comm _ _).trans ?_) ?_
    · blk_point [iblk, V, idx t]
    · refine bias m c _ _ ?_ ?_ <;> blk_simp [idx t] <;> omega

/-- The result array after the run is what the reference computes from the same arguments. -/
theorem final3 : (dats m 0 c).arrAt 3 (cfgs 0).N
    = Cert.Reference8Ideal.Read.val_main_v5 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  exact point m c t y

end Cert.Kernel8Ideal.Modulation

namespace Cert.Proof

/-- From equal arguments the idealized kernel and the idealized reference end with equal modulation tables, whatever the
    arguments hold. -/
theorem modulation_algebraic : Cert.algebraic_Kernel8Ideal_Reference8Ideal (hKernel8Ideal := Cert.Kernel8Ideal.Gen.facts)
    (hReference8Ideal := Cert.Reference8Ideal.Gen.facts) := by
  pair_intro
  · run_from Cert.Kernel8Ideal.Gen.run_main m g
  · hlo_run
    exact (Cert.Kernel8Ideal.Modulation.final3 m c).symm

end Cert.Proof
-- ==== Proof.lean ====
/- The certificate's claim, assembled from the frames of the programs and the value claims of eight calls of the layer:
   the differential attention in the latent stream (Proof/Df*.lean, Proof/AttnReal.lean), the routed experts of both
   streams (Proof/Experts*.lean), the input projection of the context (Proof/Proj*.lean) and of the latent stream
   (Proof/LatentProj*.lean), the merge of the context (Proof/Merge*.lean) and of the latent stream (Proof/LatentClaim.lean,
   Proof/LatentReference.lean, Proof/LatentValue.lean), the two attentions of the context (Proof/Ctx*.lean), and the modulation
   table (Proof/ModulationClaim.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Pre_finite7
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.ExpertsClaim
public import proofs.«01_k».proof.Proof.DfClaim
public import proofs.«01_k».proof.Proof.ProjClaim
public import proofs.«01_k».proof.Proof.MergeClaim
public import proofs.«01_k».proof.Proof.LatentClaim
public import proofs.«01_k».proof.Proof.LatentProjClaim
public import proofs.«01_k».proof.Proof.CtxClaim
public import proofs.«01_k».proof.Proof.ModulationClaim
public import proofs.«01_k».proof.Proof.Gen.Pre_finite
public import Idealize.ShloMosaic.Lib.Claim
public import Idealize.ShloMosaic.Adequacy
public import Idealize.ShloMosaic.Init

@[expose] public section

noncomputable section

namespace Cert.Proof

open Idealize.ShloMosaic Idealize.SL.Sem Cert.Kernel

set_option maxHeartbeats 4000000 in
/-- The certificate's claim, assembled. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.Pre_finite.Gen.facts, Cert.Pre_finite7.Gen.facts,
  fun m ρ _ => Cert.Kernel.Gen.frame m ρ,
  fun m ρ _ => Cert.KernelIdeal.Gen.frame m ρ,
  fun m ρ _ => Cert.KernelIdeal.Gen.frame m ρ,
  fun m ρ _ => (θ_run _ _ _).mono (fun r h => ⟨h, sem_eq_zero_of_no_sems (by decide) r.2⟩) (by hlo_run),
  fun m ρ _ => (θ_run _ _ _).mono (fun r h => ⟨h, sem_eq_zero_of_no_sems (by decide) r.2⟩) (by hlo_run),
  fun m ρ _ => Cert.Kernel2.Gen.frame m ρ,
  fun m ρ _ => Cert.Kernel2Ideal.Gen.frame m ρ,
  fun m ρ _ => (θ_run _ _ _).mono (fun r h => ⟨h, sem_eq_zero_of_no_sems (by decide) r.2⟩) (by hlo_run),
  fun m ρ _ => Cert.Kernel3.Gen.frame m ρ,
  fun m ρ _ => Cert.Kernel3Ideal.Gen.frame m ρ,
  fun m ρ _ => (θ_run _ _ _).mono (fun r h => ⟨h, sem_eq_zero_of_no_sems (by decide) r.2⟩) (by hlo_run),
  fun m ρ _ => Cert.Kernel4.Gen.frame m ρ,
  fun m ρ _ => Cert.Kernel4Ideal.Gen.frame m ρ,
  fun m ρ _ => (θ_run _ _ _).mono (fun r h => ⟨h, sem_eq_zero_of_no_sems (by decide) r.2⟩) (by hlo_run),
  fun m ρ _ => Cert.Kernel5.Gen.frame m ρ,
  fun m ρ _ => Cert.Kernel5Ideal.Gen.frame m ρ,
  fun m ρ _ => (θ_run _ _ _).mono (fun r h => ⟨h, sem_eq_zero_of_no_sems (by decide) r.2⟩) (by hlo_run),
  fun m ρ _ => Cert.Kernel6.Gen.frame m ρ,
  fun m ρ _ => Cert.Kernel6Ideal.Gen.frame m ρ,
  fun m ρ _ => (θ_run _ _ _).mono (fun r h => ⟨h, sem_eq_zero_of_no_sems (by decide) r.2⟩) (by hlo_run),
  fun m ρ _ => Cert.Kernel7.Gen.frame m ρ,
  fun m ρ _ => Cert.Kernel7Ideal.Gen.frame m ρ,
  fun m ρ _ => Cert.Kernel7Ideal.Gen.frame m ρ,
  fun m ρ _ => (θ_run _ _ _).mono (fun r h => ⟨h, sem_eq_zero_of_no_sems (by decide) r.2⟩) (by hlo_run),
  fun m ρ _ => (θ_run _ _ _).mono (fun r h => ⟨h, sem_eq_zero_of_no_sems (by decide) r.2⟩) (by hlo_run),
  fun m ρ _ => Cert.Kernel8.Gen.frame m ρ,
  fun m ρ _ => Cert.Kernel8Ideal.Gen.frame m ρ,
  fun m ρ _ => (θ_run _ _ _).mono (fun r h => ⟨h, sem_eq_zero_of_no_sems (by decide) r.2⟩) (by hlo_run),
  IdealRules.named_const.statement Cert.KernelIdeal.κ "qs" .f32 0x3E8293EE#32 _ rfl,
  df_algebraic,
  trivial,
  experts_algebraic,
  trivial,
  projection_algebraic,
  trivial,
  merge_algebraic,
  trivial,
  latent_merge_algebraic,
  trivial,
  latent_projection_algebraic,
  ⟨IdealRules.named_const.statement Cert.Kernel7Ideal.κ "na_qs" .f32 0x3E38AA3B#32 _ rfl,
    IdealRules.named_const.statement Cert.Kernel7Ideal.κ "df_qs" .f32 0x3E8293EE#32 _ rfl⟩,
  context_attention_algebraic,
  trivial,
  modulation_algebraic⟩

end Cert.Proof

end
